-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Memory (m : (ℓ : Loc Cert.Memory.nD Cert.Memory.τ Cert.Memory.sig) → Buf (Elt Bits) ℓ) : Prop :=
  True

def Pre_MemoryIdeal (m : (ℓ : Loc Cert.MemoryIdeal.nD Cert.MemoryIdeal.τ Cert.MemoryIdeal.sig) → Buf (Elt Ideal) ℓ) : Prop :=
  True

def Pre_MemoryReferenceIdeal (m : (ℓ : Loc Cert.MemoryReferenceIdeal.nD Cert.MemoryReferenceIdeal.τ Cert.MemoryReferenceIdeal.sig) → Buf (Elt Ideal) ℓ) : Prop :=
  True

def Pre_Retention (m : (ℓ : Loc Cert.Retention.nD Cert.Retention.τ Cert.Retention.sig) → Buf (Elt Bits) ℓ) : Prop :=
  True

def Pre_RetentionIdeal (m : (ℓ : Loc Cert.RetentionIdeal.nD Cert.RetentionIdeal.τ Cert.RetentionIdeal.sig) → Buf (Elt Ideal) ℓ) : Prop :=
  True

def Pre_RetentionReferenceIdeal (m : (ℓ : Loc Cert.RetentionReferenceIdeal.nD Cert.RetentionReferenceIdeal.τ Cert.RetentionReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_Memory [hMemory : Cert.Memory.Facts] : Prop :=
  ∀ (m : (ℓ : Loc Cert.Memory.nD Cert.Memory.τ Cert.Memory.sig) → Buf (Elt Bits) ℓ) (g : Dev Cert.Memory.nD → PrngReg), Pre_Memory m →
    θ_run (Cert.Memory.defs (F := Bits)) (onTc (τ := Cert.Memory.τ) (Cert.Memory.main (F := Bits))) ⟨m, fun _ => 0, g⟩ (fun r => (∀ c : Dev Cert.Memory.nD,
      r.2.mem ((c.tc : Thread Cert.Memory.nD Cert.Memory.τ).loc Cert.Memory.main_arg0) = m ((c.tc : Thread Cert.Memory.nD Cert.Memory.τ).loc Cert.Memory.main_arg0)
      ∧ r.2.mem ((c.tc : Thread Cert.Memory.nD Cert.Memory.τ).loc Cert.Memory.main_arg1) = m ((c.tc : Thread Cert.Memory.nD Cert.Memory.τ).loc Cert.Memory.main_arg1))
      ∧ r.2.sem = fun _ => 0)

def quiescent_MemoryIdeal [hMemoryIdeal : Cert.MemoryIdeal.Facts] : Prop :=
  ∀ (m : (ℓ : Loc Cert.MemoryIdeal.nD Cert.MemoryIdeal.τ Cert.MemoryIdeal.sig) → Buf (Elt Ideal) ℓ) (g : Dev Cert.MemoryIdeal.nD → PrngReg), Pre_MemoryIdeal m →
    θ_run (Cert.MemoryIdeal.defs (F := Ideal)) (onTc (τ := Cert.MemoryIdeal.τ) (Cert.MemoryIdeal.main (F := Ideal))) ⟨m, fun _ => 0, g⟩ (fun r => (∀ c : Dev Cert.MemoryIdeal.nD,
      r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ r.2.sem = fun _ => 0)

def quiescent_MemoryReferenceIdeal [hMemoryReferenceIdeal : Cert.MemoryReferenceIdeal.Facts] : Prop :=
  ∀ (m : (ℓ : Loc Cert.MemoryReferenceIdeal.nD Cert.MemoryReferenceIdeal.τ Cert.MemoryReferenceIdeal.sig) → Buf (Elt Ideal) ℓ) (g : Dev Cert.MemoryReferenceIdeal.nD → PrngReg), Pre_MemoryReferenceIdeal m →
    θ_run (Cert.MemoryReferenceIdeal.defs (F := Ideal)) (onTc (τ := Cert.MemoryReferenceIdeal.τ) (Cert.MemoryReferenceIdeal.main (F := Ideal))) ⟨m, fun _ => 0, g⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1))
      ∧ r.2.sem = fun _ => 0)

def quiescent_Retention [hRetention : Cert.Retention.Facts] : Prop :=
  ∀ (m : (ℓ : Loc Cert.Retention.nD Cert.Retention.τ Cert.Retention.sig) → Buf (Elt Bits) ℓ) (g : Dev Cert.Retention.nD → PrngReg), Pre_Retention m →
    θ_run (Cert.Retention.defs (F := Bits)) (onTc (τ := Cert.Retention.τ) (Cert.Retention.main (F := Bits))) ⟨m, fun _ => 0, g⟩ (fun r => (∀ c : Dev Cert.Retention.nD,
      r.2.mem ((c.tc : Thread Cert.Retention.nD Cert.Retention.τ).loc Cert.Retention.main_arg0) = m ((c.tc : Thread Cert.Retention.nD Cert.Retention.τ).loc Cert.Retention.main_arg0))
      ∧ r.2.sem = fun _ => 0)

def quiescent_RetentionIdeal [hRetentionIdeal : Cert.RetentionIdeal.Facts] : Prop :=
  ∀ (m : (ℓ : Loc Cert.RetentionIdeal.nD Cert.RetentionIdeal.τ Cert.RetentionIdeal.sig) → Buf (Elt Ideal) ℓ) (g : Dev Cert.RetentionIdeal.nD → PrngReg), Pre_RetentionIdeal m →
    θ_run (Cert.RetentionIdeal.defs (F := Ideal)) (onTc (τ := Cert.RetentionIdeal.τ) (Cert.RetentionIdeal.main (F := Ideal))) ⟨m, fun _ => 0, g⟩ (fun r => (∀ c : Dev Cert.RetentionIdeal.nD,
      r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ r.2.sem = fun _ => 0)

def quiescent_RetentionReferenceIdeal [hRetentionReferenceIdeal : Cert.RetentionReferenceIdeal.Facts] : Prop :=
  ∀ (m : (ℓ : Loc Cert.RetentionReferenceIdeal.nD Cert.RetentionReferenceIdeal.τ Cert.RetentionReferenceIdeal.sig) → Buf (Elt Ideal) ℓ) (g : Dev Cert.RetentionReferenceIdeal.nD → PrngReg), Pre_RetentionReferenceIdeal m →
    θ_run (Cert.RetentionReferenceIdeal.defs (F := Ideal)) (onTc (τ := Cert.RetentionReferenceIdeal.τ) (Cert.RetentionReferenceIdeal.main (F := Ideal))) ⟨m, fun _ => 0, g⟩ (fun r => (∀ c : Dev Cert.RetentionReferenceIdeal.nD,
      r.2.mem ((c.tc : Thread Cert.RetentionReferenceIdeal.nD Cert.RetentionReferenceIdeal.τ).loc Cert.RetentionReferenceIdeal.main_arg0) = m ((c.tc : Thread Cert.RetentionReferenceIdeal.nD Cert.RetentionReferenceIdeal.τ).loc Cert.RetentionReferenceIdeal.main_arg0))
      ∧ r.2.sem = fun _ => 0)

def preserves_Kernel_KernelIdeal : Prop :=
  IdealRules.named_const.Statement Cert.KernelIdeal.κ "scale" .f32 0x3DB8AA3B#32 (((Real.log 65536)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v97) = v1 c
          ∧ r.2.mem ((c.tc : Thread Cert.ReferenceIdeal.nD Cert.ReferenceIdeal.τ).loc Cert.ReferenceIdeal.main_v98) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v8_0)) (v1 : (c : Dev Cert.ProjectIdeal.nD) → Buf (Elt Ideal) ((c.tc : Thread Cert.ProjectIdeal.nD Cert.ProjectIdeal.τ).loc Cert.ProjectIdeal.main_v8_1)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v8_0) = v0 c
          ∧ r.2.mem ((c.tc : Thread Cert.ProjectIdeal.nD Cert.ProjectIdeal.τ).loc Cert.ProjectIdeal.main_v8_1) = v1 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v8) = v0 c
          ∧ r.2.mem ((c.tc : Thread Cert.ProjectReferenceIdeal.nD Cert.ProjectReferenceIdeal.τ).loc Cert.ProjectReferenceIdeal.main_v11) = v1 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_Memory_MemoryIdeal : Prop :=
  True

def algebraic_MemoryIdeal_MemoryReferenceIdeal [hMemoryIdeal : Cert.MemoryIdeal.Facts] [hMemoryReferenceIdeal : Cert.MemoryReferenceIdeal.Facts] : Prop :=
  ∀ (m : (ℓ : Loc Cert.MemoryIdeal.nD Cert.MemoryIdeal.τ Cert.MemoryIdeal.sig) → Buf (Elt Ideal) ℓ) (g : Dev Cert.MemoryIdeal.nD → PrngReg)
    (m' : (ℓ : Loc Cert.MemoryReferenceIdeal.nD Cert.MemoryReferenceIdeal.τ Cert.MemoryReferenceIdeal.sig) → Buf (Elt Ideal) ℓ) (g' : Dev Cert.MemoryReferenceIdeal.nD → PrngReg), Pre_MemoryIdeal m →
    (∀ c : Dev Cert.MemoryIdeal.nD,
      m' ((c.tc : Thread Cert.MemoryReferenceIdeal.nD Cert.MemoryReferenceIdeal.τ).loc Cert.MemoryReferenceIdeal.main_arg0) = m ((c.tc : Thread Cert.MemoryIdeal.nD Cert.MemoryIdeal.τ).loc Cert.MemoryIdeal.main_arg0)
      ∧ m' ((c.tc : Thread Cert.MemoryReferenceIdeal.nD Cert.MemoryReferenceIdeal.τ).loc Cert.MemoryReferenceIdeal.main_arg1) = m ((c.tc : Thread Cert.MemoryIdeal.nD Cert.MemoryIdeal.τ).loc Cert.MemoryIdeal.main_arg1)) →
    ∃ (v0 : (c : Dev Cert.MemoryIdeal.nD) → Buf (Elt Ideal) ((c.tc : Thread Cert.MemoryIdeal.nD Cert.MemoryIdeal.τ).loc Cert.MemoryIdeal.main_v2)),
      θ_run (Cert.MemoryIdeal.defs (F := Ideal)) (onTc (τ := Cert.MemoryIdeal.τ) (Cert.MemoryIdeal.main (F := Ideal))) ⟨m, fun _ => 0, g⟩ (fun r => ∀ c : Dev Cert.MemoryIdeal.nD,
          r.2.mem ((c.tc : Thread Cert.MemoryIdeal.nD Cert.MemoryIdeal.τ).loc Cert.MemoryIdeal.main_v2) = v0 c
          ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
          ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1))
      ∧ θ_run (Cert.MemoryReferenceIdeal.defs (F := Ideal)) (onTc (τ := Cert.MemoryReferenceIdeal.τ) (Cert.MemoryReferenceIdeal.main (F := Ideal))) ⟨m', fun _ => 0, g'⟩ (fun r => ∀ c : Dev Cert.MemoryReferenceIdeal.nD,
          r.2.mem ((c.tc : Thread Cert.MemoryReferenceIdeal.nD Cert.MemoryReferenceIdeal.τ).loc Cert.MemoryReferenceIdeal.main_v3) = v0 c
          ∧ r.2.mem ((c.tc : Thread Cert.MemoryReferenceIdeal.nD Cert.MemoryReferenceIdeal.τ).loc Cert.MemoryReferenceIdeal.main_arg0) = m' ((c.tc : Thread Cert.MemoryReferenceIdeal.nD Cert.MemoryReferenceIdeal.τ).loc Cert.MemoryReferenceIdeal.main_arg0)
          ∧ r.2.mem ((c.tc : Thread Cert.MemoryReferenceIdeal.nD Cert.MemoryReferenceIdeal.τ).loc Cert.MemoryReferenceIdeal.main_arg1) = m' ((c.tc : Thread Cert.MemoryReferenceIdeal.nD Cert.MemoryReferenceIdeal.τ).loc Cert.MemoryReferenceIdeal.main_arg1))

def preserves_Retention_RetentionIdeal : Prop :=
  True

def algebraic_RetentionIdeal_RetentionReferenceIdeal [hRetentionIdeal : Cert.RetentionIdeal.Facts] [hRetentionReferenceIdeal : Cert.RetentionReferenceIdeal.Facts] : Prop :=
  ∀ (m : (ℓ : Loc Cert.RetentionIdeal.nD Cert.RetentionIdeal.τ Cert.RetentionIdeal.sig) → Buf (Elt Ideal) ℓ) (g : Dev Cert.RetentionIdeal.nD → PrngReg)
    (m' : (ℓ : Loc Cert.RetentionReferenceIdeal.nD Cert.RetentionReferenceIdeal.τ Cert.RetentionReferenceIdeal.sig) → Buf (Elt Ideal) ℓ) (g' : Dev Cert.RetentionReferenceIdeal.nD → PrngReg), Pre_RetentionIdeal m →
    (∀ c : Dev Cert.RetentionIdeal.nD,
      m' ((c.tc : Thread Cert.RetentionReferenceIdeal.nD Cert.RetentionReferenceIdeal.τ).loc Cert.RetentionReferenceIdeal.main_arg0) = m ((c.tc : Thread Cert.RetentionIdeal.nD Cert.RetentionIdeal.τ).loc Cert.RetentionIdeal.main_arg0)) →
    ∃ (v0 : (c : Dev Cert.RetentionIdeal.nD) → Buf (Elt Ideal) ((c.tc : Thread Cert.RetentionIdeal.nD Cert.RetentionIdeal.τ).loc Cert.RetentionIdeal.main_v73)),
      θ_run (Cert.RetentionIdeal.defs (F := Ideal)) (onTc (τ := Cert.RetentionIdeal.τ) (Cert.RetentionIdeal.main (F := Ideal))) ⟨m, fun _ => 0, g⟩ (fun r => ∀ c : Dev Cert.RetentionIdeal.nD,
          r.2.mem ((c.tc : Thread Cert.RetentionIdeal.nD Cert.RetentionIdeal.τ).loc Cert.RetentionIdeal.main_v73) = v0 c
          ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0))
      ∧ θ_run (Cert.RetentionReferenceIdeal.defs (F := Ideal)) (onTc (τ := Cert.RetentionReferenceIdeal.τ) (Cert.RetentionReferenceIdeal.main (F := Ideal))) ⟨m', fun _ => 0, g'⟩ (fun r => ∀ c : Dev Cert.RetentionReferenceIdeal.nD,
          r.2.mem ((c.tc : Thread Cert.RetentionReferenceIdeal.nD Cert.RetentionReferenceIdeal.τ).loc Cert.RetentionReferenceIdeal.main_v162) = v0 c
          ∧ r.2.mem ((c.tc : Thread Cert.RetentionReferenceIdeal.nD Cert.RetentionReferenceIdeal.τ).loc Cert.RetentionReferenceIdeal.main_arg0) = m' ((c.tc : Thread Cert.RetentionReferenceIdeal.nD Cert.RetentionReferenceIdeal.τ).loc Cert.RetentionReferenceIdeal.main_arg0))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts) (hMemory : Cert.Memory.Facts) (hMemoryIdeal : Cert.MemoryIdeal.Facts) (hMemoryReferenceIdeal : Cert.MemoryReferenceIdeal.Facts) (hRetention : Cert.Retention.Facts) (hRetentionIdeal : Cert.RetentionIdeal.Facts) (hRetentionReferenceIdeal : Cert.RetentionReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Memory (hMemory := hMemory)
    ∧ quiescent_MemoryIdeal (hMemoryIdeal := hMemoryIdeal)
    ∧ quiescent_MemoryReferenceIdeal (hMemoryReferenceIdeal := hMemoryReferenceIdeal)
    ∧ quiescent_Retention (hRetention := hRetention)
    ∧ quiescent_RetentionIdeal (hRetentionIdeal := hRetentionIdeal)
    ∧ quiescent_RetentionReferenceIdeal (hRetentionReferenceIdeal := hRetentionReferenceIdeal)
    ∧ preserves_Kernel_KernelIdeal
    ∧ algebraic_KernelIdeal_ReferenceIdeal (hKernelIdeal := hKernelIdeal) (hReferenceIdeal := hReferenceIdeal)
    ∧ preserves_Project_ProjectIdeal
    ∧ algebraic_ProjectIdeal_ProjectReferenceIdeal (hProjectIdeal := hProjectIdeal) (hProjectReferenceIdeal := hProjectReferenceIdeal)
    ∧ preserves_Memory_MemoryIdeal
    ∧ algebraic_MemoryIdeal_MemoryReferenceIdeal (hMemoryIdeal := hMemoryIdeal) (hMemoryReferenceIdeal := hMemoryReferenceIdeal)
    ∧ preserves_Retention_RetentionIdeal
    ∧ algebraic_RetentionIdeal_RetentionReferenceIdeal (hRetentionIdeal := hRetentionIdeal) (hRetentionReferenceIdeal := hRetentionReferenceIdeal)
-- ==== Kernel.lean ====
abbrev S2x8192x1024 : Shape := ⟨3, ![2, 8192, 1024]⟩
abbrev S2x8192x512 : Shape := ⟨3, ![2, 8192, 512]⟩
abbrev S1x1024x1024 : Shape := ⟨3, ![1, 1024, 1024]⟩
abbrev S1x1024 : Shape := ⟨2, ![1, 1024]⟩
abbrev S2x256x2048 : Shape := ⟨3, ![2, 256, 2048]⟩
abbrev S1x1024x4 : Shape := ⟨3, ![1, 1024, 4]⟩
abbrev S1x1024x32 : Shape := ⟨3, ![1, 1024, 32]⟩
abbrev S16384x1024 : Shape := ⟨2, ![16384, 1024]⟩
abbrev S16384x512 : Shape := ⟨2, ![16384, 512]⟩
abbrev S1024x4 : Shape := ⟨2, ![1024, 4]⟩
abbrev S1024x32 : Shape := ⟨2, ![1024, 32]⟩
abbrev S1024x36 : Shape := ⟨2, ![1024, 36]⟩
abbrev S36x1024 : Shape := ⟨2, ![36, 1024]⟩
abbrev S_ : Shape := ⟨0, ![]⟩
abbrev S40x1024 : Shape := ⟨2, ![40, 1024]⟩
abbrev S1024x1024 : Shape := ⟨2, ![1024, 1024]⟩
abbrev S1024 : Shape := ⟨1, ![1024]⟩
abbrev S131072x128 : Shape := ⟨2, ![131072, 128]⟩
abbrev S40x16384 : Shape := ⟨2, ![40, 16384]⟩
abbrev S1024x512 : Shape := ⟨2, ![1024, 512]⟩
abbrev S1x256x1024 : Shape := ⟨3, ![1, 256, 1024]⟩
abbrev S8192x128 : Shape := ⟨2, ![8192, 128]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S1x256x256 : Shape := ⟨3, ![1, 256, 256]⟩
abbrev S256x256 : Shape := ⟨2, ![256, 256]⟩
abbrev S512x128 : Shape := ⟨2, ![512, 128]⟩
abbrev S40x512 : Shape := ⟨2, ![40, 512]⟩

abbrev nBuf : Space → Nat
  | .hbm => 41
  | .vmem => 27
  | .smem => 0
  | _ => 0

abbrev bufTy : (tb : Table) → Fin (tcTables nBuf tb) → BufTy
  | .hbm, ⟨0, _⟩ => ⟨S2x8192x1024, .f32⟩
  | .hbm, ⟨1, _⟩ => ⟨S2x8192x512, .bf16⟩
  | .hbm, ⟨2, _⟩ => ⟨S2x8192x512, .bf16⟩
  | .hbm, ⟨3, _⟩ => ⟨S1x1024x1024, .f32⟩
  | .hbm, ⟨4, _⟩ => ⟨S1x1024, .f32⟩
  | .hbm, ⟨5, _⟩ => ⟨S1x1024, .f32⟩
  | .hbm, ⟨6, _⟩ => ⟨S2x256x2048, .bf16⟩
  | .hbm, ⟨7, _⟩ => ⟨S1x1024x1024, .f32⟩
  | .hbm, ⟨8, _⟩ => ⟨S1x1024x1024, .f32⟩
  | .hbm, ⟨9, _⟩ => ⟨S1x1024, .f32⟩
  | .hbm, ⟨10, _⟩ => ⟨S1x1024, .f32⟩
  | .hbm, ⟨11, _⟩ => ⟨S1x1024x4, .f32⟩
  | .hbm, ⟨12, _⟩ => ⟨S1x1024x32, .f32⟩
  | .hbm, ⟨13, _⟩ => ⟨S16384x1024, .f32⟩
  | .hbm, ⟨14, _⟩ => ⟨S16384x512, .bf16⟩
  | .hbm, ⟨15, _⟩ => ⟨S16384x512, .bf16⟩
  | .hbm, ⟨16, _⟩ => ⟨S1024x4, .f32⟩
  | .hbm, ⟨17, _⟩ => ⟨S1024x32, .f32⟩
  | .hbm, ⟨18, _⟩ => ⟨S1024x36, .f32⟩
  | .hbm, ⟨19, _⟩ => ⟨S36x1024, .f32⟩
  | .hbm, ⟨20, _⟩ => ⟨S_, .i32⟩
  | .hbm, ⟨21, _⟩ => ⟨S_, .f32⟩
  | .hbm, ⟨22, _⟩ => ⟨S40x1024, .f32⟩
  | .hbm, ⟨23, _⟩ => ⟨S40x1024, .bf16⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S1024, .f32⟩
  | .hbm, ⟨29, _⟩ => ⟨S1x1024, .f32⟩
  | .hbm, ⟨30, _⟩ => ⟨S1024x1024, .f32⟩
  | .hbm, ⟨31, _⟩ => ⟨S1024x1024, .bf16⟩
  | .hbm, ⟨32, _⟩ => ⟨S1024x1024, .f32⟩
  | .hbm, ⟨33, _⟩ => ⟨S1024x1024, .bf16⟩
  | .hbm, ⟨34, _⟩ => ⟨S1024, .f32⟩
  | .hbm, ⟨35, _⟩ => ⟨S1x1024, .f32⟩
  | .hbm, ⟨36, _⟩ => ⟨S1024, .f32⟩
  | .hbm, ⟨37, _⟩ => ⟨S1x1024, .f32⟩
  | .hbm, ⟨38, _⟩ => ⟨S16384x1024, .f32⟩
  | .hbm, ⟨39, _⟩ => ⟨S131072x128, .f32⟩
  | .hbm, ⟨40, _⟩ => ⟨S40x16384, .f32⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1024, .f32⟩
  | .local _ .vmem, ⟨16, _⟩ => ⟨S1x1024, .f32⟩
  | .local _ .vmem, ⟨17, _⟩ => ⟨S40x1024, .bf16⟩
  | .local _ .vmem, ⟨18, _⟩ => ⟨S1024x1024, .f32⟩
  | .local _ .vmem, ⟨19, _⟩ => ⟨S1024x1024, .f32⟩
  | .local _ .vmem, ⟨20, _⟩ => ⟨S8192x128, .f32⟩
  | .local _ .vmem, ⟨21, _⟩ => ⟨S8192x128, .f32⟩
  | .local _ .vmem, ⟨22, _⟩ => ⟨S40x1024, .f32⟩
  | .local _ .vmem, ⟨23, _⟩ => ⟨S40x1024, .f32⟩
  | .local _ .vmem, ⟨24, _⟩ => ⟨S1024x1024, .f32⟩
  | .local _ .vmem, ⟨25, _⟩ => ⟨S1024x1024, .bf16⟩
  | .local _ .vmem, ⟨26, _⟩ => ⟨S1024x1024, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_c : Ref sig .tc := ⟨.hbm, 20, rfl⟩
abbrev main_call0_v0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23_0 : Ref sig .tc := ⟨.hbm, 38, rfl⟩
abbrev main_v23_1 : Ref sig .tc := ⟨.hbm, 39, rfl⟩
abbrev main_v23_2 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_7 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S40x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S8192x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S40x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== KernelIdeal.lean ====
variable {F : FTy → Type} [FloatOps F] [Named F]
def κ : String → Option EReal := fun
  | "scale" => some (((Real.log 65536)⁻¹ : ℝ) : EReal)
  | _ => none
-- ==== ReferenceIdeal.lean ====
abbrev S2x8192x1024 : Shape := ⟨3, ![2, 8192, 1024]⟩
abbrev S2x8192x512 : Shape := ⟨3, ![2, 8192, 512]⟩
abbrev S1x1024x1024 : Shape := ⟨3, ![1, 1024, 1024]⟩
abbrev S1x1024 : Shape := ⟨2, ![1, 1024]⟩
abbrev S2x256x2048 : Shape := ⟨3, ![2, 256, 2048]⟩
abbrev S1x1024x4 : Shape := ⟨3, ![1, 1024, 4]⟩
abbrev S1x1024x32 : Shape := ⟨3, ![1, 1024, 32]⟩
abbrev S_ : Shape := ⟨0, ![]⟩
abbrev S1024x1024 : Shape := ⟨2, ![1024, 1024]⟩
abbrev S1024 : Shape := ⟨1, ![1024]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4x256 : Shape := ⟨4, ![2, 8192, 4, 256]⟩
abbrev S2x256x1024 : Shape := ⟨3, ![2, 256, 1024]⟩
abbrev S2x256x4x256 : Shape := ⟨4, ![2, 256, 4, 256]⟩
abbrev S2x4x8192x256 : Shape := ⟨4, ![2, 4, 8192, 256]⟩
abbrev S2x4x8192 : Shape := ⟨3, ![2, 4, 8192]⟩
abbrev S2x4x8192x1 : Shape := ⟨4, ![2, 4, 8192, 1]⟩
abbrev S2x4x256x8192 : Shape := ⟨4, ![2, 4, 256, 8192]⟩
abbrev S16384x1024 : Shape := ⟨2, ![16384, 1024]⟩
abbrev S1024x4 : Shape := ⟨2, ![1024, 4]⟩
abbrev S16384x4 : Shape := ⟨2, ![16384, 4]⟩
abbrev S1024x32 : Shape := ⟨2, ![1024, 32]⟩
abbrev S16384x32 : Shape := ⟨2, ![16384, 32]⟩
abbrev S16384x36 : Shape := ⟨2, ![16384, 36]⟩
abbrev S36x16384 : Shape := ⟨2, ![36, 16384]⟩
abbrev S131072x128 : Shape := ⟨2, ![131072, 128]⟩
abbrev S40x16384 : Shape := ⟨2, ![40, 16384]⟩

abbrev nBuf : Space → Nat
  | .hbm => 130
  | .vmem => 0
  | .smem => 0
  | _ => 0

abbrev hbmTy0_0 (i : Nat) : BufTy := match i % 128 with
  | 0 => ⟨S2x8192x1024, .f32⟩
  | 1 => ⟨S2x8192x512, .bf16⟩
  | 2 => ⟨S2x8192x512, .bf16⟩
  | 3 => ⟨S1x1024x1024, .f32⟩
  | 4 => ⟨S1x1024, .f32⟩
  | 5 => ⟨S1x1024, .f32⟩
  | 6 => ⟨S2x256x2048, .bf16⟩
  | 7 => ⟨S1x1024x1024, .f32⟩
  | 8 => ⟨S1x1024x1024, .f32⟩
  | 9 => ⟨S1x1024, .f32⟩
  | 10 => ⟨S1x1024, .f32⟩
  | 11 => ⟨S1x1024x4, .f32⟩
  | 12 => ⟨S1x1024x32, .f32⟩
  | 13 => ⟨S2x8192x512, .f32⟩
  | 14 => ⟨S2x8192x512, .f32⟩
  | 15 => ⟨S2x8192x1024, .f32⟩
  | 16 => ⟨S_, .f32⟩
  | 17 => ⟨S2x8192x1024, .f32⟩
  | 18 => ⟨S2x8192x1024, .f32⟩
  | 19 => ⟨S1024x1024, .f32⟩
  | 20 => ⟨S2x8192x1024, .f32⟩
  | 21 => ⟨S2x8192x1024, .f32⟩
  | 22 => ⟨S1024, .f32⟩
  | 23 => ⟨S1024, .f32⟩
  | 24 => ⟨S_, .f32⟩
  | 25 => ⟨S2x8192, .f32⟩
  | 26 => ⟨S2x8192x1, .f32⟩
  | 27 => ⟨S_, .f32⟩
  | 28 => ⟨S2x8192x1, .f32⟩
  | 29 => ⟨S2x8192x1, .f32⟩
  | 30 => ⟨S2x8192x1024, .f32⟩
  | 31 => ⟨S2x8192x1024, .f32⟩
  | 32 => ⟨S2x8192x1024, .f32⟩
  | 33 => ⟨S_, .f32⟩
  | 34 => ⟨S2x8192, .f32⟩
  | 35 => ⟨S2x8192x1, .f32⟩
  | 36 => ⟨S_, .f32⟩
  | 37 => ⟨S2x8192x1, .f32⟩
  | 38 => ⟨S2x8192x1, .f32⟩
  | 39 => ⟨S2x8192x1024, .f32⟩
  | 40 => ⟨S2x8192x1024, .f32⟩
  | 41 => ⟨S_, .f32⟩
  | 42 => ⟨S2x8192x1, .f32⟩
  | 43 => ⟨S2x8192x1, .f32⟩
  | 44 => ⟨S2x8192x1, .f32⟩
  | 45 => ⟨S2x8192x1024, .f32⟩
  | 46 => ⟨S2x8192x1024, .f32⟩
  | 47 => ⟨S1x1x1024, .f32⟩
  | 48 => ⟨S2x8192x1024, .f32⟩
  | 49 => ⟨S2x8192x1024, .f32⟩
  | 50 => ⟨S1x1x1024, .f32⟩
  | 51 => ⟨S2x8192x1024, .f32⟩
  | 52 => ⟨S2x8192x1024, .f32⟩
  | 53 => ⟨S2x256x2048, .f32⟩
  | 54 => ⟨S1024x1024, .f32⟩
  | 55 => ⟨S2x8192x1024, .f32⟩
  | 56 => ⟨S2x8192x4x256, .f32⟩
  | 57 => ⟨S2x256x1024, .f32⟩
  | 58 => ⟨S2x256x4x256, .f32⟩
  | 59 => ⟨S2x256x1024, .f32⟩
  | 60 => ⟨S2x256x4x256, .f32⟩
  | 61 => ⟨S2x4x8192x256, .f32⟩
  | 62 => ⟨S_, .f32⟩
  | 63 => ⟨S2x4x8192x256, .f32⟩
  | 64 => ⟨S2x4x8192x256, .f32⟩
  | 65 => ⟨S_, .f32⟩
  | 66 => ⟨S2x4x8192, .f32⟩
  | 67 => ⟨S_, .f32⟩
  | 68 => ⟨S2x4x8192, .f32⟩
  | 69 => ⟨S2x4x8192, .f32⟩
  | 70 => ⟨S2x4x8192x1, .f32⟩
  | 71 => ⟨S2x4x8192x256, .f32⟩
  | 72 => ⟨S2x4x8192x256, .f32⟩
  | 73 => ⟨S2x4x8192x256, .f32⟩
  | 74 => ⟨S_, .f32⟩
  | 75 => ⟨S2x4x8192, .f32⟩
  | 76 => ⟨S2x4x8192x1, .f32⟩
  | 77 => ⟨S2x4x8192x256, .f32⟩
  | 78 => ⟨S2x4x8192x256, .f32⟩
  | 79 => ⟨S2x4x256x8192, .f32⟩
  | 80 => ⟨S2x8192x4x256, .f32⟩
  | 81 => ⟨S2x8192x1024, .f32⟩
  | 82 => ⟨S_, .f32⟩
  | 83 => ⟨S2x8192x1024, .f32⟩
  | 84 => ⟨S2x8192x1024, .f32⟩
  | 85 => ⟨S1024x1024, .f32⟩
  | 86 => ⟨S2x8192x1024, .f32⟩
  | 87 => ⟨S2x8192x1024, .f32⟩
  | 88 => ⟨S1024, .f32⟩
  | 89 => ⟨S1024, .f32⟩
  | 90 => ⟨S_, .f32⟩
  | 91 => ⟨S2x8192, .f32⟩
  | 92 => ⟨S2x8192x1, .f32⟩
  | 93 => ⟨S_, .f32⟩
  | 94 => ⟨S2x8192x1, .f32⟩
  | 95 => ⟨S2x8192x1, .f32⟩
  | 96 => ⟨S2x8192x1024, .f32⟩
  | 97 => ⟨S2x8192x1024, .f32⟩
  | 98 => ⟨S2x8192x1024, .f32⟩
  | 99 => ⟨S_, .f32⟩
  | 100 => ⟨S2x8192, .f32⟩
  | 101 => ⟨S2x8192x1, .f32⟩
  | 102 => ⟨S_, .f32⟩
  | 103 => ⟨S2x8192x1, .f32⟩
  | 104 => ⟨S2x8192x1, .f32⟩
  | 105 => ⟨S2x8192x1024, .f32⟩
  | 106 => ⟨S2x8192x1024, .f32⟩
  | 107 => ⟨S_, .f32⟩
  | 108 => ⟨S2x8192x1, .f32⟩
  | 109 => ⟨S2x8192x1, .f32⟩
  | 110 => ⟨S2x8192x1, .f32⟩
  | 111 => ⟨S2x8192x1024, .f32⟩
  | 112 => ⟨S2x8192x1024, .f32⟩
  | 113 => ⟨S1x1x1024, .f32⟩
  | 114 => ⟨S2x8192x1024, .f32⟩
  | 115 => ⟨S2x8192x1024, .f32⟩
  | 116 => ⟨S1x1x1024, .f32⟩
  | 117 => ⟨S2x8192x1024, .f32⟩
  | 118 => ⟨S2x8192x1024, .f32⟩
  | 119 => ⟨S16384x1024, .f32⟩
  | 120 => ⟨S1024x4, .f32⟩
  | 121 => ⟨S16384x4, .f32⟩
  | 122 => ⟨S1024x32, .f32⟩
  | 123 => ⟨S16384x32, .f32⟩
  | 124 => ⟨S16384x36, .f32⟩
  | 125 => ⟨S36x16384, .f32⟩
  | 126 => ⟨S131072x128, .f32⟩
  | 127 => ⟨S_, .i32⟩
  | _ => ⟨S2x8192x1024, .f32⟩

abbrev hbmTy0_1 (i : Nat) : BufTy := match i % 128 with
  | 0 => ⟨S_, .f32⟩
  | 1 => ⟨S40x16384, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_0 : Ref sig .tc := ⟨.hbm, 24, rfl⟩
abbrev main_v10 : Ref sig .tc := ⟨.hbm, 25, rfl⟩
abbrev main_v11 : Ref sig .tc := ⟨.hbm, 26, rfl⟩
abbrev main_cst_1 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_2 : Ref sig .tc := ⟨.hbm, 33, rfl⟩
abbrev main_v17 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_5 : Ref sig .tc := ⟨.hbm, 62, rfl⟩
abbrev main_v43 : Ref sig .tc := ⟨.hbm, 63, rfl⟩
abbrev main_v44 : Ref sig .tc := ⟨.hbm, 64, rfl⟩
abbrev main_cst_6 : Ref sig .tc := ⟨.hbm, 65, rfl⟩
abbrev main_v45 : Ref sig .tc := ⟨.hbm, 66, rfl⟩
abbrev main_cst_7 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_12 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_14 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_c : Ref sig .tc := ⟨.hbm, 127, rfl⟩
abbrev main_call0_v0 : Ref sig .tc := ⟨.hbm, 128, rfl⟩
abbrev main_v98 : Ref sig .tc := ⟨.hbm, 129, rfl⟩

abbrev nD : Nat := 1
abbrev τ : Topo := Topo.v7x

variable {F : FTy → Type} [FloatOps F]
-- ==== Project.lean ====
abbrev S2x8192x1024 : Shape := ⟨3, ![2, 8192, 1024]⟩
abbrev S1x1024x3072 : Shape := ⟨3, ![1, 1024, 3072]⟩
abbrev S16384x1024 : Shape := ⟨2, ![16384, 1024]⟩
abbrev S1024x3072 : Shape := ⟨2, ![1024, 3072]⟩
abbrev S1024x512 : Shape := ⟨2, ![1024, 512]⟩
abbrev S1024x2x4x2x32 : Shape := ⟨5, ![1024, 2, 4, 2, 32]⟩
abbrev S1024x2x2x4x32 : Shape := ⟨5, ![1024, 2, 2, 4, 32]⟩
abbrev S16384x1536 : Shape := ⟨2, ![16384, 1536]⟩
abbrev S12x16384x128 : Shape := ⟨3, ![12, 16384, 128]⟩
abbrev S1024x1024 : Shape := ⟨2, ![1024, 1024]⟩
abbrev S1024x1536 : Shape := ⟨2, ![1024, 1536]⟩
abbrev S12x1024x128 : Shape := ⟨3, ![12, 1024, 128]⟩
abbrev S1024x128 : Shape := ⟨2, ![1024, 128]⟩
abbrev S1x1024x128 : Shape := ⟨3, ![1, 1024, 128]⟩

abbrev nBuf : Space → Nat
  | .hbm => 12
  | .vmem => 9
  | .smem => 0
  | _ => 0

abbrev bufTy : (tb : Table) → Fin (tcTables nBuf tb) → BufTy
  | .hbm, ⟨0, _⟩ => ⟨S2x8192x1024, .f32⟩
  | .hbm, ⟨1, _⟩ => ⟨S1x1024x3072, .f32⟩
  | .hbm, ⟨2, _⟩ => ⟨S16384x1024, .f32⟩
  | .hbm, ⟨3, _⟩ => ⟨S1024x3072, .f32⟩
  | .hbm, ⟨4, _⟩ => ⟨S1024x3072, .f32⟩
  | .hbm, ⟨5, _⟩ => ⟨S1024x512, .f32⟩
  | .hbm, ⟨6, _⟩ => ⟨S1024x2x4x2x32, .f32⟩
  | .hbm, ⟨7, _⟩ => ⟨S1024x2x2x4x32, .f32⟩
  | .hbm, ⟨8, _⟩ => ⟨S1024x512, .f32⟩
  | .hbm, ⟨9, _⟩ => ⟨S1024x512, .bf16⟩
  | .hbm, ⟨10, _⟩ => ⟨S16384x1536, .f32⟩
  | .hbm, ⟨11, _⟩ => ⟨S12x16384x128, .f32⟩
  | .local _ .vmem, ⟨0, _⟩ => ⟨S1024x1024, .f32⟩
  | .local _ .vmem, ⟨1, _⟩ => ⟨S1024x1024, .f32⟩
  | .local _ .vmem, ⟨2, _⟩ => ⟨S1024x3072, .f32⟩
  | .local _ .vmem, ⟨3, _⟩ => ⟨S1024x512, .bf16⟩
  | .local _ .vmem, ⟨4, _⟩ => ⟨S1024x1536, .f32⟩
  | .local _ .vmem, ⟨5, _⟩ => ⟨S1024x1536, .f32⟩
  | .local _ .vmem, ⟨6, _⟩ => ⟨S12x1024x128, .f32⟩
  | .local _ .vmem, ⟨7, _⟩ => ⟨S12x1024x128, .f32⟩
  | .local _ .vmem, ⟨8, _⟩ => ⟨S1024x3072, .bf16⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8_0 : Ref sig .tc := ⟨.hbm, 10, rfl⟩
abbrev main_v8_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S12x1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ProjectReferenceIdeal.lean ====
abbrev S2x8192x1024 : Shape := ⟨3, ![2, 8192, 1024]⟩
abbrev S1x1024x3072 : Shape := ⟨3, ![1, 1024, 3072]⟩
abbrev S1024x3072 : Shape := ⟨2, ![1024, 3072]⟩
abbrev S2x8192x3072 : Shape := ⟨3, ![2, 8192, 3072]⟩
abbrev S16384x3072 : Shape := ⟨2, ![16384, 3072]⟩
abbrev S16384x512 : Shape := ⟨2, ![16384, 512]⟩
abbrev S16384x2x4x2x32 : Shape := ⟨5, ![16384, 2, 4, 2, 32]⟩
abbrev S16384x2x2x4x32 : Shape := ⟨5, ![16384, 2, 2, 4, 32]⟩
abbrev S16384x1024 : Shape := ⟨2, ![16384, 1024]⟩
abbrev S16384x1536 : Shape := ⟨2, ![16384, 1536]⟩
abbrev S16384x12x128 : Shape := ⟨3, ![16384, 12, 128]⟩
abbrev S12x16384x128 : Shape := ⟨3, ![12, 16384, 128]⟩

abbrev nBuf : Space → Nat
  | .hbm => 14
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1x1024x3072, .f32⟩
  | .hbm, ⟨2, _⟩ => ⟨S1024x3072, .f32⟩
  | .hbm, ⟨3, _⟩ => ⟨S2x8192x3072, .f32⟩
  | .hbm, ⟨4, _⟩ => ⟨S16384x3072, .f32⟩
  | .hbm, ⟨5, _⟩ => ⟨S16384x512, .f32⟩
  | .hbm, ⟨6, _⟩ => ⟨S16384x2x4x2x32, .f32⟩
  | .hbm, ⟨7, _⟩ => ⟨S16384x2x2x4x32, .f32⟩
  | .hbm, ⟨8, _⟩ => ⟨S16384x512, .f32⟩
  | .hbm, ⟨9, _⟩ => ⟨S16384x1024, .f32⟩
  | .hbm, ⟨10, _⟩ => ⟨S16384x1536, .f32⟩
  | .hbm, ⟨11, _⟩ => ⟨S16384x1536, .f32⟩
  | .hbm, ⟨12, _⟩ => ⟨S16384x12x128, .f32⟩
  | .hbm, ⟨13, _⟩ => ⟨S12x16384x128, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩

abbrev nD : Nat := 1
abbrev τ : Topo := Topo.v7x

variable {F : FTy → Type} [FloatOps F]
-- ==== Memory.lean ====
abbrev S2x256x1024 : Shape := ⟨3, ![2, 256, 1024]⟩
abbrev S1x1024x2048 : Shape := ⟨3, ![1, 1024, 2048]⟩
abbrev S512x1024 : Shape := ⟨2, ![512, 1024]⟩
abbrev S1024x2048 : Shape := ⟨2, ![1024, 2048]⟩
abbrev S512x2048 : Shape := ⟨2, ![512, 2048]⟩
abbrev S1024x512 : Shape := ⟨2, ![1024, 512]⟩
abbrev S512x512 : Shape := ⟨2, ![512, 512]⟩

abbrev nBuf : Space → Nat
  | .hbm => 5
  | .vmem => 5
  | .smem => 0
  | _ => 0

abbrev bufTy : (tb : Table) → Fin (tcTables nBuf tb) → BufTy
  | .hbm, ⟨0, _⟩ => ⟨S2x256x1024, .f32⟩
  | .hbm, ⟨1, _⟩ => ⟨S1x1024x2048, .f32⟩
  | .hbm, ⟨2, _⟩ => ⟨S512x1024, .f32⟩
  | .hbm, ⟨3, _⟩ => ⟨S1024x2048, .f32⟩
  | .hbm, ⟨4, _⟩ => ⟨S512x2048, .bf16⟩
  | .local _ .vmem, ⟨0, _⟩ => ⟨S512x1024, .f32⟩
  | .local _ .vmem, ⟨1, _⟩ => ⟨S1024x512, .f32⟩
  | .local _ .vmem, ⟨2, _⟩ => ⟨S1024x512, .f32⟩
  | .local _ .vmem, ⟨3, _⟩ => ⟨S512x512, .bf16⟩
  | .local _ .vmem, ⟨4, _⟩ => ⟨S512x512, .bf16⟩
  | _, _ => ⟨S2x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MemoryReferenceIdeal.lean ====
abbrev S2x256x1024 : Shape := ⟨3, ![2, 256, 1024]⟩
abbrev S1x1024x2048 : Shape := ⟨3, ![1, 1024, 2048]⟩
abbrev S1024x2048 : Shape := ⟨2, ![1024, 2048]⟩
abbrev S2x256x2048 : Shape := ⟨3, ![2, 256, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2x256x1024, .f32⟩
  | .hbm, ⟨1, _⟩ => ⟨S1x1024x2048, .f32⟩
  | .hbm, ⟨2, _⟩ => ⟨S1024x2048, .f32⟩
  | .hbm, ⟨3, _⟩ => ⟨S2x256x2048, .f32⟩
  | .hbm, ⟨4, _⟩ => ⟨S512x2048, .f32⟩
  | .hbm, ⟨5, _⟩ => ⟨S512x2048, .bf16⟩
  | _, _ => ⟨S2x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Retention.lean ====
abbrev S2x8192x1536 : Shape := ⟨3, ![2, 8192, 1536]⟩
abbrev S32 : Shape := ⟨1, ![32]⟩
abbrev S_ : Shape := ⟨0, ![]⟩
abbrev S8192 : Shape := ⟨1, ![8192]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S1x8192x4x32 : Shape := ⟨4, ![1, 8192, 4, 32]⟩
abbrev S8192x128 : Shape := ⟨2, ![8192, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S4x1x128 : Shape := ⟨3, ![4, 1, 128]⟩
abbrev S2x8192x512 : Shape := ⟨3, ![2, 8192, 512]⟩
abbrev S1x512x512 : Shape := ⟨3, ![1, 512, 512]⟩
abbrev S512x128 : Shape := ⟨2, ![512, 128]⟩
abbrev S4x64x128 : Shape := ⟨3, ![4, 64, 128]⟩
abbrev S512x512 : Shape := ⟨2, ![512, 512]⟩
abbrev S128x256 : Shape := ⟨2, ![128, 256]⟩
abbrev S1x64x128 : Shape := ⟨3, ![1, 64, 128]⟩
abbrev S64x128 : Shape := ⟨2, ![64, 128]⟩
abbrev S96x128 : Shape := ⟨2, ![96, 128]⟩
abbrev S32x128 : Shape := ⟨2, ![32, 128]⟩
abbrev S256x128 : Shape := ⟨2, ![256, 128]⟩
abbrev S1x1x128 : Shape := ⟨3, ![1, 1, 128]⟩
abbrev S512 : Shape := ⟨1, ![512]⟩
abbrev S512x1 : Shape := ⟨2, ![512, 1]⟩
abbrev S1x512x128 : Shape := ⟨3, ![1, 512, 128]⟩

abbrev nBuf : Space → Nat
  | .hbm => 90
  | .vmem => 18
  | .smem => 0
  | _ => 0

abbrev bufTy : (tb : Table) → Fin (tcTables nBuf tb) → BufTy
  | .hbm, ⟨0, _⟩ => ⟨S2x8192x1536, .f32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S8192, .i32⟩
  | .hbm, ⟨12, _⟩ => ⟨S8192, .f32⟩
  | .hbm, ⟨13, _⟩ => ⟨S8192x1, .f32⟩
  | .hbm, ⟨14, _⟩ => ⟨S1x32, .f32⟩
  | .hbm, ⟨15, _⟩ => ⟨S8192x32, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S1x8192x1x32, .f32⟩
  | .hbm, ⟨20, _⟩ => ⟨S1x8192x4x32, .f32⟩
  | .hbm, ⟨21, _⟩ => ⟨S8192x128, .f32⟩
  | .hbm, ⟨22, _⟩ => ⟨S8192x32, .f32⟩
  | .hbm, ⟨23, _⟩ => ⟨S1x8192x1x32, .f32⟩
  | .hbm, ⟨24, _⟩ => ⟨S1x8192x4x32, .f32⟩
  | .hbm, ⟨25, _⟩ => ⟨S8192x128, .f32⟩
  | .hbm, ⟨26, _⟩ => ⟨S4, .f32⟩
  | .hbm, ⟨27, _⟩ => ⟨S_, .f32⟩
  | .hbm, ⟨28, _⟩ => ⟨S4, .f32⟩
  | .hbm, ⟨29, _⟩ => ⟨S4, .f32⟩
  | .hbm, ⟨30, _⟩ => ⟨S_, .f32⟩
  | .hbm, ⟨31, _⟩ => ⟨S4, .f32⟩
  | .hbm, ⟨32, _⟩ => ⟨S4, .f32⟩
  | .hbm, ⟨33, _⟩ => ⟨S4, .f32⟩
  | .hbm, ⟨34, _⟩ => ⟨S_, .f32⟩
  | .hbm, ⟨35, _⟩ => ⟨S4, .f32⟩
  | .hbm, ⟨36, _⟩ => ⟨S4, .f32⟩
  | .hbm, ⟨37, _⟩ => ⟨S4, .f32⟩
  | .hbm, ⟨38, _⟩ => ⟨S128, .f32⟩
  | .hbm, ⟨39, _⟩ => ⟨S128x1, .f32⟩
  | .hbm, ⟨40, _⟩ => ⟨S1x128, .f32⟩
  | .hbm, ⟨41, _⟩ => ⟨S128x128, .f32⟩
  | .hbm, ⟨42, _⟩ => ⟨S128x128, .f32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S128x128, .i1⟩
  | .hbm, ⟨47, _⟩ => ⟨S4x1x1, .f32⟩
  | .hbm, ⟨48, _⟩ => ⟨S_, .f32⟩
  | .hbm, ⟨49, _⟩ => ⟨S128x128, .f32⟩
  | .hbm, ⟨50, _⟩ => ⟨S128x128, .f32⟩
  | .hbm, ⟨51, _⟩ => ⟨S1x128x128, .f32⟩
  | .hbm, ⟨52, _⟩ => ⟨S4x128x128, .f32⟩
  | .hbm, ⟨53, _⟩ => ⟨S4x128x128, .f32⟩
  | .hbm, ⟨54, _⟩ => ⟨S4x128x128, .f32⟩
  | .hbm, ⟨55, _⟩ => ⟨S4x128x128, .f32⟩
  | .hbm, ⟨56, _⟩ => ⟨S_, .f32⟩
  | .hbm, ⟨57, _⟩ => ⟨S_, .f32⟩
  | .hbm, ⟨58, _⟩ => ⟨S4x128x128, .i1⟩
  | .hbm, ⟨59, _⟩ => ⟨S4x128x128, .f32⟩
  | .hbm, ⟨60, _⟩ => ⟨S4x128x128, .f32⟩
  | .hbm, ⟨61, _⟩ => ⟨S4x1, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S1x128, .f32⟩
  | .hbm, ⟨66, _⟩ => ⟨S4x128, .f32⟩
  | .hbm, ⟨67, _⟩ => ⟨S4x128, .f32⟩
  | .hbm, ⟨68, _⟩ => ⟨S4x128, .f32⟩
  | .hbm, ⟨69, _⟩ => ⟨S4x128, .f32⟩
  | .hbm, ⟨70, _⟩ => ⟨S4x128x1, .f32⟩
  | .hbm, ⟨71, _⟩ => ⟨S4x128x128, .f32⟩
  | .hbm, ⟨72, _⟩ => ⟨S4x1, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S1x128, .f32⟩
  | .hbm, ⟨77, _⟩ => ⟨S4x128, .f32⟩
  | .hbm, ⟨78, _⟩ => ⟨S4x128, .f32⟩
  | .hbm, ⟨79, _⟩ => ⟨S4x128, .f32⟩
  | .hbm, ⟨80, _⟩ => ⟨S4x128, .f32⟩
  | .hbm, ⟨81, _⟩ => ⟨S4x128x1, .f32⟩
  | .hbm, ⟨82, _⟩ => ⟨S4x128x128, .f32⟩
  | .hbm, ⟨83, _⟩ => ⟨S_, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S4x1x1, .f32⟩
  | .hbm, ⟨88, _⟩ => ⟨S4x1x128, .f32⟩
  | .hbm, ⟨89, _⟩ => ⟨S2x8192x512, .bf16⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S1x512x512, .f32⟩
  | .local _ .vmem, ⟨5, _⟩ => ⟨S1x512x512, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x128x128, .f32⟩
  | .local _ .vmem, ⟨11, _⟩ => ⟨S4x128x128, .f32⟩
  | .local _ .vmem, ⟨12, _⟩ => ⟨S4x128x128, .f32⟩
  | .local _ .vmem, ⟨13, _⟩ => ⟨S4x1x128, .f32⟩
  | .local _ .vmem, ⟨14, _⟩ => ⟨S1x512x512, .bf16⟩
  | .local _ .vmem, ⟨15, _⟩ => ⟨S1x512x512, .bf16⟩
  | .local _ .vmem, ⟨16, _⟩ => ⟨S4x64x128, .f32⟩
  | .local _ .vmem, ⟨17, _⟩ => ⟨S512x512, .f32⟩
  | _, _ => ⟨S2x8192x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_2 : Ref sig .tc := ⟨.hbm, 27, rfl⟩
abbrev main_v23 : Ref sig .tc := ⟨.hbm, 28, rfl⟩
abbrev main_v24 : Ref sig .tc := ⟨.hbm, 29, rfl⟩
abbrev main_cst_3 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_4 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_cst_5 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_cst_6 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_cst_7 : Ref sig .tc := ⟨.hbm, 56, rfl⟩
abbrev main_call0_v0 : Ref sig .tc := ⟨.hbm, 57, rfl⟩
abbrev main_call0_v1 : Ref sig .tc := ⟨.hbm, 58, rfl⟩
abbrev main_call0_v2 : Ref sig .tc := ⟨.hbm, 59, rfl⟩
abbrev main_v47 : Ref sig .tc := ⟨.hbm, 60, rfl⟩
abbrev main_v48 : Ref sig .tc := ⟨.hbm, 61, rfl⟩
abbrev main_cst_8 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_cst_9 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_cst_10 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![2, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, arg1.toNat, c2_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S4x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== RetentionReferenceIdeal.lean ====
abbrev S2x8192x1536 : Shape := ⟨3, ![2, 8192, 1536]⟩
abbrev S2x8192x512 : Shape := ⟨3, ![2, 8192, 512]⟩
abbrev S2x8192x2x2x4x32 : Shape := ⟨6, ![2, 8192, 2, 2, 4, 32]⟩
abbrev S2x2x8192x4x2x32 : Shape := ⟨6, ![2, 2, 8192, 4, 2, 32]⟩
abbrev S2x2x8192x4x64 : Shape := ⟨5, ![2, 2, 8192, 4, 64]⟩
abbrev S1x2x8192x4x64 : Shape := ⟨5, ![1, 2, 8192, 4, 64]⟩
abbrev S2x8192x4x64 : Shape := ⟨4, ![2, 8192, 4, 64]⟩
abbrev S2x8192x4x128 : Shape := ⟨4, ![2, 8192, 4, 128]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x8192x1x32 : Shape := ⟨4, ![1, 8192, 1, 32]⟩
abbrev S2x8192x4x32 : Shape := ⟨4, ![2, 8192, 4, 32]⟩
abbrev S2x64x128x4x64 : Shape := ⟨5, ![2, 64, 128, 4, 64]⟩
abbrev S64x2x4x128x64 : Shape := ⟨5, ![64, 2, 4, 128, 64]⟩
abbrev S2x64x128x4x128 : Shape := ⟨5, ![2, 64, 128, 4, 128]⟩
abbrev S64x2x4x128x128 : Shape := ⟨5, ![64, 2, 4, 128, 128]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S1x1x4x128x128 : Shape := ⟨5, ![1, 1, 4, 128, 128]⟩
abbrev S4x1 : Shape := ⟨2, ![4, 1]⟩
abbrev S4x128 : Shape := ⟨2, ![4, 128]⟩
abbrev S4x128x1 : Shape := ⟨3, ![4, 128, 1]⟩
abbrev S1x1x4x128x1 : Shape := ⟨5, ![1, 1, 4, 128, 1]⟩
abbrev S64x2x4x64x128 : Shape := ⟨5, ![64, 2, 4, 64, 128]⟩
abbrev S2x4x64x128 : Shape := ⟨4, ![2, 4, 64, 128]⟩
abbrev S1x2x4x128x64 : Shape := ⟨5, ![1, 2, 4, 128, 64]⟩
abbrev S2x4x128x64 : Shape := ⟨4, ![2, 4, 128, 64]⟩
abbrev S1x2x4x64x128 : Shape := ⟨5, ![1, 2, 4, 64, 128]⟩
abbrev S1x2x4x128x128 : Shape := ⟨5, ![1, 2, 4, 128, 128]⟩
abbrev S2x4x128x128 : Shape := ⟨4, ![2, 4, 128, 128]⟩
abbrev S1x4x128x1 : Shape := ⟨4, ![1, 4, 128, 1]⟩
abbrev S1x4x1x1 : Shape := ⟨4, ![1, 4, 1, 1]⟩
abbrev S64x2x4x128 : Shape := ⟨4, ![64, 2, 4, 128]⟩
abbrev S64x2x4x128x1 : Shape := ⟨5, ![64, 2, 4, 128, 1]⟩

abbrev nBuf : Space → Nat
  | .hbm => 243
  | .vmem => 0
  | .smem => 0
  | _ => 0

abbrev hbmTy0_0 (i : Nat) : BufTy := match i % 128 with
  | 0 => ⟨S2x8192x1536, .f32⟩
  | 1 => ⟨S2x8192x512, .f32⟩
  | 2 => ⟨S2x8192x2x2x4x32, .f32⟩
  | 3 => ⟨S2x2x8192x4x2x32, .f32⟩
  | 4 => ⟨S2x2x8192x4x64, .f32⟩
  | 5 => ⟨S1x2x8192x4x64, .f32⟩
  | 6 => ⟨S2x8192x4x64, .f32⟩
  | 7 => ⟨S1x2x8192x4x64, .f32⟩
  | 8 => ⟨S2x8192x4x64, .f32⟩
  | 9 => ⟨S2x8192x512, .f32⟩
  | 10 => ⟨S2x8192x4x128, .f32⟩
  | 11 => ⟨S8192, .i32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S8192, .f32⟩
  | 23 => ⟨S8192x1, .f32⟩
  | 24 => ⟨S1x32, .f32⟩
  | 25 => ⟨S8192x32, .f32⟩
  | 26 => ⟨S8192x32, .f32⟩
  | 27 => ⟨S8192x32, .f32⟩
  | 28 => ⟨S8192x32, .f32⟩
  | 29 => ⟨S1x8192x1x32, .f32⟩
  | 30 => ⟨S8192x32, .f32⟩
  | 31 => ⟨S1x8192x1x32, .f32⟩
  | 32 => ⟨S2x8192x4x32, .f32⟩
  | 33 => ⟨S2x8192x4x32, .f32⟩
  | 34 => ⟨S2x8192x4x32, .f32⟩
  | 35 => ⟨S2x8192x4x32, .f32⟩
  | 36 => ⟨S2x8192x4x32, .f32⟩
  | 37 => ⟨S2x8192x4x32, .f32⟩
  | 38 => ⟨S2x8192x4x32, .f32⟩
  | 39 => ⟨S2x8192x4x32, .f32⟩
  | 40 => ⟨S2x8192x4x32, .f32⟩
  | 41 => ⟨S2x8192x4x32, .f32⟩
  | 42 => ⟨S2x8192x4x32, .f32⟩
  | 43 => ⟨S2x8192x4x32, .f32⟩
  | 44 => ⟨S2x8192x4x64, .f32⟩
  | 45 => ⟨S32, .f32⟩
  | 46 => ⟨S_, .f32⟩
  | 47 => ⟨S32, .f32⟩
  | 48 => ⟨S32, .f32⟩
  | 49 => ⟨S_, .f32⟩
  | 50 => ⟨S32, .f32⟩
  | 51 => ⟨S32, .f32⟩
  | 52 => ⟨S_, .f32⟩
  | 53 => ⟨S32, .f32⟩
  | 54 => ⟨S32, .f32⟩
  | 55 => ⟨S8192, .f32⟩
  | 56 => ⟨S8192x1, .f32⟩
  | 57 => ⟨S1x32, .f32⟩
  | 58 => ⟨S8192x32, .f32⟩
  | 59 => ⟨S8192x32, .f32⟩
  | 60 => ⟨S8192x32, .f32⟩
  | 61 => ⟨S8192x32, .f32⟩
  | 62 => ⟨S1x8192x1x32, .f32⟩
  | 63 => ⟨S8192x32, .f32⟩
  | 64 => ⟨S1x8192x1x32, .f32⟩
  | 65 => ⟨S2x8192x4x32, .f32⟩
  | 66 => ⟨S2x8192x4x32, .f32⟩
  | 67 => ⟨S2x8192x4x32, .f32⟩
  | 68 => ⟨S2x8192x4x32, .f32⟩
  | 69 => ⟨S2x8192x4x32, .f32⟩
  | 70 => ⟨S2x8192x4x32, .f32⟩
  | 71 => ⟨S2x8192x4x32, .f32⟩
  | 72 => ⟨S2x8192x4x32, .f32⟩
  | 73 => ⟨S2x8192x4x32, .f32⟩
  | 74 => ⟨S2x8192x4x32, .f32⟩
  | 75 => ⟨S2x8192x4x32, .f32⟩
  | 76 => ⟨S2x8192x4x32, .f32⟩
  | 77 => ⟨S2x8192x4x64, .f32⟩
  | 78 => ⟨S_, .f32⟩
  | 79 => ⟨S2x8192x4x64, .f32⟩
  | 80 => ⟨S2x8192x4x64, .f32⟩
  | 81 => ⟨S2x64x128x4x64, .f32⟩
  | 82 => ⟨S64x2x4x128x64, .f32⟩
  | 83 => ⟨S2x64x128x4x64, .f32⟩
  | 84 => ⟨S64x2x4x128x64, .f32⟩
  | 85 => ⟨S2x64x128x4x128, .f32⟩
  | 86 => ⟨S64x2x4x128x128, .f32⟩
  | 87 => ⟨S4, .f32⟩
  | 88 => ⟨S_, .f32⟩
  | 89 => ⟨S4, .f32⟩
  | 90 => ⟨S4, .f32⟩
  | 91 => ⟨S_, .f32⟩
  | 92 => ⟨S4, .f32⟩
  | 93 => ⟨S4, .f32⟩
  | 94 => ⟨S4, .f32⟩
  | 95 => ⟨S_, .f32⟩
  | 96 => ⟨S4, .f32⟩
  | 97 => ⟨S4, .f32⟩
  | 98 => ⟨S4, .f32⟩
  | 99 => ⟨S128, .f32⟩
  | 100 => ⟨S128x1, .f32⟩
  | 101 => ⟨S1x128, .f32⟩
  | 102 => ⟨S128x128, .f32⟩
  | 103 => ⟨S128x128, .f32⟩
  | 104 => ⟨S128x128, .f32⟩
  | 105 => ⟨S_, .f32⟩
  | 106 => ⟨S128x128, .f32⟩
  | 107 => ⟨S128x128, .i1⟩
  | 108 => ⟨S4x1x1, .f32⟩
  | 109 => ⟨S_, .f32⟩
  | 110 => ⟨S128x128, .f32⟩
  | 111 => ⟨S128x128, .f32⟩
  | 112 => ⟨S1x128x128, .f32⟩
  | 113 => ⟨S4x128x128, .f32⟩
  | 114 => ⟨S4x128x128, .f32⟩
  | 115 => ⟨S4x128x128, .f32⟩
  | 116 => ⟨S4x128x128, .f32⟩
  | 117 => ⟨S_, .f32⟩
  | 118 => ⟨S_, .f32⟩
  | 119 => ⟨S4x128x128, .i1⟩
  | 120 => ⟨S4x128x128, .f32⟩
  | 121 => ⟨S4x128x128, .f32⟩
  | 122 => ⟨S64x2x4x128x128, .f32⟩
  | 123 => ⟨S1x1x4x128x128, .f32⟩
  | 124 => ⟨S64x2x4x128x128, .f32⟩
  | 125 => ⟨S64x2x4x128x128, .f32⟩
  | 126 => ⟨S64x2x4x128x128, .f32⟩
  | 127 => ⟨S4x1, .f32⟩
  | _ => ⟨S2x8192x1536, .f32⟩

abbrev hbmTy0_1 (i : Nat) : BufTy := match i % 128 with
  | 0 => ⟨S_, .f32⟩
  | 1 => ⟨S128, .f32⟩
  | 2 => ⟨S128, .f32⟩
  | 3 => ⟨S1x128, .f32⟩
  | 4 => ⟨S4x128, .f32⟩
  | 5 => ⟨S4x128, .f32⟩
  | 6 => ⟨S4x128, .f32⟩
  | 7 => ⟨S4x128, .f32⟩
  | 8 => ⟨S4x128x1, .f32⟩
  | 9 => ⟨S1x1x4x128x1, .f32⟩
  | 10 => ⟨S64x2x4x128x64, .f32⟩
  | 11 => ⟨S64x2x4x128x64, .f32⟩
  | 12 => ⟨S64x2x4x64x128, .f32⟩
  | 13 => ⟨S_, .f32⟩
  | 14 => ⟨S4, .f32⟩
  | 15 => ⟨S4, .f32⟩
  | 16 => ⟨S4, .f32⟩
  | 17 => ⟨S4x1x1, .f32⟩
  | 18 => ⟨S4x1, .f32⟩
  | 19 => ⟨S_, .f32⟩
  | 20 => ⟨S128, .f32⟩
  | 21 => ⟨S128, .f32⟩
  | 22 => ⟨S1x128, .f32⟩
  | 23 => ⟨S4x128, .f32⟩
  | 24 => ⟨S4x128, .f32⟩
  | 25 => ⟨S4x128, .f32⟩
  | 26 => ⟨S4x128, .f32⟩
  | 27 => ⟨S4x128x1, .f32⟩
  | 28 => ⟨S_, .f32⟩
  | 29 => ⟨S2x4x64x128, .f32⟩
  | 30 => ⟨S_, .f32⟩
  | 31 => ⟨S64x2x4x128x128, .f32⟩
  | 32 => ⟨S_, .i32⟩
  | 33 => ⟨S64x2x4x128x64, .f32⟩
  | 34 => ⟨S64x2x4x64x128, .f32⟩
  | 35 => ⟨S64x2x4x128x128, .f32⟩
  | 36 => ⟨S4x128x1, .f32⟩
  | 37 => ⟨S4x1x1, .f32⟩
  | 38 => ⟨S_, .i32⟩
  | 39 => ⟨S2x4x64x128, .f32⟩
  | 40 => ⟨S64x2x4x128x128, .f32⟩
  | 41 => ⟨S_, .i32⟩
  | 42 => ⟨S_, .i1⟩
  | 43 => ⟨S_, .i32⟩
  | 44 => ⟨S_, .i32⟩
  | 45 => ⟨S_, .i32⟩
  | 46 => ⟨S_, .i32⟩
  | 47 => ⟨S1x2x4x128x64, .f32⟩
  | 48 => ⟨S2x4x128x64, .f32⟩
  | 49 => ⟨S_, .i32⟩
  | 50 => ⟨S_, .i32⟩
  | 51 => ⟨S_, .i32⟩
  | 52 => ⟨S_, .i32⟩
  | 53 => ⟨S1x2x4x64x128, .f32⟩
  | 54 => ⟨S2x4x64x128, .f32⟩
  | 55 => ⟨S_, .i32⟩
  | 56 => ⟨S_, .i32⟩
  | 57 => ⟨S_, .i32⟩
  | 58 => ⟨S_, .i32⟩
  | 59 => ⟨S1x2x4x128x128, .f32⟩
  | 60 => ⟨S2x4x128x128, .f32⟩
  | 61 => ⟨S2x4x128x128, .f32⟩
  | 62 => ⟨S1x4x128x1, .f32⟩
  | 63 => ⟨S2x4x128x128, .f32⟩
  | 64 => ⟨S2x4x128x128, .f32⟩
  | 65 => ⟨S1x4x1x1, .f32⟩
  | 66 => ⟨S2x4x64x128, .f32⟩
  | 67 => ⟨S2x4x64x128, .f32⟩
  | 68 => ⟨S2x4x64x128, .f32⟩
  | 69 => ⟨S2x4x128x128, .f32⟩
  | 70 => ⟨S1x2x4x128x128, .f32⟩
  | 71 => ⟨S_, .i32⟩
  | 72 => ⟨S_, .i32⟩
  | 73 => ⟨S_, .i32⟩
  | 74 => ⟨S_, .i32⟩
  | 75 => ⟨S64x2x4x128x128, .f32⟩
  | 76 => ⟨S_, .i32⟩
  | 77 => ⟨S_, .i32⟩
  | 78 => ⟨S_, .f32⟩
  | 79 => ⟨S64x2x4x128, .f32⟩
  | 80 => ⟨S64x2x4x128x1, .f32⟩
  | 81 => ⟨S_, .f32⟩
  | 82 => ⟨S64x2x4x128x1, .f32⟩
  | 83 => ⟨S64x2x4x128x1, .f32⟩
  | 84 => ⟨S64x2x4x128x128, .f32⟩
  | 85 => ⟨S64x2x4x128x128, .f32⟩
  | 86 => ⟨S64x2x4x128x128, .f32⟩
  | 87 => ⟨S_, .f32⟩
  | 88 => ⟨S64x2x4x128, .f32⟩
  | 89 => ⟨S64x2x4x128x1, .f32⟩
  | 90 => ⟨S_, .f32⟩
  | 91 => ⟨S64x2x4x128x1, .f32⟩
  | 92 => ⟨S64x2x4x128x1, .f32⟩
  | 93 => ⟨S64x2x4x128x128, .f32⟩
  | 94 => ⟨S64x2x4x128x128, .f32⟩
  | 95 => ⟨S_, .f32⟩
  | 96 => ⟨S64x2x4x128x1, .f32⟩
  | 97 => ⟨S64x2x4x128x1, .f32⟩
  | 98 => ⟨S64x2x4x128x1, .f32⟩
  | 99 => ⟨S64x2x4x128x128, .f32⟩
  | 100 => ⟨S64x2x4x128x128, .f32⟩
  | 101 => ⟨S2x64x128x4x128, .f32⟩
  | 102 => ⟨S2x8192x512, .f32⟩
  | 103 => ⟨S2x8192x512, .f32⟩
  | 104 => ⟨S2x8192x512, .f32⟩
  | 105 => ⟨S2x8192x512, .f32⟩
  | 106 => ⟨S_, .f32⟩
  | 107 => ⟨S2x8192x512, .f32⟩
  | 108 => ⟨S2x8192x512, .f32⟩
  | 109 => ⟨S_, .f32⟩
  | 110 => ⟨S2x8192x512, .f32⟩
  | 111 => ⟨S2x8192x512, .f32⟩
  | 112 => ⟨S2x8192x512, .f32⟩
  | 113 => ⟨S2x8192x512, .f32⟩
  | 114 => ⟨S2x8192x512, .bf16⟩
  | _ => ⟨S2x8192x1536, .f32⟩

abbrev hbmTy (i : Nat) : BufTy := match i / 128 with
  | 0 => hbmTy0_0 i
  | 1 => hbmTy0_1 i
  | _ => ⟨S2x8192x1536, .f32⟩

abbrev bufTy : (tb : Table) → Fin (tcTables nBuf tb) → BufTy
  | .hbm, ⟨i, _⟩ => hbmTy i
  | _, _ => ⟨S2x8192x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_cst : Ref sig .tc := ⟨.hbm, 13, rfl⟩
abbrev main_v12 : Ref sig .tc := ⟨.hbm, 14, rfl⟩
abbrev main_v13 : Ref sig .tc := ⟨.hbm, 15, rfl⟩
abbrev main_cst_0 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_2 : Ref sig .tc := ⟨.hbm, 46, rfl⟩
abbrev main_v42 : Ref sig .tc := ⟨.hbm, 47, rfl⟩
abbrev main_v43 : Ref sig .tc := ⟨.hbm, 48, rfl⟩
abbrev main_cst_3 : Ref sig .tc := ⟨.hbm, 49, rfl⟩
abbrev main_v44 : Ref sig .tc := ⟨.hbm, 50, rfl⟩
abbrev main_v45 : Ref sig .tc := ⟨.hbm, 51, rfl⟩
abbrev main_cst_4 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_cst_5 : Ref sig .tc := ⟨.hbm, 78, rfl⟩
abbrev main_v71 : Ref sig .tc := ⟨.hbm, 79, rfl⟩
abbrev main_v72 : Ref sig .tc := ⟨.hbm, 80, rfl⟩
abbrev main_v73 : Ref sig .tc := ⟨.hbm, 81, rfl⟩
abbrev main_v74 : Ref sig .tc := ⟨.hbm, 82, rfl⟩
abbrev main_v75 : Ref sig .tc := ⟨.hbm, 83, rfl⟩
abbrev main_v76 : Ref sig .tc := ⟨.hbm, 84, rfl⟩
abbrev main_v77 : Ref sig .tc := ⟨.hbm, 85, rfl⟩
abbrev main_v78 : Ref sig .tc := ⟨.hbm, 86, rfl⟩
abbrev main_v79 : Ref sig .tc := ⟨.hbm, 87, rfl⟩
abbrev main_cst_6 : Ref sig .tc := ⟨.hbm, 88, rfl⟩
abbrev main_v80 : Ref sig .tc := ⟨.hbm, 89, rfl⟩
abbrev main_v81 : Ref sig .tc := ⟨.hbm, 90, rfl⟩
abbrev main_cst_7 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_cst_8 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_cst_9 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_cst_10 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_cst_11 : Ref sig .tc := ⟨.hbm, 117, rfl⟩
abbrev main_call0_v0 : Ref sig .tc := ⟨.hbm, 118, rfl⟩
abbrev main_call0_v1 : Ref sig .tc := ⟨.hbm, 119, rfl⟩
abbrev main_call0_v2 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_cst_12 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_cst_13 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_cst_14 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_cst_15 : Ref sig .tc := ⟨.hbm, 156, rfl⟩
abbrev main_v136 : Ref sig .tc := ⟨.hbm, 157, rfl⟩
abbrev main_cst_16 : Ref sig .tc := ⟨.hbm, 158, rfl⟩
abbrev main_v137 : Ref sig .tc := ⟨.hbm, 159, rfl⟩
abbrev main_c : Ref sig .tc := ⟨.hbm, 160, rfl⟩
abbrev main_v138_0 : Ref sig .tc := ⟨.hbm, 161, rfl⟩
abbrev main_v138_1 : Ref sig .tc := ⟨.hbm, 162, rfl⟩
abbrev main_v138_2 : Ref sig .tc := ⟨.hbm, 163, rfl⟩
abbrev main_v138_3 : Ref sig .tc := ⟨.hbm, 164, rfl⟩
abbrev main_v138_4 : Ref sig .tc := ⟨.hbm, 165, rfl⟩
abbrev main_v138_5 : Ref sig .tc := ⟨.hbm, 166, rfl⟩
abbrev main_v138_6 : Ref sig .tc := ⟨.hbm, 167, rfl⟩
abbrev main_v138_7 : Ref sig .tc := ⟨.hbm, 168, rfl⟩
abbrev main_while0c_c_29 : Ref sig .tc := ⟨.hbm, 169, rfl⟩
abbrev main_while0c_v163 : Ref sig .tc := ⟨.hbm, 170, rfl⟩
abbrev main_while0b_call1_c : Ref sig .tc := ⟨.hbm, 171, rfl⟩
abbrev main_while0b_call1_c_0 : Ref sig .tc := ⟨.hbm, 172, rfl⟩
abbrev main_while0b_call1_c_1 : Ref sig .tc := ⟨.hbm, 173, rfl⟩
abbrev main_while0b_call1_c_2 : Ref sig .tc := ⟨.hbm, 174, rfl⟩
abbrev main_while0b_call1_v0 : Ref sig .tc := ⟨.hbm, 175, rfl⟩
abbrev main_while0b_v163 : Ref sig .tc := ⟨.hbm, 176, rfl⟩
abbrev main_while0b_call2_c : Ref sig .tc := ⟨.hbm, 177, rfl⟩
abbrev main_while0b_call2_c_0 : Ref sig .tc := ⟨.hbm, 178, rfl⟩
abbrev main_while0b_call2_c_1 : Ref sig .tc := ⟨.hbm, 179, rfl⟩
abbrev main_while0b_call2_c_2 : Ref sig .tc := ⟨.hbm, 180, rfl⟩
abbrev main_while0b_call2_v0 : Ref sig .tc := ⟨.hbm, 181, rfl⟩
abbrev main_while0b_v164 : Ref sig .tc := ⟨.hbm, 182, rfl⟩
abbrev main_while0b_call3_c : Ref sig .tc := ⟨.hbm, 183, rfl⟩
abbrev main_while0b_call3_c_0 : Ref sig .tc := ⟨.hbm, 184, rfl⟩
abbrev main_while0b_call3_c_1 : Ref sig .tc := ⟨.hbm, 185, rfl⟩
abbrev main_while0b_call3_c_2 : Ref sig .tc := ⟨.hbm, 186, rfl⟩
abbrev main_while0b_call3_v0 : Ref sig .tc := ⟨.hbm, 187, rfl⟩
abbrev main_while0b_v165 : Ref sig .tc := ⟨.hbm, 188, rfl⟩
abbrev main_while0b_v166 : Ref sig .tc := ⟨.hbm, 189, rfl⟩
abbrev main_while0b_v167 : Ref sig .tc := ⟨.hbm, 190, rfl⟩
abbrev main_while0b_v168 : Ref sig .tc := ⟨.hbm, 191, rfl⟩
abbrev main_while0b_v169 : Ref sig .tc := ⟨.hbm, 192, rfl⟩
abbrev main_while0b_v170 : Ref sig .tc := ⟨.hbm, 193, rfl⟩
abbrev main_while0b_v171 : Ref sig .tc := ⟨.hbm, 194, rfl⟩
abbrev main_while0b_v172 : Ref sig .tc := ⟨.hbm, 195, rfl⟩
abbrev main_while0b_v173 : Ref sig .tc := ⟨.hbm, 196, rfl⟩
abbrev main_while0b_v174 : Ref sig .tc := ⟨.hbm, 197, rfl⟩
abbrev main_while0b_call4_v0 : Ref sig .tc := ⟨.hbm, 198, rfl⟩
abbrev main_while0b_call4_c : Ref sig .tc := ⟨.hbm, 199, rfl⟩
abbrev main_while0b_call4_c_0 : Ref sig .tc := ⟨.hbm, 200, rfl⟩
abbrev main_while0b_call4_c_1 : Ref sig .tc := ⟨.hbm, 201, rfl⟩
abbrev main_while0b_call4_c_2 : Ref sig .tc := ⟨.hbm, 202, rfl⟩
abbrev main_while0b_v175 : Ref sig .tc := ⟨.hbm, 203, rfl⟩
abbrev main_while0b_c_29 : Ref sig .tc := ⟨.hbm, 204, rfl⟩
abbrev main_while0b_v176 : Ref sig .tc := ⟨.hbm, 205, rfl⟩
abbrev main_cst_17 : Ref sig .tc := ⟨.hbm, 206, rfl⟩
abbrev main_v139 : Ref sig .tc := ⟨.hbm, 207, rfl⟩
abbrev main_v140 : Ref sig .tc := ⟨.hbm, 208, rfl⟩
abbrev main_cst_18 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_cst_19 : Ref sig .tc := ⟨.hbm, 215, rfl⟩
abbrev main_v146 : Ref sig .tc := ⟨.hbm, 216, rfl⟩
abbrev main_v147 : Ref sig .tc := ⟨.hbm, 217, rfl⟩
abbrev main_cst_20 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_cst_21 : Ref sig .tc := ⟨.hbm, 223, rfl⟩
abbrev main_v152 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_call5_v0 : Ref sig .tc := ⟨.hbm, 232, rfl⟩
abbrev main_call5_v1 : Ref sig .tc := ⟨.hbm, 233, rfl⟩
abbrev main_call5_cst : Ref sig .tc := ⟨.hbm, 234, rfl⟩
abbrev main_call5_v2 : Ref sig .tc := ⟨.hbm, 235, rfl⟩
abbrev main_call5_v3 : Ref sig .tc := ⟨.hbm, 236, rfl⟩
abbrev main_call5_cst_0 : Ref sig .tc := ⟨.hbm, 237, rfl⟩
abbrev main_call5_v4 : Ref sig .tc := ⟨.hbm, 238, rfl⟩
abbrev main_call5_v5 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩

abbrev nD : Nat := 1
abbrev τ : Topo := Topo.v7x

variable {F : FTy → Type} [FloatOps F]

abbrev main_while0_count : Scf.Loop 32 := ⟨0#32, 64#32, 1#32⟩
-- ==== Proof.BodyIdeal.lean ====
/- The cross-attention program over the extended reals: what the kernel's body leaves in each buffer it stores into. -/
module

public import proofs.«01_k».proof.Proof.Gen.KernelIdeal.Skeleton
public import proofs.«01_k».proof.Proof.Gen.KernelIdeal.Frame

@[expose] public section

set_option maxRecDepth 16384

noncomputable section

namespace Cert.KernelIdeal.Xattn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 4000000 in
/-- One execution of the body on whole buffers. The thirteen inputs come back unchanged; the three
    outputs (the normalised rows, the same rows token by token, the routing logits) and the three scratch
    buffers (the first residual row, the queries, the attention rows) come back with the body's stores
    written over whatever was there. The lists of stores are found by the symbolic run itself. -/
noncomputable def bodyRun (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S40x1024 .bf16) (harg13 : arg13.IsWhole) (arg14 : Memref sig .tc .vmem S1024x1024 .f32) (harg14 : arg14.IsWhole) (arg15 : Memref sig .tc .vmem S8192x128 .f32) (harg15 : arg15.IsWhole) (arg16 : Memref sig .tc .vmem S40x1024 .f32) (harg16 : arg16.IsWhole) (arg17 : Memref sig .tc .vmem S1024x1024 .f32) (harg17 : arg17.IsWhole) (arg18 : Memref sig .tc .vmem S1024x1024 .bf16) (harg18 : arg18.IsWhole) (arg19 : Memref sig .tc .vmem S1024x1024 .bf16) (harg19 : arg19.IsWhole)
    (x1 : Vec F S1024x1024 .f32) (x2 : Vec F S1024x512 .bf16) (x3 : Vec F S1024x512 .bf16) (x4 : Vec F S1024x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S40x1024 .bf16) :
    Σ' (L14 : List (View.Piece (Elt F) S1024x1024 .f32)), Σ' (L15 : List (View.Piece (Elt F) S8192x128 .f32)), Σ' (L16 : List (View.Piece (Elt F) S40x1024 .f32)), Σ' (L17 : List (View.Piece (Elt F) S1024x1024 .f32)), Σ' (L18 : List (View.Piece (Elt F) S1024x1024 .bf16)), { L19 : List (View.Piece (Elt F) S1024x1024 .bf16) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ (∃ f, arg14.view.loc (c : Thread nD τ) ↦[arg14.view.set]{fullShare} arg14.view.writes (Elt F) f L14) ∗ (∃ f, arg15.view.loc (c : Thread nD τ) ↦[arg15.view.set]{fullShare} arg15.view.writes (Elt F) f L15) ∗ (∃ f, arg16.view.loc (c : Thread nD τ) ↦[arg16.view.set]{fullShare} arg16.view.writes (Elt F) f L16) ∗ (∃ f, arg17.view.loc (c : Thread nD τ) ↦[arg17.view.set]{fullShare} arg17.view.writes (Elt F) f L17) ∗ (∃ f, arg18.view.loc (c : Thread nD τ) ↦[arg18.view.set]{fullShare} arg18.view.writes (Elt F) f L18) ∗ (∃ f, arg19.view.loc (c : Thread nD τ) ↦[arg19.view.set]{fullShare} arg19.view.writes (Elt F) f L19)) -∗ K ⟨⟩))
          ⊢ wp frame (wpE (defs₀ (F := F)) Variants.none c none) E (cc0_xattn i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19) K } := by
  refine ⟨?_, ?_, ?_, ?_, ?_, ?_, fun E K => ?run⟩
  case run =>
    simp only [cc0_xattn_eq_skeleton]; unfold cc0_xattn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    iexists _; iexact H19

end Cert.KernelIdeal.Xattn

end
-- ==== Proof.FrameIdeal.lean ====
/- The cross-attention program over the extended reals: the pipeline run around the body, and that the program ends with its arguments unchanged. -/
module

public import proofs.«01_k».proof.Proof.BodyIdeal
public import Idealize.ShloMosaic.Lib.Claim

@[expose] public section

set_option maxRecDepth 16384

noncomputable section

namespace Cert.KernelIdeal.Xattn

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The rows a store with row stride eight from row `o` reaches. -/
theorem mem_every_eighth (o : ℕ) (inb : ∀ a, S512x128.size a = 0 ∨ (![o, 0] : Fin 2 → ℕ) a + (![8, 1] : Fin 2 → ℕ) a * (S512x128.size a - 1) < S8192x128.size a)
    (sp : ∀ a, 0 < (![8, 1] : Fin 2 → ℕ) a) (y : S8192x128.Idx) (h1 : o ≤ (y 0).val) (h2 : (y 0).val < o + 4096) (h3 : ((y 0).val - o) % 8 = 0) :
    y ∈ (⟨⟨![o, 0], S512x128.size, ![8, 1], inb⟩, sp⟩ : Rect S8192x128).set := by
  rw [LoadRect.mem_set]
  intro a
  fin_cases a
  · refine ⟨((y 0).val - o) / 8, ?_, ?_⟩
    · show ((y 0).val - o) / 8 < 512
      omega
    · show (y 0).val = o + 8 * (((y 0).val - o) / 8)
      omega
  · refine ⟨(y 1).val, (y 1).isLt, ?_⟩
    show (y 1).val = 0 + 1 * (y 1).val
    omega

section Cover

variable (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S40x1024 .bf16) (harg13 : arg13.IsWhole) (arg14 : Memref sig .tc .vmem S1024x1024 .f32) (harg14 : arg14.IsWhole) (arg15 : Memref sig .tc .vmem S8192x128 .f32) (harg15 : arg15.IsWhole) (arg16 : Memref sig .tc .vmem S40x1024 .f32) (harg16 : arg16.IsWhole) (arg17 : Memref sig .tc .vmem S1024x1024 .f32) (harg17 : arg17.IsWhole) (arg18 : Memref sig .tc .vmem S1024x1024 .bf16) (harg18 : arg18.IsWhole) (arg19 : Memref sig .tc .vmem S1024x1024 .bf16) (harg19 : arg19.IsWhole)
    (x1 : Vec F S1024x1024 .f32) (x2 : Vec F S1024x512 .bf16) (x3 : Vec F S1024x512 .bf16) (x4 : Vec F S1024x1024 .bf16) (x5 : Vec F S1x1024 .f32) (x6 : Vec F S1x1024 .f32) (x7 : Vec F S1x256x1024 .bf16) (x8 : Vec F S1x256x1024 .bf16) (x9 : Vec F S1024x1024 .bf16) (x10 : Vec F S1024x1024 .bf16) (x11 : Vec F S1x1024 .f32) (x12 : Vec F S1x1024 .f32) (x13 : Vec F S40x1024 .bf16)

/-- The two stores of half the rows each fill the block of normalised rows. -/
theorem cover_13 : ∀ y, ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13).1, y ∈ pc.1.set :=
  fun y => View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13).1 S512x1024.size (by sl_kernel_rfl) y

set_option maxHeartbeats 1600000 in
/-- The sixteen strided stores fill the block of token tiles. -/
theorem cover_14 : ∀ y, ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13).2.1, y ∈ pc.1.set := by
  intro y
  have hy : (y 0).val < 8192 := (y 0).isLt
  have hp : (y 0).val < 4096 ∨ 4096 ≤ (y 0).val := by omega
  have hu : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7 := by omega
  rcases hp with hp | hp <;> rcases hu with hu | hu | hu | hu | hu | hu | hu | hu
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))))), mem_every_eighth 0 _ _ y (by omega) (by omega) (by omega)⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))))), mem_every_eighth 1 _ _ y (by omega) (by omega) (by omega)⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))))), mem_every_eighth 2 _ _ y (by omega) (by omega) (by omega)⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _)))))))))))), mem_every_eighth 3 _ _ y (by omega) (by omega) (by omega)⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.tail _ (List.Mem.head _))))))))))), mem_every_eighth 4 _ _ y (by omega) (by omega) (by omega)⟩
  · exact ⟨_, List.Mem.tail _ (List.Mem.tail _ (List.Mem.tail _ (List.Mem.tail _ (List.Mem.tail _ (List.Mem.tail _ (List.Mem.tail _ (List.Mem.tail _ (List.Mem.tail _ (List.Mem.tail _ (List.Mem.head _)))))))))), mem_every_eighth 5 _ _ y (by omega) (by omega) (by omega)⟩
  · exact ⟨_, List.Mem.tail _ (List.Mem.tail _ (List.Mem.tail _ (List.Mem.tail _ (List.Mem.tail _ (List.Mem.tail _ (List.Mem.tail _ (List.Mem.tail _ (List.Mem.tail _ (List.Mem.head _))))))))), mem_every_eighth 6 _ _ y (by omega) (by omega) (by omega)⟩
  · exact ⟨_, List.Mem.tail _ (List.Mem.tail _ (List.Mem.tail _ (List.Mem.tail _ (List.Mem.tail _ (List.Mem.tail _ (List.Mem.tail _ (List.Mem.tail _ (List.Mem.head _)))))))), mem_every_eighth 7 _ _ y (by omega) (by omega) (by omega)⟩
  · exact ⟨_, List.Mem.tail _ (List.Mem.tail _ (List.Mem.tail _ (List.Mem.tail _ (List.Mem.tail _ (List.Mem.tail _ (List.Mem.tail _ (List.Mem.head _))))))), mem_every_eighth 4096 _ _ y (by omega) (by omega) (by omega)⟩
  · exact ⟨_, List.Mem.tail _ (List.Mem.tail _ (List.Mem.tail _ (List.Mem.tail _ (List.Mem.tail _ (List.Mem.tail _ (List.Mem.head _)))))), mem_every_eighth 4097 _ _ y (by omega) (by omega) (by omega)⟩
  · exact ⟨_, List.Mem.tail _ (List.Mem.tail _ (List.Mem.tail _ (List.Mem.tail _ (List.Mem.tail _ (List.Mem.head _))))), mem_every_eighth 4098 _ _ y (by omega) (by omega) (by omega)⟩
  · exact ⟨_, List.Mem.tail _ (List.Mem.tail _ (List.Mem.tail _ (List.Mem.tail _ (List.Mem.head _)))), mem_every_eighth 4099 _ _ y (by omega) (by omega) (by omega)⟩
  · exact ⟨_, List.Mem.tail _ (List.Mem.tail _ (List.Mem.tail _ (List.Mem.head _))), mem_every_eighth 4100 _ _ y (by omega) (by omega) (by omega)⟩
  · exact ⟨_, List.Mem.tail _ (List.Mem.tail _ (List.Mem.head _)), mem_every_eighth 4101 _ _ y (by omega) (by omega) (by omega)⟩
  · exact ⟨_, List.Mem.tail _ (List.Mem.head _), mem_every_eighth 4102 _ _ y (by omega) (by omega) (by omega)⟩
  · exact ⟨_, List.Mem.head _, mem_every_eighth 4103 _ _ y (by omega) (by omega) (by omega)⟩

/-- The two stores of half the columns each fill the block of logits. -/
theorem cover_15 : ∀ y, ∃ pc ∈ (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13).2.2.1, y ∈ pc.1.set :=
  fun y => View.cover_of_tiledL (bodyRun c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13).2.2.1 S40x512.size (by sl_kernel_rfl) y

end Cover

variable (m : (ℓ : Loc nD τ sig) → Buf (Elt F) ℓ) (ρ : Dev nD → PrngReg)

/-- What the body leaves at grid point `t` in the block of normalised rows, -/
def rowsAt (c : Dev nD) (t : Fin cfg0.N) : Vec F S1024x1024 .f32 :=
  View.canon (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).1

/-- in the block of token tiles, -/
def tilesAt (c : Dev nD) (t : Fin cfg0.N) : Vec F S8192x128 .f32 :=
  View.canon (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.1

/-- and in the block of logits. -/
def logitsAt (c : Dev nD) (t : Fin cfg0.N) : Vec F S40x1024 .f32 :=
  View.canon (bodyRun c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.1

/-- The pipeline's data: every input window keeps its block, the three output windows hold what the body
    leaves at the point; nothing is owed and the scratch buffers carry nothing from point to point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => rowsAt m c t
    | ⟨14, _⟩ => tilesAt m c t
    | ⟨15, _⟩ => logitsAt m c t
    | ⟨_ + 16, h⟩ => absurd h (Nat.not_lt_of_le (Nat.le_add_left 16 _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = rowsAt m c t := by dsimp only [dats]
theorem after_14 (c : Dev nD) (t : Fin cfg0.N) : (dats m 0 c).after 14 t = tilesAt m c t := by dsimp only [dats]
theorem after_15 (c : Dev nD) (t : Fin cfg0.N) : (dats m 0 c).after 15 t = logitsAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d

/-- The scoped rest of the region: the three scratch buffers at some contents, and the generator. -/
theorem rest_eq (c : Dev nD) :
    (Pipeline.ΦA spec0 c : sProp 𝕄)
      = iprop(iprop((∃ d, owns (c : Thread nD τ) (Memref.whole cc0_scratch0 : Memref sig .tc .vmem S1024x1024 .f32) fullShare d) ∗ (∃ d, owns (c : Thread nD τ) (Memref.whole cc0_scratch1 : Memref sig .tc .vmem S1024x1024 .bf16) fullShare d) ∗ (∃ d, owns (c : Thread nD τ) (Memref.whole cc0_scratch2 : Memref sig .tc .vmem S1024x1024 .bf16) fullShare d)) ∗ (∃ r, prngReg c r)) := by
  unfold Pipeline.ΦA; rw [scopedRest0_eq]; simp only [owns_whole]; try rfl

/-- What the body is entered with at point `t`. -/
def entry (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d))
    ∗ (∃ d, owns (c : Thread nD τ) (win0_13.stage (cfg0.slots t 13)) fullShare ((dats m 0 c).before 13 t d))
    ∗ (∃ d, owns (c : Thread nD τ) (win0_14.stage (cfg0.slots t 14)) fullShare ((dats m 0 c).before 14 t d))
    ∗ (∃ d, owns (c : Thread nD τ) (win0_15.stage (cfg0.slots t 15)) fullShare ((dats m 0 c).before 15 t d)))

/-- What it leaves. -/
def exit (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ owns (c : Thread nD τ) (win0_10.stage (cfg0.slots t 10)) fullShare ((dats m 0 c).after 10 t)
    ∗ owns (c : Thread nD τ) (win0_11.stage (cfg0.slots t 11)) fullShare ((dats m 0 c).after 11 t)
    ∗ owns (c : Thread nD τ) (win0_12.stage (cfg0.slots t 12)) fullShare ((dats m 0 c).after 12 t)
    ∗ owns (c : Thread nD τ) (win0_13.stage (cfg0.slots t 13)) fullShare ((dats m 0 c).after 13 t)
    ∗ owns (c : Thread nD τ) (win0_14.stage (cfg0.slots t 14)) fullShare ((dats m 0 c).after 14 t)
    ∗ owns (c : Thread nD τ) (win0_15.stage (cfg0.slots t 15)) fullShare ((dats m 0 c).after 15 t))

set_option maxHeartbeats 4000000 in
/-- The body at any grid point, from the body's own run at the point's blocks. -/
theorem body_sound (c : Dev nD) (t : Fin cfg0.N) :
    entry m c t ⊢ wp frame (wpE (defs₀ (F := F)) Variants.none c none) Set.univ (bodyAt0 t) (fun _ => exit m c t) := by
  unfold entry exit bodyAt0
  simp only [before_0, before_1, before_2, before_3, before_4, before_5, before_6, before_7, before_8, before_9, before_10, before_11, before_12]
  rw [show (dats m 0 c).owesAt () t.succ = (dats m 0 c).owesAt () t.castSucc from rfl,
    after_0, after_1, after_2, after_3, after_4, after_5, after_6, after_7, after_8, after_9, after_10, after_11, after_12, after_13, after_14, after_15]
  rw [show (dats m 0 c).Φ t.succ = Pipeline.ΦA spec0 c from rfl, show (dats m 0 c).Φ t.castSucc = Pipeline.ΦA spec0 c from rfl, rest_eq]
  unfold rowsAt tilesAt logitsAt
  iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  iapply ((bodyRun c (grid0.coords t) _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)).2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  isplitl [H14]; · iexists _; iexact H14
  isplitl [H15]; · iexists _; iexact H15
  isplitl [HS0]; · iexact HS0
  isplitl [HS1]; · iexact HS1
  isplitl [HS2]; · iexact HS2
  iintro ⟨H0, H1, H2, H3, H4, H5, H6, H7, H8, H9, H10, H11, H12, ⟨%e13, H13⟩, ⟨%e14, H14⟩, ⟨%e15, H15⟩, ⟨%es0, HS0⟩, ⟨%es1, HS1⟩, ⟨%es2, HS2⟩⟩
  isplitl [HS0 HS1 HS2 Hg]
  · isplitl [HS0 HS1 HS2]
    · isplitl [HS0]
      · iexists _; unfold owns; iexists _; isplitr
        swap; · iexact HS0
        ipureintro; rfl
      isplitl [HS1]
      · iexists _; unfold owns; iexists _; isplitr
        swap; · iexact HS1
        ipureintro; rfl
      iexists _; unfold owns; iexists _; isplitr
      swap; · iexact HS2
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · unfold owns; iexists _; isplitr
    swap; · iexact H13
    ipureintro; exact View.read_writes_eq_canon _ _ _ (cover_13 _ _ _ _ _ _ _ _ _ _ _ _ _ _ _ _ _ _ _ _ _ _ _ _ _ _ _ _ _ _ _ _ _ _ _ _ _ _ _ _ _ _ _ _ _ _ _ _ _ _ _ _ _ )
  isplitl [H14]
  · unfold owns; iexists _; isplitr
    swap; · iexact H14
    ipureintro; exact View.read_writes_eq_canon _ _ _ (cover_14 _ _ _ _ _ _ _ _ _ _ _ _ _ _ _ _ _ _ _ _ _ _ _ _ _ _ _ _ _ _ _ _ _ _ _ _ _ _ _ _ _ _ _ _ _ _ _ _ _ _ _ _ _ )
  unfold owns; iexists _; isplitr
  swap; · iexact H15
  ipureintro; exact View.read_writes_eq_canon _ _ _ (cover_15 _ _ _ _ _ _ _ _ _ _ _ _ _ _ _ _ _ _ _ _ _ _ _ _ _ _ _ _ _ _ _ _ _ _ _ _ _ _ _ _ _ _ _ _ _ _ _ _ _ _ _ _ _ )

/-- The program's table of bodies, read at this pipeline's body. -/
theorem body_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, body_row]
  exact triple_restated (body_sound m c t) rfl .rfl fun _ => .rfl

set_option backward.isDefEq.respectTransparency.types false in
/-- The whole program ends, with every array as the pipeline's data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := fun _ => Idealize.SL.BI.Entails.refl _) (hout := fun _ => Idealize.SL.BI.Entails.refl _)

/-- The same without the counters. -/
theorem run_main : θ_run defs (onTc (τ := τ) (main (F := F))) (s₀ m ρ) (Pipeline.FramePost cfgs (dats m) 0 (V m)) :=
  (θ_run defs _ _).mono (fun _ h => h.1) (run_quiescent m ρ)

/-- The frame: the thirteen arguments end as they began and every counter ends at zero. -/
theorem frame_xattn : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  θ_run_and (frame_of m ρ (dats m) (A_eq m) (run_main m ρ)) ((θ_run defs _ _).mono (fun _ h => h.2) (run_quiescent m ρ))

end Cert.KernelIdeal.Xattn

end
-- ==== Proof.Consts.lean ====
/- The constants of the two programs, as the extended reals their patterns denote. -/
module

public import Idealize.ShloMosaic.PureOps.Ideal

@[expose] public section

noncomputable section

namespace Cert.Consts

open Idealize.ShloMosaic

/-- The reference's scale of the scores, one sixteenth. -/
theorem ofBits_sixteenth : Ideal.ofBits .f32 0x3D800000#32 = ((1 / 16 : ℝ) : EReal) := by
  simp [Ideal.ofBits, Ideal.ieee, -EReal.coe_mul]; norm_num

/-- The start of a maximum over a row is minus infinity. -/
theorem ofBits_neg_inf : Ideal.ofBits .f32 0xFF800000#32 = (⊥ : EReal) := by
  simp [Ideal.ofBits, Ideal.ieee]

end Cert.Consts

end
-- ==== Proof.Softmax.lean ====
/- Softmax by powers of two is softmax by powers of e: the one identity between the kernel's attention weights and the
   reference's, for every row of extended reals. -/
module

public import proofs.«01_k».proof.Proof.Consts

@[expose] public section

noncomputable section

namespace Cert.Softmax

open Idealize.ShloMosaic

/-- Scaling by a positive real passes through the maximum of a row. -/
theorem fold_max_mul (c : ℝ) (hc : 0 < c) {n : ℕ} (a : Fin n → EReal) :
    (Finset.univ.fold max (⊥ : EReal) fun m => a m * (c : EReal)) = (Finset.univ.fold max (⊥ : EReal) a) * (c : EReal) := by
  have hm : ∀ x y : EReal, max x y * (c : EReal) = max (x * (c : EReal)) (y * (c : EReal)) := fun x y =>
    Monotone.map_max (f := fun z : EReal => z * (c : EReal)) fun _ _ h => mul_le_mul_of_nonneg_right h (EReal.coe_nonneg.mpr hc.le)
  have h := Finset.fold_hom (op := max) (op' := max) (b := (⊥ : EReal)) (f := a) (s := Finset.univ) (m := fun z : EReal => z * (c : EReal)) hm
  rw [← h, EReal.bot_mul_coe_of_pos hc]

/-- A power of two is the power of `e` of the exponent times the logarithm of two. -/
theorem exp2_eq (y : EReal) : Ideal.exp2 y = Ideal.exp (y * ((Real.log 2 : ℝ) : EReal)) := by
  have h2 : 0 < Real.log 2 := Real.log_pos (by norm_num)
  induction y using EReal.rec with
  | bot => rw [EReal.bot_mul_coe_of_pos h2]; rfl
  | top => rw [EReal.top_mul_coe_of_pos h2]; rfl
  | coe r =>
    rw [← EReal.coe_mul, Ideal.exp2_coe, Ideal.exp_coe]
    congr 1
    show (2 : ℝ) ^ r = _
    rw [Real.rpow_def_of_pos (by norm_num), mul_comm]

/-- The kernel's scale times the logarithm of two is one sixteenth. -/
theorem scale_mul_log : (Real.log 65536)⁻¹ * Real.log 2 = 1 / 16 := by
  have h2 : 0 < Real.log 2 := Real.log_pos (by norm_num)
  have h : Real.log 65536 = 16 * Real.log 2 := by
    rw [show (65536 : ℝ) = 2 ^ 16 by norm_num, Real.log_pow]; norm_num
  rw [h]; field_simp

/-- The exponent of one weight: the kernel's scaled score less the row's scaled maximum, times the logarithm of
    two, is the reference's. -/
theorem weight_eq {n : ℕ} (a : Fin n → EReal) (m : Fin n) :
    Ideal.exp2 (a m * (((Real.log 65536)⁻¹ : ℝ) : EReal) - Finset.univ.fold max (⊥ : EReal) fun k => a k * (((Real.log 65536)⁻¹ : ℝ) : EReal))
      = Ideal.exp (a m * ((1 / 16 : ℝ) : EReal) - Finset.univ.fold max (⊥ : EReal) fun k => a k * ((1 / 16 : ℝ) : EReal)) := by
  have hc : 0 < (Real.log 65536)⁻¹ := inv_pos.mpr (Real.log_pos (by norm_num))
  have h2 : (0 : EReal) ≤ ((Real.log 2 : ℝ) : EReal) := EReal.coe_nonneg.mpr (Real.log_pos (by norm_num)).le
  rw [exp2_eq, fold_max_mul _ hc, fold_max_mul (1 / 16) (by norm_num), sub_eq_add_neg, sub_eq_add_neg,
    EReal.right_distrib_of_nonneg_of_ne_top h2 (EReal.coe_ne_top _), ← EReal.neg_mul, ← EReal.neg_mul, mul_assoc, mul_assoc,
    ← EReal.coe_mul, scale_mul_log]

end Cert.Softmax

end
-- ==== Proof.Layer.lean ====
/- The cross-attention layer on one token, over the extended reals: the functions both programs are shown to compute. -/
module

public import Idealize.ShloMosaic.PureOps.Ideal
public import Idealize.ShloMosaic.Lib.IdealHost
public import Idealize.ShloMosaic.Lib.Pointwise

@[expose] public section

noncomputable section

namespace Cert.Layer

open Idealize.ShloMosaic

/-- The mean of a row of 1024 lanes. -/
def rowMean (v : Fin 1024 → EReal) : EReal := Ideal.div (∑ k, v k) (Ideal.ofBits .f32 0x44800000#32)

/-- One lane of the layer norm of a row, with its gain and its bias. -/
def layerNorm (v g b : Fin 1024 → EReal) (j : Fin 1024) : EReal :=
  (v j - rowMean v) * Ideal.rsqrt (Ideal.div (∑ k, (v k - rowMean v) * (v k - rowMean v)) (Ideal.ofBits .f32 0x44800000#32)
    + Ideal.ofBits .f32 0x3727C5AC#32) * g j + b j

/-- The row after the mixers: the residual row times its weight plus the projection of the two mixers' outputs, normalised. -/
def mixRow (x : Fin 1024 → EReal) (yr yd : Fin 512 → EReal) (w : Fin 1024 → Fin 1024 → EReal) (g b : Fin 1024 → EReal) : Fin 1024 → EReal :=
  layerNorm (fun j => Ideal.ofBits .f32 0x3F9837F0#32 * x j
    + ((∑ k : Fin 512, yr k * w (k.castLE (by norm_num)) j) + ∑ k : Fin 512, yd k * w (k.natAdd 512) j)) g b

/-- The query of a row. -/
def queryRow (v : Fin 1024 → EReal) (w : Fin 1024 → Fin 1024 → EReal) (j : Fin 1024) : EReal := ∑ k, v k * w k j

/-- The lane `d` of the head that lane `j` lies in. -/
def headLane (j : Fin 1024) (d : Fin 256) : Fin 1024 := ⟨256 * (j.val / 256) + d.val, by omega⟩

/-- The weight of memory slot `m` before its division: the exponential of the scaled score less the scaled maximum. -/
def weight (s : Fin 256 → EReal) (m : Fin 256) : EReal :=
  Ideal.exp (s m * ((1 / 16 : ℝ) : EReal) - Finset.univ.fold max (⊥ : EReal) fun k => s k * ((1 / 16 : ℝ) : EReal))

/-- The softmax of the scores of one head, applied to one lane of the values. -/
def attend (s v : Fin 256 → EReal) : EReal := ∑ m, Ideal.div (weight s m) (∑ k, weight s k) * v m

/-- One lane of the attention over the memory. -/
def attRow (q : Fin 1024 → EReal) (k v : Fin 256 → Fin 1024 → EReal) (j : Fin 1024) : EReal :=
  attend (fun m => ∑ d, q (headLane j d) * k m (headLane j d)) (fun m => v m j)

/-- The row after the attention: the residual row times its weight plus the projected attention, normalised. -/
def outRow (x a : Fin 1024 → EReal) (w : Fin 1024 → Fin 1024 → EReal) (g b : Fin 1024 → EReal) : Fin 1024 → EReal :=
  layerNorm (fun j => Ideal.ofBits .f32 0x3F9837F0#32 * x j + ∑ k, a k * w k j) g b

/-- The whole call on one token. -/
def row (x : Fin 1024 → EReal) (yr yd : Fin 512 → EReal) (w : Fin 1024 → Fin 1024 → EReal) (g₁ b₁ : Fin 1024 → EReal)
    (k v : Fin 256 → Fin 1024 → EReal) (wq wo : Fin 1024 → Fin 1024 → EReal) (g₂ b₂ : Fin 1024 → EReal) : Fin 1024 → EReal :=
  outRow (mixRow x yr yd w g₁ b₁) (attRow (queryRow (mixRow x yr yd w g₁ b₁) wq) k v) wo g₂ b₂

/-- Row `e` of the routing weights: four groups, then thirty-two experts, then rows of zeros. -/
def routeW (wg : Fin 1024 → Fin 4 → EReal) (we : Fin 1024 → Fin 32 → EReal) (e : Fin 40) (k : Fin 1024) : EReal :=
  if h : e.val < 4 then wg k ⟨e.val, h⟩ else if h' : e.val < 36 then we k ⟨e.val - 4, by omega⟩ else 0

/-- The routing logit `e` of a row. -/
def logit (wg : Fin 1024 → Fin 4 → EReal) (we : Fin 1024 → Fin 32 → EReal) (v : Fin 1024 → EReal) (e : Fin 40) : EReal :=
  ∑ k, routeW wg we e k * v k

section Arrays

variable (X : Vec Ideal ⟨3, ![2, 8192, 1024]⟩ .f32) (YR YD : Vec Ideal ⟨3, ![2, 8192, 512]⟩ .bf16) (W : Vec Ideal ⟨3, ![1, 1024, 1024]⟩ .f32)
  (G₁ B₁ : Vec Ideal ⟨2, ![1, 1024]⟩ .f32) (KV : Vec Ideal ⟨3, ![2, 256, 2048]⟩ .bf16) (WQ WO : Vec Ideal ⟨3, ![1, 1024, 1024]⟩ .f32)
  (G₂ B₂ : Vec Ideal ⟨2, ![1, 1024]⟩ .f32) (RG : Vec Ideal ⟨3, ![1, 1024, 4]⟩ .f32) (RE : Vec Ideal ⟨3, ![1, 1024, 32]⟩ .f32)

/-- The row of the token at position `s` of sequence `b`, as a function of the argument arrays. -/
def token (b : Fin 2) (s : Fin 8192) : Fin 1024 → EReal :=
  row (fun j => X (ix3 b s j)) (fun k => YR (ix3 b s k)) (fun k => YD (ix3 b s k)) (fun k j => W (ix3 0 k j)) (fun j => G₁ (ix2 0 j)) (fun j => B₁ (ix2 0 j))
    (fun m j => KV (ix3 b m (j.castLE (by norm_num)))) (fun m j => KV (ix3 b m (j.natAdd 1024))) (fun k j => WQ (ix3 0 k j)) (fun k j => WO (ix3 0 k j))
    (fun j => G₂ (ix2 0 j)) (fun j => B₂ (ix2 0 j))

/-- The rows of all tokens, one below the other. -/
def rows : Vec Ideal ⟨2, ![16384, 1024]⟩ .f32 := fun y =>
  token X YR YD W G₁ B₁ KV WQ WO G₂ B₂ ⟨(y 0).val / 8192, by have : (y 0).val < 16384 := (y 0).isLt; omega⟩ ⟨(y 0).val % 8192, by omega⟩ (y 1)

/-- The same rows cut into tiles of 128 lanes, eight tiles to a token. -/
def tiles : Vec Ideal ⟨2, ![131072, 128]⟩ .f32 := fun y =>
  rows X YR YD W G₁ B₁ KV WQ WO G₂ B₂ (ix2 (⟨(y 0).val / 8, by have : (y 0).val < 131072 := (y 0).isLt; omega⟩ : Fin 16384)
    (⟨128 * ((y 0).val % 8) + (y 1).val, by have : (y 1).val < 128 := (y 1).isLt; omega⟩ : Fin 1024))

/-- The routing logits of all tokens, one column to a token. -/
def logits : Vec Ideal ⟨2, ![40, 16384]⟩ .f32 := fun y =>
  logit (fun k e => RG (ix3 0 k e)) (fun k e => RE (ix3 0 k e)) (fun j => rows X YR YD W G₁ B₁ KV WQ WO G₂ B₂ (ix2 (y 1) j)) (y 0)

end Arrays

end Cert.Layer

end
-- ==== Proof.Payloads.lean ====
/- The cross-attention program over the extended reals: each block the body computes, read at a row and a lane. -/
module

public import proofs.«01_k».proof.Proof.Gen.KernelIdeal.Skeleton
public import proofs.«01_k».proof.Proof.Softmax
public import proofs.«01_k».proof.Proof.Layer
public import Idealize.ShloMosaic.Lib.Pointwise

@[expose] public section

set_option maxRecDepth 16384

noncomputable section

namespace Cert.KernelIdeal.Xattn

open Cert.KernelIdeal.Gen Cert.Layer
open Idealize.ShloMosaic

/-- The first half's normalised row: two products of half the depth, the weighted residual, and the layer norm. -/
theorem mix_apply (yr yd : Vec Ideal S512x512 .bf16) (wl wh : Vec Ideal S512x1024 .bf16) (x : Vec Ideal S512x1024 .f32) (g b : Vec Ideal S1x1024 .f32)
    (r : Fin 512) (j : Fin 1024) :
    k0_pay9 (k0_pay6 b) (k0_pay7 yr wl yd wh x) (k0_pay8 g) (ix2 r j)
      = layerNorm (fun j => Ideal.ofBits .f32 0x3F9837F0#32 * x (ix2 r j) + ((∑ k, yr (ix2 r k) * wl (ix2 k j)) + ∑ k, yd (ix2 r k) * wh (ix2 k j)))
          (fun j => g (ix2 0 j)) (fun j => b (ix2 0 j)) j := by
  unfold layerNorm rowMean
  pointwise [k0_pay9, k0_pay6, k0_pay7, k0_pay8]

/-- The second half's is the same function. -/
theorem mix_second (yr yd : Vec Ideal S512x512 .bf16) (wl wh : Vec Ideal S512x1024 .bf16) (x : Vec Ideal S512x1024 .f32) (g b : Vec Ideal S1x1024 .f32) :
    k0_pay15 (k0_pay10 g) (k0_pay11 b) (k0_pay12 yr wl yd wh x) (k0_pay13 yr wl yd wh x) k0_pay14
      = k0_pay9 (k0_pay6 b) (k0_pay7 yr wl yd wh x) (k0_pay8 g) := rfl

/-- The queries of half the rows. -/
theorem query_apply (v : Vec Ideal S512x1024 .f32) (w : Vec Ideal S1024x1024 .bf16) (r : Fin 512) (j : Fin 1024) :
    k0_pay16 v w (ix2 r j) = ∑ k, v (ix2 r k) * w (ix2 k j) := by
  pointwise [k0_pay16]

/-- The kernel's named scale is the reciprocal of the logarithm of 65536. -/
theorem scale_eq : Named.named (F := Ideal) κ "scale" (φ := .f32) 0x3DB8AA3B#32 = (((Real.log 65536)⁻¹ : ℝ) : EReal) :=
  IdealRules.named_const.ideal_named_scalar _ _ _ _ rfl

/-- One head on half the rows is the softmax of its scaled scores applied to the values. -/
theorem head_apply (q : Vec Ideal S512x256 .bf16) (k v : Vec Ideal S1x256x256 .bf16) (r : Fin 512) (j : Fin 256) :
    k0_pay23 q k v (ix2 r j) = attend (fun m => ∑ d, q (ix2 r d) * k (ix3 0 m d)) (fun m => v (ix3 0 m j)) := by
  have hw : ∀ m, weight (fun m => ∑ d, q (ix2 r d) * k (ix3 0 m d)) m = _ := fun m => (Softmax.weight_eq (fun m => ∑ d, q (ix2 r d) * k (ix3 0 m d)) m).symm
  unfold attend
  simp only [hw, ← scale_eq, ← Consts.ofBits_neg_inf]
  pointwise [k0_pay23]
  rfl

/-- The seven other heads are the same function. -/
theorem head_0 (q : Vec Ideal S512x256 .bf16) (k v : Vec Ideal S1x256x256 .bf16) :
    k0_pay19 q (k0_pay18 k) (constant S512x256 .f32 0x00000000#32) v = k0_pay23 q k v := rfl
theorem head_1 (q : Vec Ideal S512x256 .bf16) (k v : Vec Ideal S1x256x256 .bf16) : k0_pay22 (k0_pay20 v) (k0_pay21 q k) = k0_pay23 q k v := rfl
theorem head_3 (q : Vec Ideal S512x256 .bf16) (k v : Vec Ideal S1x256x256 .bf16) : k0_pay26 (k0_pay24 q k) k0_pay25 v = k0_pay23 q k v := rfl
theorem head_4 (q : Vec Ideal S512x256 .bf16) (k v : Vec Ideal S1x256x256 .bf16) : k0_pay28 (k0_pay27 q k v) = k0_pay23 q k v := rfl
theorem head_5 (q : Vec Ideal S512x256 .bf16) (k v : Vec Ideal S1x256x256 .bf16) : k0_pay29 q k v = k0_pay23 q k v := rfl
theorem head_6 (q : Vec Ideal S512x256 .bf16) (k v : Vec Ideal S1x256x256 .bf16) : k0_pay32 (k0_pay30 q k) (k0_pay31 q k) v = k0_pay23 q k v := rfl
theorem head_7 (q : Vec Ideal S512x256 .bf16) (k v : Vec Ideal S1x256x256 .bf16) : k0_pay34 (k0_pay33 q k v) = k0_pay23 q k v := rfl

/-- The finished rows of one half: the output projection, the weighted residual, and the layer norm. -/
theorem finish_apply (a : Vec Ideal S512x1024 .bf16) (wo : Vec Ideal S1024x1024 .bf16) (x : Vec Ideal S512x1024 .f32) (g b : Vec Ideal S1x1024 .f32)
    (r : Fin 512) (j : Fin 1024) :
    k0_pay35 a wo x g b (ix2 r j)
      = layerNorm (fun j => Ideal.ofBits .f32 0x3F9837F0#32 * x (ix2 r j) + (∑ k, a (ix2 r k) * wo (ix2 k j)))
          (fun j => g (ix2 0 j)) (fun j => b (ix2 0 j)) j := by
  unfold layerNorm rowMean
  pointwise [k0_pay35]

/-- The second half's is the same function. -/
theorem finish_second (a : Vec Ideal S512x1024 .bf16) (wo : Vec Ideal S1024x1024 .bf16) (x : Vec Ideal S512x1024 .f32) (g b : Vec Ideal S1x1024 .f32) :
    k0_pay46 (k0_pay45 a wo) x (FloatOps.ofBits .f32 0x3F9837F0#32) g b = k0_pay35 a wo x g b := rfl

/-- The routing logits of half the rows. -/
theorem logits_apply (v : Vec Ideal S512x1024 .f32) (w : Vec Ideal S40x1024 .bf16) (e : Fin 40) (r : Fin 512) :
    k0_pay5 v w (ix2 e r) = ∑ k, w (ix2 e k) * v (ix2 r k) := by
  pointwise [k0_pay5]

theorem logits_first (v : Vec Ideal S512x1024 .f32) (w : Vec Ideal S40x1024 .bf16) : k0_pay44 v w = k0_pay5 v w := rfl

end Cert.KernelIdeal.Xattn

end
-- ==== Proof.Boxes.lean ====
/- Boxes of a buffer over the extended reals: what a load of a box reads, and what stores of boxes of one function
   leave. -/
module

public import Idealize.ShloMosaic.Lib.Pipeline.ValueKit
public import Idealize.ShloMosaic.Lib.Pipeline.ReadBack
public import Idealize.ShloMosaic.Lib.Pointwise
public import Idealize.ShloMosaic.Lib.Tactic.CleanTypes

@[expose] public section

noncomputable section

namespace Cert.Layer

open Idealize.ShloMosaic Idealize.ShloMosaic.Tactic

/-- A box of a matrix at row `o` and lane `p`, read at an index. -/
theorem box_idx {N M n m : ℕ} (o p : ℕ) (inb) (r : Fin n) (j : Fin m) (hr : o + r.val < N) (hj : p + j.val < M) :
    (Rect.unit (s := ⟨2, ![N, M]⟩) ![o, p] ![n, m] inb).toLoadRect.idx (ix2 r j) = ix2 (⟨o + r.val, hr⟩ : Fin N) (⟨p + j.val, hj⟩ : Fin M) := by
  funext a
  match a with
  | ⟨0, _⟩ => exact Fin.ext (show o + 1 * r.val = o + r.val by omega)
  | ⟨1, _⟩ => exact Fin.ext (show p + 1 * j.val = p + j.val by omega)

/-- The whole of a matrix is itself. -/
theorem ld_full {N M : ℕ} {e : EltTy} (X : Vec Ideal ⟨2, ![N, M]⟩ e) (inb) :
    View.ld (Val := Elt Ideal) X (Rect.unit (s := ⟨2, ![N, M]⟩) ![0, 0] ![N, M] inb) = X := by
  funext y
  rw [eq_ix2 y]
  show X ((Rect.unit (s := ⟨2, ![N, M]⟩) ![0, 0] ![N, M] inb).toLoadRect.idx (ix2 (y 0) (y 1))) = _
  rw [box_idx 0 0 inb (y 0) (y 1) (by have := (y 0).isLt; simpa using this) (by have := (y 1).isLt; simpa using this)]
  congr 2 <;> exact Fin.ext (Nat.zero_add _)

/-- A read of stores that are blocks of one function and fill the buffer is a block of it. -/
theorem readCov_of {sg : RefSig} {κ : Kind} {sp : Space} {s : Shape} {e : EltTy} (v : View sg κ sp s e) (L : List (View.Piece (Elt Ideal) s e)) (G : s.Idx → Elt Ideal e)
    (h : View.PiecesOf G L) (hc : ∀ y, ∃ p ∈ L, y ∈ p.1.set) (B : Rect s) : v.readCov L B.toLoadRect = View.ld G B := by
  rw [View.readCov_eq_canon']
  funext j
  exact View.canon_apply_of_pieces G L h.mem _ (hc _)

end Cert.Layer

end
-- ==== Proof.Blocks.lean ====
/- The cross-attention program over the extended reals: what the body leaves in its three output blocks, as the
   layer's function of the blocks it reads. -/
module

public import proofs.«01_k».proof.Proof.FrameIdeal
public import proofs.«01_k».proof.Proof.Payloads
public import proofs.«01_k».proof.Proof.Boxes
public import Idealize.ShloMosaic.Lib.Pipeline.ValueKit
public import Idealize.ShloMosaic.Lib.Pipeline.ReadBack

@[expose] public section

set_option maxRecDepth 16384

noncomputable section

namespace Cert.KernelIdeal.Xattn

open Cert.KernelIdeal.Gen Cert.Layer
open Idealize.ShloMosaic Idealize.ShloMosaic.TcCoe Idealize.ShloMosaic.Tactic

/-! ### Blocks of a buffer -/

/-- A box of a stack of one matrix at lane `p`, read at an index. -/
theorem box_idx3 {M n m : ℕ} (p : ℕ) (inb) (r : Fin n) (j : Fin m) (hj : p + j.val < M) :
    (Rect.unit (s := ⟨3, ![1, n, M]⟩) ![0, 0, p] ![1, n, m] inb).toLoadRect.idx (ix3 0 r j) = ix3 0 r (⟨p + j.val, hj⟩ : Fin M) := by
  funext a
  match a with
  | ⟨0, _⟩ => rfl
  | ⟨1, _⟩ => exact Fin.ext (show 0 + 1 * r.val = r.val by omega)
  | ⟨2, _⟩ => exact Fin.ext (show p + 1 * j.val = p + j.val by omega)

/-! ### The layer's function of the blocks -/

/-- The rows after the mixers, of the blocks a point reads. -/
def mixV (x1 : Vec Ideal S1024x1024 .f32) (x2 x3 : Vec Ideal S1024x512 .bf16) (x4 : Vec Ideal S1024x1024 .bf16) (x5 x6 : Vec Ideal S1x1024 .f32) : Vec Ideal S1024x1024 .f32 :=
  fun y => mixRow (fun j => x1 (ix2 (y 0) j)) (fun k => x2 (ix2 (y 0) k)) (fun k => x3 (ix2 (y 0) k)) (fun k j => x4 (ix2 k j)) (fun j => x5 (ix2 0 j)) (fun j => x6 (ix2 0 j)) (y 1)

/-- The queries of a block of rows. -/
def queryV (M : Vec Ideal S1024x1024 .f32) (x9 : Vec Ideal S1024x1024 .bf16) : Vec Ideal S1024x1024 .bf16 :=
  fun y => queryRow (fun k => M (ix2 (y 0) k)) (fun k j => x9 (ix2 k j)) (y 1)

/-- The attention of a block of queries over a block of keys and values. -/
def attV (Q : Vec Ideal S1024x1024 .bf16) (x7 x8 : Vec Ideal S1x256x1024 .bf16) : Vec Ideal S1024x1024 .bf16 :=
  fun y => attRow (fun j => Q (ix2 (y 0) j)) (fun m j => x7 (ix3 0 m j)) (fun m j => x8 (ix3 0 m j)) (y 1)

/-- The finished rows of a block. -/
def outV (M : Vec Ideal S1024x1024 .f32) (A x10 : Vec Ideal S1024x1024 .bf16) (x11 x12 : Vec Ideal S1x1024 .f32) : Vec Ideal S1024x1024 .f32 :=
  fun y => outRow (fun j => M (ix2 (y 0) j)) (fun j => A (ix2 (y 0) j)) (fun k j => x10 (ix2 k j)) (fun j => x11 (ix2 0 j)) (fun j => x12 (ix2 0 j)) (y 1)

/-- The finished rows laid out token by token, eight tiles of 128 lanes to a token. -/
def tileV (O : Vec Ideal S1024x1024 .f32) : Vec Ideal S8192x128 .f32 := fun y =>
  O (ix2 (⟨(y 0).val / 8, by have : (y 0).val < 8192 := (y 0).isLt; omega⟩ : Fin 1024) (⟨128 * ((y 0).val % 8) + (y 1).val, by have : (y 1).val < 128 := (y 1).isLt; omega⟩ : Fin 1024))

/-- The routing logits of a block of rows. -/
def logitsV (O : Vec Ideal S1024x1024 .f32) (x13 : Vec Ideal S40x1024 .bf16) : Vec Ideal S40x1024 .f32 :=
  fun y => ∑ k : Fin 1024, x13 (ix2 (y 0) k) * O (ix2 (y 1) k)

/-! ### Each stored block is a block of that function -/

theorem mix_block (x1 : Vec Ideal S1024x1024 .f32) (x2 x3 : Vec Ideal S1024x512 .bf16) (x4 : Vec Ideal S1024x1024 .bf16) (x5 x6 : Vec Ideal S1x1024 .f32)
    (o : ℕ) (ho : o + 512 ≤ 1024) (i1 i2 i3 i4 i5) :
    k0_pay9 (k0_pay6 (View.ld (Val := Elt Ideal) x6 (Rect.unit ![0, 0] S1x1024.size i5)))
      (k0_pay7 (View.ld (Val := Elt Ideal) x2 (Rect.unit ![o, 0] S512x512.size i2)) (View.ld (Val := Elt Ideal) x4 (Rect.unit ![0, 0] S512x1024.size i3))
        (View.ld (Val := Elt Ideal) x3 (Rect.unit ![o, 0] S512x512.size i2)) (View.ld (Val := Elt Ideal) x4 (Rect.unit ![512, 0] S512x1024.size i4))
        (View.ld (Val := Elt Ideal) x1 (Rect.unit ![o, 0] S512x1024.size i1)))
      (k0_pay8 (View.ld (Val := Elt Ideal) x5 (Rect.unit ![0, 0] S1x1024.size i5)))
      = View.ld (Val := Elt Ideal) (mixV x1 x2 x3 x4 x5 x6) (Rect.unit ![o, 0] S512x1024.size i1) := by
  rw [ld_full, ld_full]
  funext y
  obtain ⟨r, j, rfl⟩ : ∃ (r : Fin 512) (j : Fin 1024), y = ix2 r j := ⟨y 0, y 1, eq_ix2 y⟩
  have hr := r.isLt
  rw [mix_apply]
  unfold View.ld
  rw [box_idx o 0 i1 r j (by omega) (by omega)]
  show _ = mixRow _ _ _ _ _ _ (⟨0 + j.val, _⟩ : Fin 1024)
  unfold mixRow
  have hj : (⟨0 + j.val, by omega⟩ : Fin 1024) = j := Fin.ext (Nat.zero_add _)
  rw [hj]
  congr 1
  funext j
  rw [box_idx o 0 i1 r j (by omega) (by omega)]
  have hj : (⟨0 + j.val, by omega⟩ : Fin 1024) = j := Fin.ext (Nat.zero_add _)
  rw [hj]
  refine congrArg₂ (· + ·) rfl (congrArg₂ (· + ·) (Finset.sum_congr rfl fun k _ => ?_) (Finset.sum_congr rfl fun k _ => ?_))
  · rw [box_idx o 0 i2 r k (by omega) (by omega), box_idx 0 0 i3 k j (by omega) (by omega)]
    have hk : (⟨0 + k.val, by omega⟩ : Fin 512) = k := Fin.ext (Nat.zero_add _)
    have hk' : (⟨0 + k.val, by omega⟩ : Fin 1024) = k.castLE (by norm_num) := Fin.ext (Nat.zero_add _)
    rw [hk, hk', hj]; rfl
  · rw [box_idx o 0 i2 r k (by omega) (by omega), box_idx 512 0 i4 k j (by omega) (by omega)]
    have hk : (⟨0 + k.val, by omega⟩ : Fin 512) = k := Fin.ext (Nat.zero_add _)
    rw [hk, hj]; rfl

theorem query_block (M : Vec Ideal S1024x1024 .f32) (x9 : Vec Ideal S1024x1024 .bf16) (o : ℕ) (ho : o + 512 ≤ 1024) (i1 i2) :
    k0_pay16 (View.ld (Val := Elt Ideal) M (Rect.unit ![o, 0] S512x1024.size i1)) (View.ld (Val := Elt Ideal) x9 (Rect.unit ![0, 0] S1024x1024.size i2))
      = View.ld (Val := Elt Ideal) (queryV M x9) (Rect.unit ![o, 0] S512x1024.size i1) := by
  rw [ld_full]
  funext y
  obtain ⟨r, j, rfl⟩ : ∃ (r : Fin 512) (j : Fin 1024), y = ix2 r j := ⟨y 0, y 1, eq_ix2 y⟩
  have hr := r.isLt
  rw [query_apply]
  unfold View.ld
  rw [box_idx o 0 i1 r j (by omega) (by omega)]
  show _ = ∑ k : Fin 1024, M (ix2 (⟨o + r.val, by omega⟩ : Fin 1024) k) * x9 (ix2 k (⟨0 + j.val, by omega⟩ : Fin 1024))
  refine Finset.sum_congr rfl fun k _ => ?_
  rw [box_idx o 0 i1 r k (by omega) (by omega)]
  have hj : (⟨0 + j.val, by omega⟩ : Fin 1024) = j := Fin.ext (Nat.zero_add _)
  have hk : (⟨0 + k.val, by omega⟩ : Fin 1024) = k := Fin.ext (Nat.zero_add _)
  rw [hk, hj]

theorem head_block (Q : Vec Ideal S1024x1024 .bf16) (x7 x8 : Vec Ideal S1x256x1024 .bf16) (o p : ℕ) (ho : o + 512 ≤ 1024) (hp : p + 256 ≤ 1024) (hd : p % 256 = 0) (i1 i2) :
    k0_pay23 (View.ld (Val := Elt Ideal) Q (Rect.unit ![o, p] S512x256.size i1)) (View.ld (Val := Elt Ideal) x7 (Rect.unit ![0, 0, p] S1x256x256.size i2))
        (View.ld (Val := Elt Ideal) x8 (Rect.unit ![0, 0, p] S1x256x256.size i2))
      = View.ld (Val := Elt Ideal) (attV Q x7 x8) (Rect.unit ![o, p] S512x256.size i1) := by
  funext y
  obtain ⟨r, j, rfl⟩ : ∃ (r : Fin 512) (j : Fin 256), y = ix2 r j := ⟨y 0, y 1, eq_ix2 y⟩
  have hr := r.isLt
  rw [head_apply]
  unfold View.ld
  rw [box_idx o p i1 r j (by omega) (by omega)]
  unfold attV attRow
  show attend _ _ = attend _ _
  congr 1
  · funext m
    refine Finset.sum_congr rfl fun d _ => ?_
    rw [box_idx o p i1 r d (by omega) (by omega), box_idx3 p i2 m d (by omega)]
    have hl : headLane (⟨p + j.val, by omega⟩ : Fin 1024) d = ⟨p + d.val, by omega⟩ := Fin.ext (by show 256 * ((p + j.val) / 256) + d.val = p + d.val; omega)
    show _ = Q (ix2 (⟨o + r.val, by omega⟩ : Fin 1024) (headLane (⟨p + j.val, by omega⟩ : Fin 1024) d)) * x7 (ix3 0 m (headLane (⟨p + j.val, by omega⟩ : Fin 1024) d))
    rw [hl]
  · funext m
    rw [box_idx3 p i2 m j (by omega)]; rfl

theorem finish_block (M : Vec Ideal S1024x1024 .f32) (A x10 : Vec Ideal S1024x1024 .bf16) (x11 x12 : Vec Ideal S1x1024 .f32) (o : ℕ) (ho : o + 512 ≤ 1024) (i1 i2 i3) :
    k0_pay35 (View.ld (Val := Elt Ideal) A (Rect.unit ![o, 0] S512x1024.size i1)) (View.ld (Val := Elt Ideal) x10 (Rect.unit ![0, 0] S1024x1024.size i2))
        (View.ld (Val := Elt Ideal) M (Rect.unit ![o, 0] S512x1024.size i1)) (View.ld (Val := Elt Ideal) x11 (Rect.unit ![0, 0] S1x1024.size i3))
        (View.ld (Val := Elt Ideal) x12 (Rect.unit ![0, 0] S1x1024.size i3))
      = View.ld (Val := Elt Ideal) (outV M A x10 x11 x12) (Rect.unit ![o, 0] S512x1024.size i1) := by
  rw [ld_full, ld_full, ld_full]
  funext y
  obtain ⟨r, j, rfl⟩ : ∃ (r : Fin 512) (j : Fin 1024), y = ix2 r j := ⟨y 0, y 1, eq_ix2 y⟩
  have hr := r.isLt
  rw [finish_apply]
  unfold View.ld
  rw [box_idx o 0 i1 r j (by omega) (by omega)]
  show _ = outRow _ _ _ _ _ (⟨0 + j.val, _⟩ : Fin 1024)
  unfold outRow
  have hj : (⟨0 + j.val, by omega⟩ : Fin 1024) = j := Fin.ext (Nat.zero_add _)
  rw [hj]
  congr 1
  funext j
  rw [box_idx o 0 i1 r j (by omega) (by omega)]
  have hj : (⟨0 + j.val, by omega⟩ : Fin 1024) = j := Fin.ext (Nat.zero_add _)
  rw [hj]
  refine congrArg₂ (· + ·) rfl (Finset.sum_congr rfl fun k _ => ?_)
  rw [box_idx o 0 i1 r k (by omega) (by omega)]
  have hk : (⟨0 + k.val, by omega⟩ : Fin 1024) = k := Fin.ext (Nat.zero_add _)
  rw [hk]; rfl

theorem logits_block (O : Vec Ideal S1024x1024 .f32) (x13 : Vec Ideal S40x1024 .bf16) (o : ℕ) (ho : o + 512 ≤ 1024) (i1 i2 i3) :
    k0_pay5 (View.ld (Val := Elt Ideal) O (Rect.unit ![o, 0] S512x1024.size i1)) (View.ld (Val := Elt Ideal) x13 (Rect.unit ![0, 0] ![40, 1024] i2))
      = View.ld (Val := Elt Ideal) (logitsV O x13) (Rect.unit ![0, o] ![40, 512] i3) := by
  rw [ld_full]
  funext y
  obtain ⟨e, r, rfl⟩ : ∃ (e : Fin 40) (r : Fin 512), y = ix2 e r := ⟨y 0, y 1, eq_ix2 y⟩
  have hr := r.isLt
  rw [logits_apply]
  unfold View.ld
  rw [box_idx 0 o i3 e r (by omega) (by omega)]
  show _ = ∑ k : Fin 1024, x13 (ix2 (⟨0 + e.val, by omega⟩ : Fin 40) k) * O (ix2 (⟨o + r.val, by omega⟩ : Fin 1024) k)
  refine Finset.sum_congr rfl fun k _ => ?_
  rw [box_idx o 0 i1 r k (by omega) (by omega)]
  have he : (⟨0 + e.val, by omega⟩ : Fin 40) = e := Fin.ext (Nat.zero_add _)
  have hk : (⟨0 + k.val, by omega⟩ : Fin 1024) = k := Fin.ext (Nat.zero_add _)
  rw [hk, he]

/-- A store of 128 lanes of half the rows, with row stride eight, is a block of the token layout. -/
theorem tile_block (O : Vec Ideal S1024x1024 .f32) (p u : ℕ) (i1) (hp : p < 2) (hu : u < 8) (inb : ∀ a, S512x128.size a = 0 ∨ (![4096 * p + u, 0] : Fin 2 → ℕ) a + (![8, 1] : Fin 2 → ℕ) a * (S512x128.size a - 1) < S8192x128.size a)
    (P : Vec Ideal S512x128 .f32)
    (h : ∀ (r : Fin 512) (j : Fin 128), P (ix2 r j) = View.ld (Val := Elt Ideal) O (Rect.unit ![512 * p, 0] S512x1024.size i1) (ix2 r (⟨128 * u + j.val, by omega⟩ : Fin 1024))) (y : S512x128.Idx) :
    P y = tileV O ((⟨⟨![4096 * p + u, 0], S512x128.size, ![8, 1], inb⟩, spos_8_1⟩ : Rect S8192x128).emb y) := by
  obtain ⟨r, j, rfl⟩ : ∃ (r : Fin 512) (j : Fin 128), y = ix2 r j := ⟨y 0, y 1, eq_ix2 y⟩
  have hr := r.isLt
  have hj := j.isLt
  rw [h]
  unfold View.ld
  rw [box_idx (512 * p) 0 i1 r ⟨128 * u + j.val, by omega⟩ (by omega) (by show 0 + (128 * u + j.val) < 1024; omega)]
  unfold tileV
  congr 2
  · exact Fin.ext (show 512 * p + r.val = (4096 * p + u + 8 * r.val) / 8 by omega)
  · exact Fin.ext (show 0 + (128 * u + j.val) = 128 * ((4096 * p + u + 8 * r.val) % 8) + (0 + 1 * j.val) by omega)

/-- Taking 128 lanes of a half block from lane `q` on, read at an index. -/
theorem slice_apply (X : Vec Ideal S512x1024 .f32) (q : ℕ) (h) (r : Fin 512) (j : Fin 128) (hj : q + j.val < 1024) :
    extractStridedSlice S512x128 ![0, q] X h (ix2 r j) = X (ix2 r (⟨q + j.val, hj⟩ : Fin 1024)) := by
  pointwise

section Body

variable (c : Dev nD) (i : grid0.Coords) (arg1 : Memref sig .tc .vmem S1024x1024 .f32) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1x256x1024 .bf16) (harg7 : arg7.IsWhole) (arg8 : Memref sig .tc .vmem S1x256x1024 .bf16) (harg8 : arg8.IsWhole) (arg9 : Memref sig .tc .vmem S1024x1024 .bf16) (harg9 : arg9.IsWhole) (arg10 : Memref sig .tc .vmem S1024x1024 .bf16) (harg10 : arg10.IsWhole) (arg11 : Memref sig .tc .vmem S1x1024 .f32) (harg11 : arg11.IsWhole) (arg12 : Memref sig .tc .vmem S1x1024 .f32) (harg12 : arg12.IsWhole) (arg13 : Memref sig .tc .vmem S40x1024 .bf16) (harg13 : arg13.IsWhole) (arg14 : Memref sig .tc .vmem S1024x1024 .f32) (harg14 : arg14.IsWhole) (arg15 : Memref sig .tc .vmem S8192x128 .f32) (harg15 : arg15.IsWhole) (arg16 : Memref sig .tc .vmem S40x1024 .f32) (harg16 : arg16.IsWhole) (arg17 : Memref sig .tc .vmem S1024x1024 .f32) (harg17 : arg17.IsWhole) (arg18 : Memref sig .tc .vmem S1024x1024 .bf16) (harg18 : arg18.IsWhole) (arg19 : Memref sig .tc .vmem S1024x1024 .bf16) (harg19 : arg19.IsWhole)
    (x1 : Vec Ideal S1024x1024 .f32) (x2 : Vec Ideal S1024x512 .bf16) (x3 : Vec Ideal S1024x512 .bf16) (x4 : Vec Ideal S1024x1024 .bf16) (x5 : Vec Ideal S1x1024 .f32) (x6 : Vec Ideal S1x1024 .f32) (x7 : Vec Ideal S1x256x1024 .bf16) (x8 : Vec Ideal S1x256x1024 .bf16) (x9 : Vec Ideal S1024x1024 .bf16) (x10 : Vec Ideal S1024x1024 .bf16) (x11 : Vec Ideal S1x1024 .f32) (x12 : Vec Ideal S1x1024 .f32) (x13 : Vec Ideal S40x1024 .bf16)

include c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13

/-! ### The scratch buffers and the outputs of the body -/

theorem pieces_mix : View.PiecesOf (mixV x1 x2 x3 x4 x5 x6) (bodyRun.sl.H17_2 c arg1 harg1 arg2 harg2 arg3 harg3 arg4 harg4 arg5 harg5 arg6 harg6 x1 x2 x3 x4 x5 x6) := by
  unfold bodyRun.sl.H17_2
  refine ⟨fun y => ?_, fun y => ?_, trivial⟩
  · simp only [bodyRun.sl.r, bodyRun.sl.r_1, bodyRun.sl.r_2, bodyRun.sl.r_3, bodyRun.sl.r_4, bodyRun.sl.r_5, bodyRun.sl.r_6, mix_second, View.readAt_eq_ld, Memref.IsWhole.read_unread]
    exact congrFun (mix_block x1 x2 x3 x4 x5 x6 512 (by norm_num) _ _ _ _ _) y
  · simp only [bodyRun.sl.r, bodyRun.sl.r_1, bodyRun.sl.r_2, bodyRun.sl.r_3, bodyRun.sl.r_4, bodyRun.sl.r_5, bodyRun.sl.r_6, View.readAt_eq_ld, Memref.IsWhole.read_unread]
    exact congrFun (mix_block x1 x2 x3 x4 x5 x6 0 (by norm_num) _ _ _ _ _) y

theorem cover_mix : ∀ y, ∃ p ∈ (bodyRun.sl.H17_2 c arg1 harg1 arg2 harg2 arg3 harg3 arg4 harg4 arg5 harg5 arg6 harg6 x1 x2 x3 x4 x5 x6), y ∈ p.1.set :=
  fun y => View.cover_of_tiledL (bodyRun.sl.H17_2 c arg1 harg1 arg2 harg2 arg3 harg3 arg4 harg4 arg5 harg5 arg6 harg6 x1 x2 x3 x4 x5 x6) S512x1024.size (by sl_kernel_rfl) y

theorem v86_eq : (bodyRun.sl.v86 c arg1 harg1 arg2 harg2 arg3 harg3 arg4 harg4 arg5 harg5 arg6 harg6 arg17 x1 x2 x3 x4 x5 x6) = View.ld (mixV x1 x2 x3 x4 x5 x6) (Rect.unit ![0, 0] S512x1024.size inb_S1024x1024_S512x1024_0_0) :=
  readCov_of _ _ _ (pieces_mix c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_mix c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem v95_eq : (bodyRun.sl.v95 c arg1 harg1 arg2 harg2 arg3 harg3 arg4 harg4 arg5 harg5 arg6 harg6 arg17 x1 x2 x3 x4 x5 x6) = View.ld (mixV x1 x2 x3 x4 x5 x6) (Rect.unit ![512, 0] S512x1024.size inb_S1024x1024_S512x1024_512_0) :=
  readCov_of _ _ _ (pieces_mix c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_mix c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem pieces_query : View.PiecesOf (queryV (mixV x1 x2 x3 x4 x5 x6) x9) (bodyRun.sl.H18_2 c arg1 harg1 arg2 harg2 arg3 harg3 arg4 harg4 arg5 harg5 arg6 harg6 arg9 harg9 arg17 x1 x2 x3 x4 x5 x6 x9) := by
  unfold bodyRun.sl.H18_2
  refine ⟨fun y => ?_, fun y => ?_, trivial⟩
  · simp only [v95_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (query_block (mixV x1 x2 x3 x4 x5 x6) x9 512 (by norm_num) _ _) y
  · simp only [v86_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (query_block (mixV x1 x2 x3 x4 x5 x6) x9 0 (by norm_num) _ _) y

theorem cover_query : ∀ y, ∃ p ∈ (bodyRun.sl.H18_2 c arg1 harg1 arg2 harg2 arg3 harg3 arg4 harg4 arg5 harg5 arg6 harg6 arg9 harg9 arg17 x1 x2 x3 x4 x5 x6 x9), y ∈ p.1.set :=
  fun y => View.cover_of_tiledL (bodyRun.sl.H18_2 c arg1 harg1 arg2 harg2 arg3 harg3 arg4 harg4 arg5 harg5 arg6 harg6 arg9 harg9 arg17 x1 x2 x3 x4 x5 x6 x9) S512x1024.size (by sl_kernel_rfl) y

theorem v104_eq : (bodyRun.sl.v104 c arg1 harg1 arg2 harg2 arg3 harg3 arg4 harg4 arg5 harg5 arg6 harg6 arg9 harg9 arg17 arg18 x1 x2 x3 x4 x5 x6 x9) = View.ld (queryV (mixV x1 x2 x3 x4 x5 x6) x9) (Rect.unit ![0, 0] S512x256.size inb_S1024x1024_S512x256_0_0) :=
  readCov_of _ _ _ (pieces_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem v127_eq : (bodyRun.sl.v127 c arg1 harg1 arg2 harg2 arg3 harg3 arg4 harg4 arg5 harg5 arg6 harg6 arg9 harg9 arg17 arg18 x1 x2 x3 x4 x5 x6 x9) = View.ld (queryV (mixV x1 x2 x3 x4 x5 x6) x9) (Rect.unit ![0, 256] S512x256.size inb_S1024x1024_S512x256_0_256) :=
  readCov_of _ _ _ (pieces_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem v150_eq : (bodyRun.sl.v150 c arg1 harg1 arg2 harg2 arg3 harg3 arg4 harg4 arg5 harg5 arg6 harg6 arg9 harg9 arg17 arg18 x1 x2 x3 x4 x5 x6 x9) = View.ld (queryV (mixV x1 x2 x3 x4 x5 x6) x9) (Rect.unit ![0, 512] S512x256.size inb_S1024x1024_S512x256_0_512) :=
  readCov_of _ _ _ (pieces_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem v173_eq : (bodyRun.sl.v173 c arg1 harg1 arg2 harg2 arg3 harg3 arg4 harg4 arg5 harg5 arg6 harg6 arg9 harg9 arg17 arg18 x1 x2 x3 x4 x5 x6 x9) = View.ld (queryV (mixV x1 x2 x3 x4 x5 x6) x9) (Rect.unit ![0, 768] S512x256.size inb_S1024x1024_S512x256_0_768) :=
  readCov_of _ _ _ (pieces_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem v196_eq : (bodyRun.sl.v196 c arg1 harg1 arg2 harg2 arg3 harg3 arg4 harg4 arg5 harg5 arg6 harg6 arg9 harg9 arg17 arg18 x1 x2 x3 x4 x5 x6 x9) = View.ld (queryV (mixV x1 x2 x3 x4 x5 x6) x9) (Rect.unit ![512, 0] S512x256.size inb_S1024x1024_S512x256_512_0) :=
  readCov_of _ _ _ (pieces_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem v219_eq : (bodyRun.sl.v219 c arg1 harg1 arg2 harg2 arg3 harg3 arg4 harg4 arg5 harg5 arg6 harg6 arg9 harg9 arg17 arg18 x1 x2 x3 x4 x5 x6 x9) = View.ld (queryV (mixV x1 x2 x3 x4 x5 x6) x9) (Rect.unit ![512, 256] S512x256.size inb_S1024x1024_S512x256_512_256) :=
  readCov_of _ _ _ (pieces_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem v242_eq : (bodyRun.sl.v242 c arg1 harg1 arg2 harg2 arg3 harg3 arg4 harg4 arg5 harg5 arg6 harg6 arg9 harg9 arg17 arg18 x1 x2 x3 x4 x5 x6 x9) = View.ld (queryV (mixV x1 x2 x3 x4 x5 x6) x9) (Rect.unit ![512, 512] S512x256.size inb_S1024x1024_S512x256_512_512) :=
  readCov_of _ _ _ (pieces_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem v265_eq : (bodyRun.sl.v265 c arg1 harg1 arg2 harg2 arg3 harg3 arg4 harg4 arg5 harg5 arg6 harg6 arg9 harg9 arg17 arg18 x1 x2 x3 x4 x5 x6 x9) = View.ld (queryV (mixV x1 x2 x3 x4 x5 x6) x9) (Rect.unit ![512, 768] S512x256.size inb_S1024x1024_S512x256_512_768) :=
  readCov_of _ _ _ (pieces_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_query c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem pieces_att : View.PiecesOf (attV (queryV (mixV x1 x2 x3 x4 x5 x6) x9) x7 x8) (bodyRun.sl.H19_8 c arg1 harg1 arg2 harg2 arg3 harg3 arg4 harg4 arg5 harg5 arg6 harg6 arg7 harg7 arg8 harg8 arg9 harg9 arg17 arg18 x1 x2 x3 x4 x5 x6 x7 x8 x9) := by
  unfold bodyRun.sl.H19_8
  refine ⟨fun y => ?_, fun y => ?_, fun y => ?_, fun y => ?_, fun y => ?_, fun y => ?_, fun y => ?_, fun y => ?_, trivial⟩
  · simp only [head_7, bodyRun.sl.cst_64, bodyRun.sl.r_7, bodyRun.sl.r_8, bodyRun.sl.r_9, bodyRun.sl.r_10, bodyRun.sl.r_11, bodyRun.sl.r_12, bodyRun.sl.r_13, bodyRun.sl.r_14, v265_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (head_block (queryV (mixV x1 x2 x3 x4 x5 x6) x9) x7 x8 512 768 (by norm_num) (by norm_num) (by norm_num) _ _) y
  · simp only [head_6, bodyRun.sl.cst_64, bodyRun.sl.r_7, bodyRun.sl.r_8, bodyRun.sl.r_9, bodyRun.sl.r_10, bodyRun.sl.r_11, bodyRun.sl.r_12, bodyRun.sl.r_13, bodyRun.sl.r_14, v242_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (head_block (queryV (mixV x1 x2 x3 x4 x5 x6) x9) x7 x8 512 512 (by norm_num) (by norm_num) (by norm_num) _ _) y
  · simp only [head_5, bodyRun.sl.cst_64, bodyRun.sl.r_7, bodyRun.sl.r_8, bodyRun.sl.r_9, bodyRun.sl.r_10, bodyRun.sl.r_11, bodyRun.sl.r_12, bodyRun.sl.r_13, bodyRun.sl.r_14, v219_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (head_block (queryV (mixV x1 x2 x3 x4 x5 x6) x9) x7 x8 512 256 (by norm_num) (by norm_num) (by norm_num) _ _) y
  · simp only [head_4, bodyRun.sl.cst_64, bodyRun.sl.r_7, bodyRun.sl.r_8, bodyRun.sl.r_9, bodyRun.sl.r_10, bodyRun.sl.r_11, bodyRun.sl.r_12, bodyRun.sl.r_13, bodyRun.sl.r_14, v196_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (head_block (queryV (mixV x1 x2 x3 x4 x5 x6) x9) x7 x8 512 0 (by norm_num) (by norm_num) (by norm_num) _ _) y
  · simp only [head_3, bodyRun.sl.cst_64, bodyRun.sl.r_7, bodyRun.sl.r_8, bodyRun.sl.r_9, bodyRun.sl.r_10, bodyRun.sl.r_11, bodyRun.sl.r_12, bodyRun.sl.r_13, bodyRun.sl.r_14, v173_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (head_block (queryV (mixV x1 x2 x3 x4 x5 x6) x9) x7 x8 0 768 (by norm_num) (by norm_num) (by norm_num) _ _) y
  · simp only [bodyRun.sl.cst_64, bodyRun.sl.r_7, bodyRun.sl.r_8, bodyRun.sl.r_9, bodyRun.sl.r_10, bodyRun.sl.r_11, bodyRun.sl.r_12, bodyRun.sl.r_13, bodyRun.sl.r_14, v150_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (head_block (queryV (mixV x1 x2 x3 x4 x5 x6) x9) x7 x8 0 512 (by norm_num) (by norm_num) (by norm_num) _ _) y
  · simp only [head_1, bodyRun.sl.cst_64, bodyRun.sl.r_7, bodyRun.sl.r_8, bodyRun.sl.r_9, bodyRun.sl.r_10, bodyRun.sl.r_11, bodyRun.sl.r_12, bodyRun.sl.r_13, bodyRun.sl.r_14, v127_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (head_block (queryV (mixV x1 x2 x3 x4 x5 x6) x9) x7 x8 0 256 (by norm_num) (by norm_num) (by norm_num) _ _) y
  · simp only [head_0, bodyRun.sl.cst_64, bodyRun.sl.r_7, bodyRun.sl.r_8, bodyRun.sl.r_9, bodyRun.sl.r_10, bodyRun.sl.r_11, bodyRun.sl.r_12, bodyRun.sl.r_13, bodyRun.sl.r_14, v104_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
    exact congrFun (head_block (queryV (mixV x1 x2 x3 x4 x5 x6) x9) x7 x8 0 0 (by norm_num) (by norm_num) (by norm_num) _ _) y

theorem cover_att : ∀ y, ∃ p ∈ (bodyRun.sl.H19_8 c arg1 harg1 arg2 harg2 arg3 harg3 arg4 harg4 arg5 harg5 arg6 harg6 arg7 harg7 arg8 harg8 arg9 harg9 arg17 arg18 x1 x2 x3 x4 x5 x6 x7 x8 x9), y ∈ p.1.set :=
  fun y => View.cover_of_tiledL (bodyRun.sl.H19_8 c arg1 harg1 arg2 harg2 arg3 harg3 arg4 harg4 arg5 harg5 arg6 harg6 arg7 harg7 arg8 harg8 arg9 harg9 arg17 arg18 x1 x2 x3 x4 x5 x6 x7 x8 x9) S512x256.size (by sl_kernel_rfl) y

theorem v288_eq : (bodyRun.sl.v288 c arg1 harg1 arg2 harg2 arg3 harg3 arg4 harg4 arg5 harg5 arg6 harg6 arg7 harg7 arg8 harg8 arg9 harg9 arg17 arg18 arg19 x1 x2 x3 x4 x5 x6 x7 x8 x9) = View.ld (attV (queryV (mixV x1 x2 x3 x4 x5 x6) x9) x7 x8) (Rect.unit ![0, 0] S512x1024.size inb_S1024x1024_S512x1024_0_0) :=
  readCov_of _ _ _ (pieces_att c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_att c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem v342_eq : (bodyRun.sl.v342 c arg1 harg1 arg2 harg2 arg3 harg3 arg4 harg4 arg5 harg5 arg6 harg6 arg7 harg7 arg8 harg8 arg9 harg9 arg17 arg18 arg19 x1 x2 x3 x4 x5 x6 x7 x8 x9) = View.ld (attV (queryV (mixV x1 x2 x3 x4 x5 x6) x9) x7 x8) (Rect.unit ![512, 0] S512x1024.size inb_S1024x1024_S512x1024_512_0) :=
  readCov_of _ _ _ (pieces_att c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (cover_att c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _

theorem r_15_eq : (bodyRun.sl.r_15 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) = View.ld (outV (mixV x1 x2 x3 x4 x5 x6) (attV (queryV (mixV x1 x2 x3 x4 x5 x6) x9) x7 x8) x10 x11 x12) (Rect.unit ![0, 0] S512x1024.size inb_S1024x1024_S512x1024_0_0) := by
  unfold bodyRun.sl.r_15
  simp only [v288_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, v86_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
  exact finish_block (mixV x1 x2 x3 x4 x5 x6) (attV (queryV (mixV x1 x2 x3 x4 x5 x6) x9) x7 x8) x10 x11 x12 0 (by norm_num) _ _ _

theorem r_18_eq : (bodyRun.sl.r_18 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) = View.ld (outV (mixV x1 x2 x3 x4 x5 x6) (attV (queryV (mixV x1 x2 x3 x4 x5 x6) x9) x7 x8) x10 x11 x12) (Rect.unit ![512, 0] S512x1024.size inb_S1024x1024_S512x1024_512_0) := by
  unfold bodyRun.sl.r_18
  simp only [bodyRun.sl.r_17, bodyRun.sl.cst_217, finish_second, v342_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, v95_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13, View.readAt_eq_ld, Memref.IsWhole.read_unread]
  exact finish_block (mixV x1 x2 x3 x4 x5 x6) (attV (queryV (mixV x1 x2 x3 x4 x5 x6) x9) x7 x8) x10 x11 x12 512 (by norm_num) _ _ _

/-- The body leaves the finished rows. -/
theorem rows_block : View.canon (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13).1 = (outV (mixV x1 x2 x3 x4 x5 x6) (attV (queryV (mixV x1 x2 x3 x4 x5 x6) x9) x7 x8) x10 x11 x12) := by
  funext y
  refine View.canon_apply_of_pieces (outV (mixV x1 x2 x3 x4 x5 x6) (attV (queryV (mixV x1 x2 x3 x4 x5 x6) x9) x7 x8) x10 x11 x12) _ (View.PiecesOf.mem (G := (outV (mixV x1 x2 x3 x4 x5 x6) (attV (queryV (mixV x1 x2 x3 x4 x5 x6) x9) x7 x8) x10 x11 x12)) ?_) y (cover_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 y)
  refine ⟨fun y => ?_, fun y => ?_, trivial⟩
  · exact congrFun (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) y
  · exact congrFun (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) y

/-- The body leaves the routing logits. -/
theorem logits_block_eq : View.canon (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13).2.2.1 = logitsV (outV (mixV x1 x2 x3 x4 x5 x6) (attV (queryV (mixV x1 x2 x3 x4 x5 x6) x9) x7 x8) x10 x11 x12) x13 := by
  funext y
  refine View.canon_apply_of_pieces (logitsV (outV (mixV x1 x2 x3 x4 x5 x6) (attV (queryV (mixV x1 x2 x3 x4 x5 x6) x9) x7 x8) x10 x11 x12) x13) _ (View.PiecesOf.mem (G := logitsV (outV (mixV x1 x2 x3 x4 x5 x6) (attV (queryV (mixV x1 x2 x3 x4 x5 x6) x9) x7 x8) x10 x11 x12) x13) ?_) y (cover_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 y)
  refine ⟨fun y => ?_, fun y => ?_, trivial⟩
  · refine (congrFun (congrArg₂ k0_pay5 (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (congrArg (View.ld · _) (harg13.read_unread x13))) y).trans ?_
    exact congrFun (logits_block (outV (mixV x1 x2 x3 x4 x5 x6) (attV (queryV (mixV x1 x2 x3 x4 x5 x6) x9) x7 x8) x10 x11 x12) x13 512 (by norm_num) _ _ inb_S40x1024_S40x512_0_512) y
  · refine (congrFun (congrArg₂ k0_pay5 (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) (congrArg (View.ld · _) (harg13.read_unread x13))) y).trans ?_
    exact congrFun (logits_block (outV (mixV x1 x2 x3 x4 x5 x6) (attV (queryV (mixV x1 x2 x3 x4 x5 x6) x9) x7 x8) x10 x11 x12) x13 0 (by norm_num) _ _ inb_S40x1024_S40x512_0_0) y

/-- The body leaves the finished rows token by token. -/
theorem tiles_block : View.canon (bodyRun (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13).2.1 = tileV (outV (mixV x1 x2 x3 x4 x5 x6) (attV (queryV (mixV x1 x2 x3 x4 x5 x6) x9) x7 x8) x10 x11 x12) := by
  funext y
  refine View.canon_apply_of_pieces (tileV (outV (mixV x1 x2 x3 x4 x5 x6) (attV (queryV (mixV x1 x2 x3 x4 x5 x6) x9) x7 x8) x10 x11 x12)) _ (View.PiecesOf.mem (G := tileV (outV (mixV x1 x2 x3 x4 x5 x6) (attV (queryV (mixV x1 x2 x3 x4 x5 x6) x9) x7 x8) x10 x11 x12)) ?_) y (cover_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13 y)
  refine ⟨fun y => ?_, fun y => ?_, fun y => ?_, fun y => ?_, fun y => ?_, fun y => ?_, fun y => ?_, fun y => ?_, fun y => ?_, fun y => ?_, fun y => ?_, fun y => ?_, fun y => ?_, fun y => ?_, fun y => ?_, fun y => ?_, trivial⟩
  · exact tile_block (outV (mixV x1 x2 x3 x4 x5 x6) (attV (queryV (mixV x1 x2 x3 x4 x5 x6) x9) x7 x8) x10 x11 x12) 1 7 inb_S1024x1024_S512x1024_512_0 (by norm_num) (by norm_num) inb_S8192x128_S512x128_4103_0_s_8_1 _ (fun r j => (slice_apply (bodyRun.sl.r_18 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 896 slices_S512x1024_o0_896_S512x128 r j (by omega)).trans (congrFun (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 1 6 inb_S1024x1024_S512x1024_512_0 (by norm_num) (by norm_num) inb_S8192x128_S512x128_4102_0_s_8_1 _ (fun r j => (slice_apply (bodyRun.sl.r_18 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 768 slices_S512x1024_o0_768_S512x128 r j (by omega)).trans (congrFun (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 1 5 inb_S1024x1024_S512x1024_512_0 (by norm_num) (by norm_num) inb_S8192x128_S512x128_4101_0_s_8_1 _ (fun r j => (slice_apply (bodyRun.sl.r_18 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 640 slices_S512x1024_o0_640_S512x128 r j (by omega)).trans (congrFun (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 1 4 inb_S1024x1024_S512x1024_512_0 (by norm_num) (by norm_num) inb_S8192x128_S512x128_4100_0_s_8_1 _ (fun r j => (slice_apply (bodyRun.sl.r_18 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 512 slices_S512x1024_o0_512_S512x128 r j (by omega)).trans (congrFun (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 1 3 inb_S1024x1024_S512x1024_512_0 (by norm_num) (by norm_num) inb_S8192x128_S512x128_4099_0_s_8_1 _ (fun r j => (slice_apply (bodyRun.sl.r_18 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 384 slices_S512x1024_o0_384_S512x128 r j (by omega)).trans (congrFun (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 1 2 inb_S1024x1024_S512x1024_512_0 (by norm_num) (by norm_num) inb_S8192x128_S512x128_4098_0_s_8_1 _ (fun r j => (slice_apply (bodyRun.sl.r_18 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 256 slices_S512x1024_o0_256_S512x128 r j (by omega)).trans (congrFun (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 1 1 inb_S1024x1024_S512x1024_512_0 (by norm_num) (by norm_num) inb_S8192x128_S512x128_4097_0_s_8_1 _ (fun r j => (slice_apply (bodyRun.sl.r_18 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 128 slices_S512x1024_o0_128_S512x128 r j (by omega)).trans (congrFun (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 1 0 inb_S1024x1024_S512x1024_512_0 (by norm_num) (by norm_num) inb_S8192x128_S512x128_4096_0_s_8_1 _ (fun r j => (slice_apply (bodyRun.sl.r_18 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 0 slices_S512x1024_o0_0_S512x128 r j (by omega)).trans (congrFun (r_18_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 0 7 inb_S1024x1024_S512x1024_0_0 (by norm_num) (by norm_num) inb_S8192x128_S512x128_7_0_s_8_1 _ (fun r j => (slice_apply (bodyRun.sl.r_15 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 896 slices_S512x1024_o0_896_S512x128 r j (by omega)).trans (congrFun (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 0 6 inb_S1024x1024_S512x1024_0_0 (by norm_num) (by norm_num) inb_S8192x128_S512x128_6_0_s_8_1 _ (fun r j => (slice_apply (bodyRun.sl.r_15 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 768 slices_S512x1024_o0_768_S512x128 r j (by omega)).trans (congrFun (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 0 5 inb_S1024x1024_S512x1024_0_0 (by norm_num) (by norm_num) inb_S8192x128_S512x128_5_0_s_8_1 _ (fun r j => (slice_apply (bodyRun.sl.r_15 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 640 slices_S512x1024_o0_640_S512x128 r j (by omega)).trans (congrFun (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 0 4 inb_S1024x1024_S512x1024_0_0 (by norm_num) (by norm_num) inb_S8192x128_S512x128_4_0_s_8_1 _ (fun r j => (slice_apply (bodyRun.sl.r_15 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 512 slices_S512x1024_o0_512_S512x128 r j (by omega)).trans (congrFun (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 0 3 inb_S1024x1024_S512x1024_0_0 (by norm_num) (by norm_num) inb_S8192x128_S512x128_3_0_s_8_1 _ (fun r j => (slice_apply (bodyRun.sl.r_15 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 384 slices_S512x1024_o0_384_S512x128 r j (by omega)).trans (congrFun (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 0 2 inb_S1024x1024_S512x1024_0_0 (by norm_num) (by norm_num) inb_S8192x128_S512x128_2_0_s_8_1 _ (fun r j => (slice_apply (bodyRun.sl.r_15 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 256 slices_S512x1024_o0_256_S512x128 r j (by omega)).trans (congrFun (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 0 1 inb_S1024x1024_S512x1024_0_0 (by norm_num) (by norm_num) inb_S8192x128_S512x128_1_0_s_8_1 _ (fun r j => (slice_apply (bodyRun.sl.r_15 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 128 slices_S512x1024_o0_128_S512x128 r j (by omega)).trans (congrFun (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y
  · exact tile_block (outV (mixV x1 x2 x3 x4 x5 x6) (attV (queryV (mixV x1 x2 x3 x4 x5 x6) x9) x7 x8) x10 x11 x12) 0 0 inb_S1024x1024_S512x1024_0_0 (by norm_num) (by norm_num) inb_S8192x128_S512x128_0_0_s_8_1 _ (fun r j => (slice_apply (bodyRun.sl.r_15 c arg1 harg1 arg2 harg2 arg3 harg3 arg4 harg4 arg5 harg5 arg6 harg6 arg7 harg7 arg8 harg8 arg9 harg9 arg10 harg10 arg11 harg11 arg12 harg12 arg17 arg18 arg19 x1 x2 x3 x4 x5 x6 x7 x8 x9 x10 x11 x12) 0 slices_S512x1024_o0_0_S512x128 r j (by omega)).trans (congrFun (r_15_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x1 x2 x3 x4 x5 x6 x7 x8 x9 x10 x11 x12 x13) _)) y

end Body

end Cert.KernelIdeal.Xattn

end
-- ==== Proof.Value.lean ====
/- The cross-attention program over the extended reals: what its three result arrays hold after the run, as the
   layer's function of its argument arrays. -/
module

public import proofs.«01_k».proof.Proof.Blocks

@[expose] public section

set_option maxRecDepth 16384

noncomputable section

namespace Cert.KernelIdeal.Xattn

open Cert.KernelIdeal.Gen Cert.Layer
open Idealize.ShloMosaic Idealize.ShloMosaic.TcCoe Idealize.ShloMosaic.Tactic

variable (m : (ℓ : Loc nD τ sig) → Buf (Elt Ideal) ℓ)

/-- Where each window's block lies at a grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val / 8, 0, 0]
    ∧ win0_7.index t = ![t.val / 8, 0, 1] ∧ win0_8.index t = ![0, 0] ∧ win0_9.index t = ![0, 0] ∧ win0_10.index t = ![0, 0]
    ∧ win0_11.index t = ![0, 0] ∧ win0_12.index t = ![0, 0] ∧ win0_13.index t = ![t.val, 0] ∧ win0_14.index t = ![t.val, 0]
    ∧ win0_15.index t = ![0, t.val] ∧ t.val < 16 :=
  (by decide +kernel : ∀ t : Fin grid0.N, _)

/-- The sequence of a grid point. -/
def seqOf (t : Fin cfg0.N) : Fin 2 := ⟨t.val / 8, by have := (idx t).2.2.2.2.2.2.2.2.2.2.2.2.2.2.2.2; omega⟩
/-- The position in its sequence of a row of a grid point's block. -/
def posOf (t : Fin cfg0.N) (r : Fin 1024) : Fin 8192 := ⟨1024 * (t.val % 8) + r.val, by omega⟩

/-! ### What the host operations hand to the kernel -/

theorem V_v0 (c : Dev nD) (r : Fin 16384) (j : Fin 1024) : (V m c main_v0 : Vec Ideal S16384x1024 .f32) (ix2 r j)
    = (m ((c : Thread nD τ).loc main_arg0) : Vec Ideal S2x8192x1024 .f32) (ix3 (⟨r.val / 8192, by omega⟩ : Fin 2) (⟨r.val % 8192, by omega⟩ : Fin 8192) j) := by
  simp only [V, hostOps0, hostOps0_1, hostOps0_2, List.flatten_cons, List.flatten_nil, List.append_nil, List.cons_append, List.nil_append]
  entry_read
  pointwise

theorem V_v1 (c : Dev nD) (r : Fin 16384) (j : Fin 512) : (V m c main_v1 : Vec Ideal S16384x512 .bf16) (ix2 r j)
    = (m ((c : Thread nD τ).loc main_arg1) : Vec Ideal S2x8192x512 .bf16) (ix3 (⟨r.val / 8192, by omega⟩ : Fin 2) (⟨r.val % 8192, by omega⟩ : Fin 8192) j) := by
  simp only [V, hostOps0, hostOps0_1, hostOps0_2, List.flatten_cons, List.flatten_nil, List.append_nil, List.cons_append, List.nil_append]
  entry_read
  pointwise

theorem V_v2 (c : Dev nD) (r : Fin 16384) (j : Fin 512) : (V m c main_v2 : Vec Ideal S16384x512 .bf16) (ix2 r j)
    = (m ((c : Thread nD τ).loc main_arg2) : Vec Ideal S2x8192x512 .bf16) (ix3 (⟨r.val / 8192, by omega⟩ : Fin 2) (⟨r.val % 8192, by omega⟩ : Fin 8192) j) := by
  simp only [V, hostOps0, hostOps0_1, hostOps0_2, List.flatten_cons, List.flatten_nil, List.append_nil, List.cons_append, List.nil_append]
  entry_read
  pointwise

theorem V_v10 (c : Dev nD) (r j : Fin 1024) : (V m c main_v10 : Vec Ideal S1024x1024 .bf16) (ix2 r j)
    = (m ((c : Thread nD τ).loc main_arg3) : Vec Ideal S1x1024x1024 .f32) (ix3 0 r j) := by
  simp only [V, hostOps0, hostOps0_1, hostOps0_2, List.flatten_cons, List.flatten_nil, List.append_nil, List.cons_append, List.nil_append]
  entry_read
  pointwise

theorem V_v16 (c : Dev nD) (r j : Fin 1024) : (V m c main_v16 : Vec Ideal S1024x1024 .bf16) (ix2 r j)
    = (m ((c : Thread nD τ).loc main_arg7) : Vec Ideal S1x1024x1024 .f32) (ix3 0 r j) := by
  simp only [V, hostOps0, hostOps0_1, hostOps0_2, List.flatten_cons, List.flatten_nil, List.append_nil, List.cons_append, List.nil_append]
  entry_read
  pointwise

theorem V_v18 (c : Dev nD) (r j : Fin 1024) : (V m c main_v18 : Vec Ideal S1024x1024 .bf16) (ix2 r j)
    = (m ((c : Thread nD τ).loc main_arg8) : Vec Ideal S1x1024x1024 .f32) (ix3 0 r j) := by
  simp only [V, hostOps0, hostOps0_1, hostOps0_2, List.flatten_cons, List.flatten_nil, List.append_nil, List.cons_append, List.nil_append]
  entry_read
  pointwise

theorem V_v12 (c : Dev nD) (j : Fin 1024) : (V m c main_v12 : Vec Ideal S1x1024 .f32) (ix2 0 j)
    = (m ((c : Thread nD τ).loc main_arg4) : Vec Ideal S1x1024 .f32) (ix2 0 j) := by
  simp only [V, hostOps0, hostOps0_1, hostOps0_2, List.flatten_cons, List.flatten_nil, List.append_nil, List.cons_append, List.nil_append]
  entry_read
  pointwise

theorem V_v14 (c : Dev nD) (j : Fin 1024) : (V m c main_v14 : Vec Ideal S1x1024 .f32) (ix2 0 j)
    = (m ((c : Thread nD τ).loc main_arg5) : Vec Ideal S1x1024 .f32) (ix2 0 j) := by
  simp only [V, hostOps0, hostOps0_1, hostOps0_2, List.flatten_cons, List.flatten_nil, List.append_nil, List.cons_append, List.nil_append]
  entry_read
  pointwise

theorem V_v20 (c : Dev nD) (j : Fin 1024) : (V m c main_v20 : Vec Ideal S1x1024 .f32) (ix2 0 j)
    = (m ((c : Thread nD τ).loc main_arg9) : Vec Ideal S1x1024 .f32) (ix2 0 j) := by
  simp only [V, hostOps0, hostOps0_1, hostOps0_2, List.flatten_cons, List.flatten_nil, List.append_nil, List.cons_append, List.nil_append]
  entry_read
  pointwise

theorem V_v22 (c : Dev nD) (j : Fin 1024) : (V m c main_v22 : Vec Ideal S1x1024 .f32) (ix2 0 j)
    = (m ((c : Thread nD τ).loc main_arg10) : Vec Ideal S1x1024 .f32) (ix2 0 j) := by
  simp only [V, hostOps0, hostOps0_1, hostOps0_2, List.flatten_cons, List.flatten_nil, List.append_nil, List.cons_append, List.nil_append]
  entry_read
  pointwise

/-- The padded, transposed and joined routing weights at an index. -/
theorem padded_apply (A : Vec Ideal S1x1024x4 .f32) (B : Vec Ideal S1x1024x32 .f32) (z : Vec Ideal S_ .f32) (hz : ∀ i, z i = (0 : EReal)) (e : Fin 40) (k : Fin 1024) :
    pad S40x1024 ![0, 0] ![4, 0] ![0, 0]
        (transpose S36x1024 [1, 0]
            (concatenate S1024x36 1 [⟨S1024x4, shapeCast S1024x4 A shapeCasts_S1x1024x4_S1024x4⟩, ⟨S1024x32, shapeCast S1024x32 B shapeCasts_S1x1024x32_S1024x32⟩]
              concatenates_S1024x4_S1024x32_S1024x36_d1)
            transposes_S1024x36_S36x1024_1_0)
        z pads_S36x1024_S40x1024_040_000 h_S_ (ix2 e k) = routeW (fun k e => A (ix3 0 k e)) (fun k e => B (ix3 0 k e)) e k := by
  unfold routeW
  pointwise
  by_cases h : e.val < 4
  · rw [dif_pos (by omega : e.val < 36), dif_pos h, dif_pos h]
  · by_cases h' : e.val < 36
    · rw [dif_pos h', dif_neg h, dif_neg h, dif_pos h']
    · rw [dif_neg h', dif_neg h, dif_neg h', hz]

theorem V_v8 (c : Dev nD) (e : Fin 40) (k : Fin 1024) : (V m c main_v8 : Vec Ideal S40x1024 .bf16) (ix2 e k)
    = routeW (fun k e => (m ((c : Thread nD τ).loc main_arg11) : Vec Ideal S1x1024x4 .f32) (ix3 0 k e))
        (fun k e => (m ((c : Thread nD τ).loc main_arg12) : Vec Ideal S1x1024x32 .f32) (ix3 0 k e)) e k := by
  simp only [V, hostOps0, hostOps0_1, hostOps0_2, List.flatten_cons, List.flatten_nil, List.append_nil, List.cons_append, List.nil_append]
  entry_read
  exact padded_apply (m (c, Proc.tc.devRef main_arg11)) (m (c, Proc.tc.devRef main_arg12)) (sitofp (F := Ideal) FTy.f32 (constantI S_ 32 0#32))
    (fun i => by show ((((0#32 : BitVec 32).toInt : ℤ) : ℝ) : EReal) = 0; simp) e k

/-! ### The blocks a grid point reads -/

theorem blk_0 (c : Dev nD) (t : Fin cfg0.N) (r : Fin 1024) (j : Fin 1024) : iblk m c 0 t (ix2 r j)
    = (m ((c : Thread nD τ).loc main_arg0) : Vec Ideal S2x8192x1024 .f32) (ix3 (seqOf t) (posOf t r) j) := by
  have h := (idx t).2.2.2.2.2.2.2.2.2.2.2.2.2.2.2.2
  have e : iblk m c 0 t (ix2 r j) = (V m c main_v0 : Vec Ideal S16384x1024 .f32) (ix2 (⟨1024 * t.val + r.val, by omega⟩ : Fin 16384) j) := by
    blk_ext [iblk, idx t]
  rw [e, V_v0]
  congr 2 <;> exact Fin.ext (by show _ = _; simp only [seqOf, posOf]; omega)

theorem blk_1 (c : Dev nD) (t : Fin cfg0.N) (r : Fin 1024) (j : Fin 512) : iblk m c 1 t (ix2 r j)
    = (m ((c : Thread nD τ).loc main_arg1) : Vec Ideal S2x8192x512 .bf16) (ix3 (seqOf t) (posOf t r) j) := by
  have h := (idx t).2.2.2.2.2.2.2.2.2.2.2.2.2.2.2.2
  have e : iblk m c 1 t (ix2 r j) = (V m c main_v1 : Vec Ideal S16384x512 .bf16) (ix2 (⟨1024 * t.val + r.val, by omega⟩ : Fin 16384) j) := by
    blk_ext [iblk, idx t]
  rw [e, V_v1]
  congr 2 <;> exact Fin.ext (by show _ = _; simp only [seqOf, posOf]; omega)

theorem blk_2 (c : Dev nD) (t : Fin cfg0.N) (r : Fin 1024) (j : Fin 512) : iblk m c 2 t (ix2 r j)
    = (m ((c : Thread nD τ).loc main_arg2) : Vec Ideal S2x8192x512 .bf16) (ix3 (seqOf t) (posOf t r) j) := by
  have h := (idx t).2.2.2.2.2.2.2.2.2.2.2.2.2.2.2.2
  have e : iblk m c 2 t (ix2 r j) = (V m c main_v2 : Vec Ideal S16384x512 .bf16) (ix2 (⟨1024 * t.val + r.val, by omega⟩ : Fin 16384) j) := by
    blk_ext [iblk, idx t]
  rw [e, V_v2]
  congr 2 <;> exact Fin.ext (by show _ = _; simp only [seqOf, posOf]; omega)

theorem blk_3 (c : Dev nD) (t : Fin cfg0.N) (k j : Fin 1024) : iblk m c 3 t (ix2 k j)
    = (m ((c : Thread nD τ).loc main_arg3) : Vec Ideal S1x1024x1024 .f32) (ix3 0 k j) := by
  have e : iblk m c 3 t (ix2 k j) = (V m c main_v10 : Vec Ideal S1024x1024 .bf16) (ix2 k j) := by
    blk_ext [iblk, idx t]
  rw [e, V_v10]

theorem blk_8 (c : Dev nD) (t : Fin cfg0.N) (k j : Fin 1024) : iblk m c 8 t (ix2 k j)
    = (m ((c : Thread nD τ).loc main_arg7) : Vec Ideal S1x1024x1024 .f32) (ix3 0 k j) := by
  have e : iblk m c 8 t (ix2 k j) = (V m c main_v16 : Vec Ideal S1024x1024 .bf16) (ix2 k j) := by
    blk_ext [iblk, idx t]
  rw [e, V_v16]

theorem blk_9 (c : Dev nD) (t : Fin cfg0.N) (k j : Fin 1024) : iblk m c 9 t (ix2 k j)
    = (m ((c : Thread nD τ).loc main_arg8) : Vec Ideal S1x1024x1024 .f32) (ix3 0 k j) := by
  have e : iblk m c 9 t (ix2 k j) = (V m c main_v18 : Vec Ideal S1024x1024 .bf16) (ix2 k j) := by
    blk_ext [iblk, idx t]
  rw [e, V_v18]

theorem blk_4 (c : Dev nD) (t : Fin cfg0.N) (j : Fin 1024) : iblk m c 4 t (ix2 0 j)
    = (m ((c : Thread nD τ).loc main_arg4) : Vec Ideal S1x1024 .f32) (ix2 0 j) := by
  have e : iblk m c 4 t (ix2 0 j) = (V m c main_v12 : Vec Ideal S1x1024 .f32) (ix2 0 j) := by
    blk_ext [iblk, idx t]
  rw [e, V_v12]

theorem blk_5 (c : Dev nD) (t : Fin cfg0.N) (j : Fin 1024) : iblk m c 5 t (ix2 0 j)
    = (m ((c : Thread nD τ).loc main_arg5) : Vec Ideal S1x1024 .f32) (ix2 0 j) := by
  have e : iblk m c 5 t (ix2 0 j) = (V m c main_v14 : Vec Ideal S1x1024 .f32) (ix2 0 j) := by
    blk_ext [iblk, idx t]
  rw [e, V_v14]

theorem blk_10 (c : Dev nD) (t : Fin cfg0.N) (j : Fin 1024) : iblk m c 10 t (ix2 0 j)
    = (m ((c : Thread nD τ).loc main_arg9) : Vec Ideal S1x1024 .f32) (ix2 0 j) := by
  have e : iblk m c 10 t (ix2 0 j) = (V m c main_v20 : Vec Ideal S1x1024 .f32) (ix2 0 j) := by
    blk_ext [iblk, idx t]
  rw [e, V_v20]

theorem blk_11 (c : Dev nD) (t : Fin cfg0.N) (j : Fin 1024) : iblk m c 11 t (ix2 0 j)
    = (m ((c : Thread nD τ).loc main_arg10) : Vec Ideal S1x1024 .f32) (ix2 0 j) := by
  have e : iblk m c 11 t (ix2 0 j) = (V m c main_v22 : Vec Ideal S1x1024 .f32) (ix2 0 j) := by
    blk_ext [iblk, idx t]
  rw [e, V_v22]

theorem blk_6 (c : Dev nD) (t : Fin cfg0.N) (s : Fin 256) (j : Fin 1024) : iblk m c 6 t (ix3 0 s j)
    = (m ((c : Thread nD τ).loc main_arg6) : Vec Ideal S2x256x2048 .bf16) (ix3 (seqOf t) s (j.castLE (by norm_num))) := by
  have h := (idx t).2.2.2.2.2.2.2.2.2.2.2.2.2.2.2.2
  blk_ext [iblk, V, idx t, seqOf]
  rfl

theorem blk_7 (c : Dev nD) (t : Fin cfg0.N) (s : Fin 256) (j : Fin 1024) : iblk m c 7 t (ix3 0 s j)
    = (m ((c : Thread nD τ).loc main_arg6) : Vec Ideal S2x256x2048 .bf16) (ix3 (seqOf t) s (j.natAdd 1024)) := by
  have h := (idx t).2.2.2.2.2.2.2.2.2.2.2.2.2.2.2.2
  blk_ext [iblk, V, idx t, seqOf]
  rfl

theorem blk_12 (c : Dev nD) (t : Fin cfg0.N) (e : Fin 40) (k : Fin 1024) : iblk m c 12 t (ix2 e k)
    = routeW (fun k e => (m ((c : Thread nD τ).loc main_arg11) : Vec Ideal S1x1024x4 .f32) (ix3 0 k e))
        (fun k e => (m ((c : Thread nD τ).loc main_arg12) : Vec Ideal S1x1024x32 .f32) (ix3 0 k e)) e k := by
  have e' : iblk m c 12 t (ix2 e k) = (V m c main_v8 : Vec Ideal S40x1024 .bf16) (ix2 e k) := by
    blk_ext [iblk, idx t]
  rw [e', V_v8]

/-! ### The three arrays -/

/-- The rows of a block whose rows are the tokens' rows. -/
theorem out_of (x1 : Vec Ideal S1024x1024 .f32) (x2 x3 : Vec Ideal S1024x512 .bf16) (x4 : Vec Ideal S1024x1024 .bf16) (x5 x6 : Vec Ideal S1x1024 .f32)
    (x7 x8 : Vec Ideal S1x256x1024 .bf16) (x9 x10 : Vec Ideal S1024x1024 .bf16) (x11 x12 : Vec Ideal S1x1024 .f32)
    (X : Vec Ideal S2x8192x1024 .f32) (YR YD : Vec Ideal S2x8192x512 .bf16) (W : Vec Ideal S1x1024x1024 .f32)
    (G₁ B₁ : Vec Ideal S1x1024 .f32) (KV : Vec Ideal S2x256x2048 .bf16) (WQ WO : Vec Ideal S1x1024x1024 .f32) (G₂ B₂ : Vec Ideal S1x1024 .f32)
    (b : Fin 2) (s : Fin 8192) (r : Fin 1024)
    (h1 : ∀ j, x1 (ix2 r j) = X (ix3 b s j)) (h2 : ∀ k, x2 (ix2 r k) = YR (ix3 b s k)) (h3 : ∀ k, x3 (ix2 r k) = YD (ix3 b s k))
    (h4 : ∀ k j, x4 (ix2 k j) = W (ix3 0 k j)) (h5 : ∀ j, x5 (ix2 0 j) = G₁ (ix2 0 j)) (h6 : ∀ j, x6 (ix2 0 j) = B₁ (ix2 0 j))
    (h7 : ∀ (m : Fin 256) (j : Fin 1024), x7 (ix3 0 m j) = KV (ix3 b m (j.castLE (by norm_num)))) (h8 : ∀ (m : Fin 256) (j : Fin 1024), x8 (ix3 0 m j) = KV (ix3 b m (j.natAdd 1024)))
    (h9 : ∀ k j, x9 (ix2 k j) = WQ (ix3 0 k j)) (h10 : ∀ k j, x10 (ix2 k j) = WO (ix3 0 k j)) (h11 : ∀ j, x11 (ix2 0 j) = G₂ (ix2 0 j)) (h12 : ∀ j, x12 (ix2 0 j) = B₂ (ix2 0 j))
    (j : Fin 1024) :
    outV (mixV x1 x2 x3 x4 x5 x6) (attV (queryV (mixV x1 x2 x3 x4 x5 x6) x9) x7 x8) x10 x11 x12 (ix2 r j) = token X YR YD W G₁ B₁ KV WQ WO G₂ B₂ b s j := by
  show row (fun j => x1 (ix2 r j)) (fun k => x2 (ix2 r k)) (fun k => x3 (ix2 r k)) (fun k j => x4 (ix2 k j)) (fun j => x5 (ix2 0 j)) (fun j => x6 (ix2 0 j))
    (fun m j => x7 (ix3 0 m j)) (fun m j => x8 (ix3 0 m j)) (fun k j => x9 (ix2 k j)) (fun k j => x10 (ix2 k j)) (fun j => x11 (ix2 0 j)) (fun j => x12 (ix2 0 j)) j = _
  simp only [h1, h2, h3, h4, h5, h6, h7, h8, h9, h10, h11, h12]
  rfl

theorem out_point (c : Dev nD) (t : Fin cfg0.N) (r j : Fin 1024) :
    (outV (mixV (iblk m c 0 t) (iblk m c 1 t) (iblk m c 2 t) (iblk m c 3 t) (iblk m c 4 t) (iblk m c 5 t)) (attV (queryV (mixV (iblk m c 0 t) (iblk m c 1 t) (iblk m c 2 t) (iblk m c 3 t) (iblk m c 4 t) (iblk m c 5 t)) (iblk m c 8 t)) (iblk m c 6 t) (iblk m c 7 t)) (iblk m c 9 t) (iblk m c 10 t) (iblk m c 11 t)) (ix2 r j) = token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (seqOf t) (posOf t r) j :=
  out_of (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (seqOf t) (posOf t r) r
    (blk_0 m c t r) (blk_1 m c t r) (blk_2 m c t r) (blk_3 m c t) (blk_4 m c t) (blk_5 m c t) (blk_6 m c t) (blk_7 m c t) (blk_8 m c t) (blk_9 m c t) (blk_10 m c t) (blk_11 m c t) j

theorem rowsAt_point (c : Dev nD) (t : Fin cfg0.N) (r j : Fin 1024) : rowsAt m c t (ix2 r j) = token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (seqOf t) (posOf t r) j := by
  unfold rowsAt
  rw [rows_block]
  exact out_point m c t r j

theorem tilesAt_point (c : Dev nD) (t : Fin cfg0.N) (r : Fin 8192) (j : Fin 128) : tilesAt m c t (ix2 r j)
    = token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (seqOf t) (posOf t ⟨r.val / 8, by omega⟩) ⟨128 * (r.val % 8) + j.val, by omega⟩ := by
  unfold tilesAt
  rw [tiles_block]
  exact out_point m c t _ _

theorem logitsAt_point (c : Dev nD) (t : Fin cfg0.N) (e : Fin 40) (r : Fin 1024) : logitsAt m c t (ix2 e r)
    = logit (fun k e => (m ((c : Thread nD τ).loc main_arg11) : Vec Ideal S1x1024x4 .f32) (ix3 0 k e))
        (fun k e => (m ((c : Thread nD τ).loc main_arg12) : Vec Ideal S1x1024x32 .f32) (ix3 0 k e)) (token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (seqOf t) (posOf t r)) e := by
  unfold logitsAt
  rw [logits_block_eq]
  exact Finset.sum_congr rfl fun k _ => congrArg₂ (· * ·) (blk_12 m c t e k) (out_point m c t r k)

/-- The array of rows after the run. -/
theorem final_rows (c : Dev nD) : (dats m 0 c).arrAt 13 (cfgs 0).N = rows (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 13 _ (by decide +kernel) fun t _ y => ?_
  blk_simp
  rw [after_13]
  have h := (idx t).2.2.2.2.2.2.2.2.2.2.2.2.2.2.2.2
  obtain ⟨r, j, rfl⟩ : ∃ r j : Fin 1024, y = ix2 r j := ⟨y 0, y 1, eq_ix2 y⟩
  have e : (win0_13.blk t).view.emb (ix2 r j) = ix2 (⟨1024 * t.val + r.val, by omega⟩ : Fin 16384) j := by blk_ext [idx t]
  refine (rowsAt_point m c t r j).trans ?_
  rw [e]
  show token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ j = token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ j
  congr 1 <;> exact Fin.ext (by simp only [seqOf, posOf, ix2_0]; omega)

/-- The array of tiles after the run. -/
theorem final_tiles (c : Dev nD) : (dats m 0 c).arrAt 14 (cfgs 0).N = tiles (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (dats m 0 c).arrAt_eq_of_covers 14 _ (by decide +kernel) fun t _ y => ?_
  blk_simp
  rw [after_14]
  have h := (idx t).2.2.2.2.2.2.2.2.2.2.2.2.2.2.2.2
  obtain ⟨r, j, rfl⟩ : ∃ (r : Fin 8192) (j : Fin 128), y = ix2 r j := ⟨y 0, y 1, eq_ix2 y⟩
  have e : (win0_14.blk t).view.emb (ix2 r j) = ix2 (⟨8192 * t.val + r.val, by omega⟩ : Fin 131072) j := by blk_ext [idx t]
  refine (tilesAt_point m c t r j).trans ?_
  rw [e]
  show token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ _ = token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ _
  congr 1
  · exact Fin.ext (by show t.val / 8 = (8192 * t.val + r.val) / 8 / 8192; omega)
  · exact Fin.ext (by show 1024 * (t.val % 8) + r.val / 8 = (8192 * t.val + r.val) / 8 % 8192; omega)
  · exact Fin.ext (by show 128 * (r.val % 8) + j.val = 128 * ((8192 * t.val + r.val) % 8) + j.val; omega)

/-- The array of routing logits after the run. -/
theorem final_logits (c : Dev nD) : (dats m 0 c).arrAt 15 (cfgs 0).N = logits (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  refine (dats m 0 c).arrAt_eq_of_covers 15 _ (by decide +kernel) fun t _ y => ?_
  blk_simp
  rw [after_15]
  have h := (idx t).2.2.2.2.2.2.2.2.2.2.2.2.2.2.2.2
  obtain ⟨e, r, rfl⟩ : ∃ (e : Fin 40) (r : Fin 1024), y = ix2 e r := ⟨y 0, y 1, eq_ix2 y⟩
  have he : (win0_15.blk t).view.emb (ix2 e r) = ix2 e (⟨1024 * t.val + r.val, by omega⟩ : Fin 16384) := by blk_ext [idx t]
  refine (logitsAt_point m c t e r).trans ?_
  rw [he]
  unfold logits
  refine congrArg₂ (fun v e => logit _ _ v e) (funext fun j => ?_) (ix2_0 _ _).symm
  show token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ j = token (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) _ _ j
  congr 1
  · exact Fin.ext (by show t.val / 8 = (1024 * t.val + r.val) / 8192; omega)
  · exact Fin.ext (by show 1024 * (t.val % 8) + r.val = (1024 * t.val + r.val) % 8192; omega)

end Cert.KernelIdeal.Xattn

end
-- ==== Proof.RefValue.lean ====
/- The reference over the extended reals: its three results are the same functions of the argument arrays. -/
module

public import proofs.«01_k».proof.Proof.Gen.ReferenceIdeal.Run
public import proofs.«01_k».proof.Proof.Layer
public import proofs.«01_k».proof.Proof.Consts
public import Idealize.ShloMosaic.Lib.Pointwise
public import Idealize.ShloMosaic.Lib.Tactic.CleanTypes
public import Idealize.ShloMosaic.Lib.Pipeline.ValueKit

@[expose] public section

set_option maxRecDepth 16384

noncomputable section

namespace Cert.ReferenceIdeal.Xattn

open Cert.ReferenceIdeal.Gen Cert.ReferenceIdeal.Value Cert.Layer
open Idealize.ShloMosaic Idealize.ShloMosaic.TcCoe Idealize.ShloMosaic.StableHlo Idealize.ShloMosaic.Tactic

variable (V0 : Valuation τ sig (Elt Ideal))

/-- The argument arrays, at their types. -/
abbrev aX : Vec Ideal S2x8192x1024 .f32 := V0 (Proc.devRef .tc main_arg0)
abbrev aYR : Vec Ideal S2x8192x512 .bf16 := V0 (Proc.devRef .tc main_arg1)
abbrev aYD : Vec Ideal S2x8192x512 .bf16 := V0 (Proc.devRef .tc main_arg2)
abbrev aW : Vec Ideal S1x1024x1024 .f32 := V0 (Proc.devRef .tc main_arg3)
abbrev aG₁ : Vec Ideal S1x1024 .f32 := V0 (Proc.devRef .tc main_arg4)
abbrev aB₁ : Vec Ideal S1x1024 .f32 := V0 (Proc.devRef .tc main_arg5)
abbrev aKV : Vec Ideal S2x256x2048 .bf16 := V0 (Proc.devRef .tc main_arg6)
abbrev aWQ : Vec Ideal S1x1024x1024 .f32 := V0 (Proc.devRef .tc main_arg7)
abbrev aWO : Vec Ideal S1x1024x1024 .f32 := V0 (Proc.devRef .tc main_arg8)
abbrev aG₂ : Vec Ideal S1x1024 .f32 := V0 (Proc.devRef .tc main_arg9)
abbrev aB₂ : Vec Ideal S1x1024 .f32 := V0 (Proc.devRef .tc main_arg10)
abbrev aRG : Vec Ideal S1x1024x4 .f32 := V0 (Proc.devRef .tc main_arg11)
abbrev aRE : Vec Ideal S1x1024x32 .f32 := V0 (Proc.devRef .tc main_arg12)

/-- The row of a token before its first layer norm. -/
def pre (b : Fin 2) (s : Fin 8192) (j : Fin 1024) : EReal := Ideal.ofBits .f32 0x3F9837F0#32 * aX V0 (ix3 b s j)
    + ((∑ k : Fin 512, aYR V0 (ix3 b s k) * aW V0 (ix3 0 (k.castLE (by norm_num)) j)) + ∑ k : Fin 512, aYD V0 (ix3 b s k) * aW V0 (ix3 0 (k.natAdd 512) j))

/-- The row of a token after the mixers, -/
def mix (b : Fin 2) (s : Fin 8192) : Fin 1024 → EReal := layerNorm (pre V0 b s) (fun j => aG₁ V0 (ix2 0 j)) (fun j => aB₁ V0 (ix2 0 j))
/-- its query, -/
def query (b : Fin 2) (s : Fin 8192) : Fin 1024 → EReal := queryRow (mix V0 b s) (fun k j => aWQ V0 (ix3 0 k j))
/-- its scores in one head, -/
def score (b : Fin 2) (s : Fin 8192) (h : Fin 4) (m : Fin 256) : EReal :=
  ∑ d : Fin 256, query V0 b s (⟨256 * h.val + d.val, by omega⟩ : Fin 1024) * aKV V0 (ix3 b m ((⟨256 * h.val + d.val, by omega⟩ : Fin 1024).castLE (by norm_num)))
/-- and the row before its second layer norm. -/
def post (b : Fin 2) (s : Fin 8192) (j : Fin 1024) : EReal := Ideal.ofBits .f32 0x3F9837F0#32 * mix V0 b s j
  + ∑ k : Fin 1024, attRow (query V0 b s) (fun m j => aKV V0 (ix3 b m (j.castLE (by norm_num)))) (fun m j => aKV V0 (ix3 b m (j.natAdd 1024))) k * aWO V0 (ix3 0 k j)

theorem token_eq (b : Fin 2) (s : Fin 8192) : token (aX V0) (aYR V0) (aYD V0) (aW V0) (aG₁ V0) (aB₁ V0) (aKV V0) (aWQ V0) (aWO V0) (aG₂ V0) (aB₂ V0) b s = layerNorm (post V0 b s) (fun j => aG₂ V0 (ix2 0 j)) (fun j => aB₂ V0 (ix2 0 j)) := rfl

theorem v7_apply (b : Fin 2) (s : Fin 8192) (j : Fin 1024) : (res_main_v7 V0 : Vec Ideal S2x8192x1024 .f32) (ix3 b s j) = pre V0 b s j := by
  unfold res_main_v7 pre
  pointwise
  rfl

theorem v13_apply (b : Fin 2) (s : Fin 8192) : (res_main_v13 V0 : Vec Ideal S2x8192x1 .f32) (ix3 b s 0) = rowMean (pre V0 b s) := by
  unfold res_main_v13 rowMean
  pointwise
  simp only [v7_apply]

theorem v15_apply (b : Fin 2) (s : Fin 8192) (j : Fin 1024) : (res_main_v15 V0 : Vec Ideal S2x8192x1024 .f32) (ix3 b s j) = pre V0 b s j - rowMean (pre V0 b s) := by
  unfold res_main_v15
  pointwise
  rw [v7_apply, v13_apply]

theorem v33_apply (b : Fin 2) (s : Fin 8192) (j : Fin 1024) : (res_main_v33 V0 : Vec Ideal S2x8192x1024 .f32) (ix3 b s j) = mix V0 b s j := by
  unfold res_main_v33 mix layerNorm
  pointwise
  simp only [v7_apply, v13_apply, v15_apply]

theorem v34_apply (b : Fin 2) (m : Fin 256) (j : Fin 2048) : (res_main_v34 V0 : Vec Ideal S2x256x2048 .f32) (ix3 b m j) = aKV V0 (ix3 b m j) := by
  unfold res_main_v34
  pointwise

theorem v44_apply (b : Fin 2) (h : Fin 4) (s : Fin 8192) (k : Fin 256) : (res_main_v44 V0 : Vec Ideal S2x4x8192x256 .f32) (ix4 b h s k) = score V0 b s h k * ((1 / 16 : ℝ) : EReal) := by
  unfold res_main_v44
  pointwise
  simp only [v33_apply, v34_apply, Consts.ofBits_sixteenth]
  congr 1
  unfold score query queryRow
  refine Finset.sum_congr rfl fun d _ => ?_
  have e : h.val * 256 + d.val = 256 * h.val + d.val := by omega
  simp only [e]
  rfl

/-- The maximum of a row of scores, from minus infinity. -/
theorem rowMax_apply (S : FVec Ideal S2x4x8192x256 .f32) (b : Fin 2) (h : Fin 4) (s : Fin 8192) :
    Host.reduce FloatOps.maximumf S (constant (F := Ideal) S_ .f32 0xFF800000#32) reducesTo_S2x4x8192x256_S2x4x8192_d3 h_S_ (ix3 b h s)
      = (Finset.univ : Finset (Fin 256)).fold (max : EReal → EReal → EReal) (⊥ : EReal) fun m : Fin 256 => (S (ix4 b h s m) : EReal) := by
  have hr : S2x4x8192x256.Reduces [3] S2x4x8192 := by decide
  have e := Host.reduce_eq_fold_single (max : EReal → EReal → EReal) S (fun _ : S_.Idx => (⊥ : EReal)) reducesTo_S2x4x8192x256_S2x4x8192_d3 hr h_S_ (ix3 b h s)
  have hl : ∀ m : Fin 256, hr.lift (ix3 b h s) m = ix4 b h s m := fun m => by
    funext a
    match a with
    | ⟨0, _⟩ => exact Fin.ext ((hr.lift_val (ix3 b h s) m _).trans rfl)
    | ⟨1, _⟩ => exact Fin.ext ((hr.lift_val (ix3 b h s) m _).trans rfl)
    | ⟨2, _⟩ => exact Fin.ext ((hr.lift_val (ix3 b h s) m _).trans rfl)
    | ⟨3, _⟩ => exact Fin.ext ((hr.lift_val (ix3 b h s) m _).trans rfl)
  have e' : (S ∘ hr.lift (ix3 b h s)) = fun m : Fin 256 => S (ix4 b h s m) := funext fun m => congrArg S (hl m)
  have ec : (constant (F := Ideal) S_ .f32 0xFF800000#32) = fun _ : S_.Idx => (⊥ : EReal) := funext fun _ => Consts.ofBits_neg_inf
  rw [ec]
  exact e.trans (congrArg (fun f => (Finset.univ : Finset (Fin 256)).fold (max : EReal → EReal → EReal) (⊥ : EReal) f) e')

/-- The exponentials of some scores less a number for each row. -/
theorem exp_apply (S : FVec Ideal S2x4x8192x256 .f32) (M : FVec Ideal S2x4x8192 .f32) (b : Fin 2) (h : Fin 4) (s : Fin 8192) (k : Fin 256) :
    Host.exp (subf S (broadcastInDim S2x4x8192x256 ![0, 1, 2, 3] bcast_S2x4x8192x1_S2x4x8192x256_0_1_2_3 (broadcastInDim S2x4x8192x1 ![0, 1, 2] bcast_S2x4x8192_S2x4x8192x1_0_1_2
      (maximumf (broadcastInDim S2x4x8192 ![] bcast_S_S2x4x8192 (constant S_ .f32 0xFF800000#32)) M)))) (ix4 b h s k)
      = Ideal.exp (S (ix4 b h s k) - M (ix3 b h s)) := by
  pointwise
  simp only [Consts.ofBits_neg_inf]
  rw [max_eq_right bot_le]

theorem v51_apply (b : Fin 2) (h : Fin 4) (s : Fin 8192) (k : Fin 256) : (res_main_v51 V0 : Vec Ideal S2x4x8192x256 .f32) (ix4 b h s k) = weight (score V0 b s h) k := by
  refine (exp_apply (res_main_v44 V0) _ b h s k).trans ?_
  rw [rowMax_apply]
  simp only [v44_apply]
  rfl

theorem v63_apply (b : Fin 2) (s : Fin 8192) (j : Fin 1024) : (res_main_v63 V0 : Vec Ideal S2x8192x1024 .f32) (ix3 b s j) = post V0 b s j := by
  unfold res_main_v63 post
  pointwise
  simp only [v33_apply, v34_apply, v51_apply]
  congr 1
  refine Finset.sum_congr rfl fun k _ => ?_
  congr 1
  unfold attRow attend
  refine Finset.sum_congr rfl fun m _ => ?_
  exact mul_comm _ _

theorem v69_apply (b : Fin 2) (s : Fin 8192) : (res_main_v69 V0 : Vec Ideal S2x8192x1 .f32) (ix3 b s 0) = rowMean (post V0 b s) := by
  unfold res_main_v69 rowMean
  pointwise
  simp only [v63_apply]

theorem v71_apply (b : Fin 2) (s : Fin 8192) (j : Fin 1024) : (res_main_v71 V0 : Vec Ideal S2x8192x1024 .f32) (ix3 b s j) = post V0 b s j - rowMean (post V0 b s) := by
  unfold res_main_v71
  pointwise
  rw [v63_apply, v69_apply]

theorem v90_apply (r : Fin 16384) (j : Fin 1024) : (res_main_v90 V0 : Vec Ideal S16384x1024 .f32) (ix2 r j)
    = token (aX V0) (aYR V0) (aYD V0) (aW V0) (aG₁ V0) (aB₁ V0) (aKV V0) (aWQ V0) (aWO V0) (aG₂ V0) (aB₂ V0) (⟨r.val / 8192, by omega⟩ : Fin 2) (⟨r.val % 8192, by omega⟩ : Fin 8192) j := by
  rw [token_eq]
  unfold res_main_v90 layerNorm
  pointwise
  simp only [v63_apply, v69_apply, v71_apply]

/-- The reference's rows. -/
theorem rows_eq : (res_main_v90 V0 : Vec Ideal S16384x1024 .f32) = rows (aX V0) (aYR V0) (aYD V0) (aW V0) (aG₁ V0) (aB₁ V0) (aKV V0) (aWQ V0) (aWO V0) (aG₂ V0) (aB₂ V0) := by
  funext y
  rw [eq_ix2 y]
  exact v90_apply V0 (y 0) (y 1)

/-- The reference's tiles. -/
theorem tiles_eq : shapeCast S131072x128 (res_main_v90 V0 : Vec Ideal S16384x1024 .f32) shapeCasts_S16384x1024_S131072x128 = tiles (aX V0) (aYR V0) (aYD V0) (aW V0) (aG₁ V0) (aB₁ V0) (aKV V0) (aWQ V0) (aWO V0) (aG₂ V0) (aB₂ V0) := by
  rw [rows_eq]
  funext y
  obtain ⟨r, j, rfl⟩ : ∃ (r : Fin 131072) (j : Fin 128), y = ix2 r j := ⟨y 0, y 1, eq_ix2 y⟩
  unfold tiles
  pointwise
  congr 2
  exact Fin.ext (by show r.val % 8 * 128 + j.val = 128 * (r.val % 8) + j.val; omega)

/-- The padded, transposed and joined logits of some rows. -/
abbrev logitsTerm (O : FVec Ideal S16384x1024 .f32) (A : FVec Ideal S1x1024x4 .f32) (B : FVec Ideal S1x1024x32 .f32) (z : FVec Ideal S_ .f32) : FVec Ideal S40x16384 .f32 :=
    pad S40x16384 ![0, 0] ![4, 0] ![0, 0] (transpose S36x16384 [1, 0] (concatenate S16384x36 1
        [⟨S16384x4, Host.dotGeneral dot_S16384x1024_S1024x4_S16384x4_1_0_0_1_n_n none O (shapeCast _ A shapeCasts_S1x1024x4_S1024x4)⟩,
          ⟨S16384x32, Host.dotGeneral dot_S16384x1024_S1024x32_S16384x32_1_0_0_1_n_n none O (shapeCast _ B shapeCasts_S1x1024x32_S1024x32)⟩]
        concatenates_S16384x4_S16384x32_S16384x36_d1) transposes_S16384x36_S36x16384_1_0) z pads_S36x16384_S40x16384_040_000 h_S_

/-- They are the routing logits of the rows. -/
theorem logits_apply (O : FVec Ideal S16384x1024 .f32) (A : FVec Ideal S1x1024x4 .f32) (B : FVec Ideal S1x1024x32 .f32) (z : FVec Ideal S_ .f32) (hz : ∀ i, z i = (0 : EReal)) (e : Fin 40) (r : Fin 16384) :
    logitsTerm O A B z (ix2 e r) = logit (fun k e => A (ix3 0 k e)) (fun k e => B (ix3 0 k e)) (fun j => O (ix2 r j)) e := by
  unfold logit routeW
  pointwise [logitsTerm]
  by_cases h : e.val < 4
  · simp only [dif_pos h, dif_pos (show e.val < 36 by omega)]
    exact Finset.sum_congr rfl fun k _ => mul_comm _ _
  · by_cases h' : e.val < 36
    · simp only [dif_neg h, dif_pos h']
      exact Finset.sum_congr rfl fun k _ => mul_comm _ _
    · simp only [dif_neg h, dif_neg h', hz, zero_mul, Finset.sum_const_zero]

/-- The reference's routing logits. -/
theorem logits_eq : logitsTerm (res_main_v90 V0) (aRG V0) (aRE V0) (sitofp (F := Ideal) .f32 (constantI S_ 32 0#32)) = logits (aX V0) (aYR V0) (aYD V0) (aW V0) (aG₁ V0) (aB₁ V0) (aKV V0) (aWQ V0) (aWO V0) (aG₂ V0) (aB₂ V0) (aRG V0) (aRE V0) := by
  funext y
  rw [eq_ix2 y]
  refine (logits_apply _ _ _ _ (fun i => by show ((((0#32 : BitVec 32).toInt : ℤ) : ℝ) : EReal) = 0; simp) (y 0) (y 1)).trans ?_
  show logit _ _ (fun j => (res_main_v90 V0 : Vec Ideal S16384x1024 .f32) (ix2 (y 1) j)) _ = _
  rw [rows_eq]
  rfl

end Cert.ReferenceIdeal.Xattn

end
-- ==== Proof.ProjectBody.lean ====
/- The input projection over the extended reals: what the body leaves in its two output blocks and in the weights it
   keeps between points, as functions of the blocks it reads. -/
module

public import proofs.«01_k».proof.Proof.Boxes
public import proofs.«01_k».proof.Proof.Gen.ProjectIdeal.Frame

@[expose] public section

set_option maxRecDepth 16384

noncomputable section

namespace Cert.ProjectIdeal.Rows

open Cert.ProjectIdeal.Gen Cert.Layer
open Idealize.ShloMosaic Idealize.ShloMosaic.TcCoe Idealize.ShloMosaic.Tactic

/-! ### The blocks as functions -/

/-- The kept weights: the head columns in their new order, then the columns as they are. -/
def keptV (x1 : Vec Ideal S1024x3072 .f32) (x2 : Vec Ideal S1024x512 .bf16) : Vec Ideal S1024x3072 .bf16 :=
  fun y => if h : (y 1).val < 512 then x2 (ix2 (y 0) (⟨(y 1).val, h⟩ : Fin 512)) else x1 (ix2 (y 0) (y 1))

/-- A block of rows times the first half of the kept weights. -/
def rowsV (x : Vec Ideal S1024x1024 .f32) (W : Vec Ideal S1024x3072 .bf16) : Vec Ideal S1024x1536 .f32 :=
  fun y => ∑ k : Fin 1024, x (ix2 (y 0) k) * W (ix2 k ((y 1).castLE (by decide : 1536 ≤ 3072)))

/-- The column of the second half a lane of a slab is. -/
def slabCol (h : Fin 12) (l : Fin 128) : Fin 3072 := ⟨1536 + (128 * h.val + l.val), by omega⟩

/-- A block of rows times the second half of the kept weights, a slab of 128 columns after another. -/
def slabsV (x : Vec Ideal S1024x1024 .f32) (W : Vec Ideal S1024x3072 .bf16) : Vec Ideal S12x1024x128 .f32 :=
  fun y => ∑ k : Fin 1024, x (ix2 (y 1) k) * W (ix2 k (slabCol (y 0) (y 2)))

/-! ### The payloads at an index -/

/-- The second product of the body at an index. -/
theorem pay6_apply (x : Vec Ideal S1024x1024 .f32) (W : Vec Ideal S1024x3072 .bf16) (r : Fin 1024) (j : Fin 1536) :
    k0_pay6 (F := Ideal) x (View.ld (Val := Elt Ideal) W (Rect.unit (s := S1024x3072) ![0, 1536] ![1024, 1536] inb_S1024x3072_S1024x1536_0_1536)) (ix2 r j)
      = ∑ k : Fin 1024, x (ix2 r k) * W (ix2 k (⟨1536 + j.val, by omega⟩ : Fin 3072)) := by
  have e : ∀ k : Fin 1024, View.ld (Val := Elt Ideal) W (Rect.unit (s := S1024x3072) ![0, 1536] ![1024, 1536] inb_S1024x3072_S1024x1536_0_1536) (ix2 k j)
      = W (ix2 k (⟨1536 + j.val, by omega⟩ : Fin 3072)) := fun k => by
    refine (congrArg W (box_idx 0 1536 _ k j (by omega) (by omega))).trans ?_
    congr 2
    exact Fin.ext (Nat.zero_add _)
  refine Eq.trans ?_ (Finset.sum_congr rfl fun k _ => congrArg _ (e k))
  generalize (View.ld (Val := Elt Ideal) W (Rect.unit (s := S1024x3072) ![0, 1536] ![1024, 1536] inb_S1024x3072_S1024x1536_0_1536)) = w
  pointwise [k0_pay6, k0_pay4]

/-- The first product of the body. -/
theorem pay5_eq (x : Vec Ideal S1024x1024 .f32) (W : Vec Ideal S1024x3072 .bf16) :
    k0_pay5 (F := Ideal) x (View.ld (Val := Elt Ideal) W (Rect.unit (s := S1024x3072) ![0, 0] ![1024, 1536] inb_S1024x3072_S1024x1536_0_0)) = rowsV x W := by
  funext y
  obtain ⟨r, j, rfl⟩ : ∃ (r : Fin 1024) (j : Fin 1536), y = ix2 r j := ⟨y 0, y 1, eq_ix2 y⟩
  have e : ∀ k : Fin 1024, View.ld (Val := Elt Ideal) W (Rect.unit (s := S1024x3072) ![0, 0] ![1024, 1536] inb_S1024x3072_S1024x1536_0_0) (ix2 k j)
      = W (ix2 k (j.castLE (by decide : 1536 ≤ 3072))) := fun k => by
    refine (congrArg W (box_idx 0 0 _ k j (by omega) (by omega))).trans ?_
    congr 2 <;> exact Fin.ext (Nat.zero_add _)
  refine Eq.trans ?_ (Finset.sum_congr rfl fun k _ => congrArg _ (e k))
  generalize (View.ld (Val := Elt Ideal) W (Rect.unit (s := S1024x3072) ![0, 0] ![1024, 1536] inb_S1024x3072_S1024x1536_0_0)) = w
  pointwise [k0_pay5, k0_pay4]

/-- A slab of the second product, at its place in the block of slabs. -/
theorem slab_piece (x : Vec Ideal S1024x1024 .f32) (W : Vec Ideal S1024x3072 .bf16) (h : Fin 12) (inb)
    (P : Vec Ideal S1x1024x128 .f32)
    (hP : ∀ (r : Fin 1024) (l : Fin 128), P (ix3 0 r l) = k0_pay6 (F := Ideal) x (View.ld (Val := Elt Ideal) W (Rect.unit (s := S1024x3072) ![0, 1536] ![1024, 1536] inb_S1024x3072_S1024x1536_0_1536)) (ix2 r (⟨128 * h.val + l.val, by omega⟩ : Fin 1536)))
    (y : S1x1024x128.Idx) : P y = slabsV x W ((Rect.unit (s := S12x1024x128) ![h.val, 0, 0] ![1, 1024, 128] inb).emb y) := by
  obtain ⟨z, r, l, rfl⟩ : ∃ (z : Fin 1) (r : Fin 1024) (l : Fin 128), y = ix3 z r l := ⟨y 0, y 1, y 2, eq_ix3 y⟩
  obtain rfl : z = 0 := Subsingleton.elim _ _
  have e : (Rect.unit (s := S12x1024x128) ![h.val, 0, 0] ![1, 1024, 128] inb).emb (ix3 0 r l) = ix3 h r l := by
    funext a
    match a with
    | ⟨0, _⟩ => exact Fin.ext (show h.val + 1 * 0 = h.val by omega)
    | ⟨1, _⟩ => exact Fin.ext (show 0 + 1 * r.val = r.val by omega)
    | ⟨2, _⟩ => exact Fin.ext (show 0 + 1 * l.val = l.val by omega)
  rw [hP, pay6_apply, e]
  rfl

/-- The twelve stores of slabs, last first. -/
def slabStores (x : Vec Ideal S1024x1024 .f32) (v : Vec Ideal S1024x1536 .bf16) : List (View.Piece (Elt Ideal) S12x1024x128 .f32) :=
  [⟨Rect.unit ![11, 0, 0] ![1, 1024, 128] inb_S12x1024x128_S1x1024x128_11_0_0, k0_pay1 (k0_pay19 (k0_pay6 x v))⟩,
   ⟨Rect.unit ![10, 0, 0] ![1, 1024, 128] inb_S12x1024x128_S1x1024x128_10_0_0, k0_pay18 (k0_pay6 x v)⟩,
   ⟨Rect.unit ![9, 0, 0] ![1, 1024, 128] inb_S12x1024x128_S1x1024x128_9_0_0, k0_pay17 (k0_pay6 x v)⟩,
   ⟨Rect.unit ![8, 0, 0] ![1, 1024, 128] inb_S12x1024x128_S1x1024x128_8_0_0, k0_pay16 (k0_pay6 x v)⟩,
   ⟨Rect.unit ![7, 0, 0] ![1, 1024, 128] inb_S12x1024x128_S1x1024x128_7_0_0, k0_pay15 (k0_pay6 x v)⟩,
   ⟨Rect.unit ![6, 0, 0] ![1, 1024, 128] inb_S12x1024x128_S1x1024x128_6_0_0, k0_pay14 (k0_pay6 x v)⟩,
   ⟨Rect.unit ![5, 0, 0] ![1, 1024, 128] inb_S12x1024x128_S1x1024x128_5_0_0, k0_pay13 (k0_pay6 x v)⟩,
   ⟨Rect.unit ![4, 0, 0] ![1, 1024, 128] inb_S12x1024x128_S1x1024x128_4_0_0, k0_pay12 (k0_pay11 x v)⟩,
   ⟨Rect.unit ![3, 0, 0] ![1, 1024, 128] inb_S12x1024x128_S1x1024x128_3_0_0, k0_pay10 x v⟩,
   ⟨Rect.unit ![2, 0, 0] ![1, 1024, 128] inb_S12x1024x128_S1x1024x128_2_0_0, k0_pay9 x v⟩,
   ⟨Rect.unit ![1, 0, 0] ![1, 1024, 128] inb_S12x1024x128_S1x1024x128_1_0_0, k0_pay8 x v⟩,
   ⟨Rect.unit ![0, 0, 0] ![1, 1024, 128] inb_S12x1024x128_S1x1024x128_0_0_0, k0_pay7 x v⟩]

/-- Store 0 of the slabs is the second product's columns from 0. -/
theorem slab_0 (x : Vec Ideal S1024x1024 .f32) (v : Vec Ideal S1024x1536 .bf16) (r : Fin 1024) (l : Fin 128) :
    (k0_pay7 x v : Vec Ideal S1x1024x128 .f32) (ix3 0 r l) = k0_pay6 (F := Ideal) x v (ix2 r (⟨0 + l.val, by omega⟩ : Fin 1536)) := by
  pointwise [k0_pay7]

/-- Store 1 of the slabs is the second product's columns from 128. -/
theorem slab_1 (x : Vec Ideal S1024x1024 .f32) (v : Vec Ideal S1024x1536 .bf16) (r : Fin 1024) (l : Fin 128) :
    (k0_pay8 x v : Vec Ideal S1x1024x128 .f32) (ix3 0 r l) = k0_pay6 (F := Ideal) x v (ix2 r (⟨128 + l.val, by omega⟩ : Fin 1536)) := by
  pointwise [k0_pay8]

/-- Store 2 of the slabs is the second product's columns from 256. -/
theorem slab_2 (x : Vec Ideal S1024x1024 .f32) (v : Vec Ideal S1024x1536 .bf16) (r : Fin 1024) (l : Fin 128) :
    (k0_pay9 x v : Vec Ideal S1x1024x128 .f32) (ix3 0 r l) = k0_pay6 (F := Ideal) x v (ix2 r (⟨256 + l.val, by omega⟩ : Fin 1536)) := by
  pointwise [k0_pay9]

/-- Store 3 of the slabs is the second product's columns from 384. -/
theorem slab_3 (x : Vec Ideal S1024x1024 .f32) (v : Vec Ideal S1024x1536 .bf16) (r : Fin 1024) (l : Fin 128) :
    (k0_pay10 x v : Vec Ideal S1x1024x128 .f32) (ix3 0 r l) = k0_pay6 (F := Ideal) x v (ix2 r (⟨384 + l.val, by omega⟩ : Fin 1536)) := by
  pointwise [k0_pay10]

/-- Store 4 of the slabs is the second product's columns from 512. -/
theorem slab_4 (x : Vec Ideal S1024x1024 .f32) (v : Vec Ideal S1024x1536 .bf16) (r : Fin 1024) (l : Fin 128) :
    (k0_pay12 (k0_pay11 x v) : Vec Ideal S1x1024x128 .f32) (ix3 0 r l) = k0_pay6 (F := Ideal) x v (ix2 r (⟨512 + l.val, by omega⟩ : Fin 1536)) := by
  pointwise [k0_pay12, k0_pay11]

/-- Store 5 of the slabs is the second product's columns from 640. -/
theorem slab_5 (x : Vec Ideal S1024x1024 .f32) (v : Vec Ideal S1024x1536 .bf16) (r : Fin 1024) (l : Fin 128) :
    (k0_pay13 (k0_pay6 x v) : Vec Ideal S1x1024x128 .f32) (ix3 0 r l) = k0_pay6 (F := Ideal) x v (ix2 r (⟨640 + l.val, by omega⟩ : Fin 1536)) := by
  pointwise [k0_pay13]

/-- Store 6 of the slabs is the second product's columns from 768. -/
theorem slab_6 (x : Vec Ideal S1024x1024 .f32) (v : Vec Ideal S1024x1536 .bf16) (r : Fin 1024) (l : Fin 128) :
    (k0_pay14 (k0_pay6 x v) : Vec Ideal S1x1024x128 .f32) (ix3 0 r l) = k0_pay6 (F := Ideal) x v (ix2 r (⟨768 + l.val, by omega⟩ : Fin 1536)) := by
  pointwise [k0_pay14]

/-- Store 7 of the slabs is the second product's columns from 896. -/
theorem slab_7 (x : Vec Ideal S1024x1024 .f32) (v : Vec Ideal S1024x1536 .bf16) (r : Fin 1024) (l : Fin 128) :
    (k0_pay15 (k0_pay6 x v) : Vec Ideal S1x1024x128 .f32) (ix3 0 r l) = k0_pay6 (F := Ideal) x v (ix2 r (⟨896 + l.val, by omega⟩ : Fin 1536)) := by
  pointwise [k0_pay15]

/-- Store 8 of the slabs is the second product's columns from 1024. -/
theorem slab_8 (x : Vec Ideal S1024x1024 .f32) (v : Vec Ideal S1024x1536 .bf16) (r : Fin 1024) (l : Fin 128) :
    (k0_pay16 (k0_pay6 x v) : Vec Ideal S1x1024x128 .f32) (ix3 0 r l) = k0_pay6 (F := Ideal) x v (ix2 r (⟨1024 + l.val, by omega⟩ : Fin 1536)) := by
  pointwise [k0_pay16]

/-- Store 9 of the slabs is the second product's columns from 1152. -/
theorem slab_9 (x : Vec Ideal S1024x1024 .f32) (v : Vec Ideal S1024x1536 .bf16) (r : Fin 1024) (l : Fin 128) :
    (k0_pay17 (k0_pay6 x v) : Vec Ideal S1x1024x128 .f32) (ix3 0 r l) = k0_pay6 (F := Ideal) x v (ix2 r (⟨1152 + l.val, by omega⟩ : Fin 1536)) := by
  pointwise [k0_pay17]

/-- Store 10 of the slabs is the second product's columns from 1280. -/
theorem slab_10 (x : Vec Ideal S1024x1024 .f32) (v : Vec Ideal S1024x1536 .bf16) (r : Fin 1024) (l : Fin 128) :
    (k0_pay18 (k0_pay6 x v) : Vec Ideal S1x1024x128 .f32) (ix3 0 r l) = k0_pay6 (F := Ideal) x v (ix2 r (⟨1280 + l.val, by omega⟩ : Fin 1536)) := by
  pointwise [k0_pay18]

/-- Store 11 of the slabs is the second product's columns from 1408. -/
theorem slab_11 (x : Vec Ideal S1024x1024 .f32) (v : Vec Ideal S1024x1536 .bf16) (r : Fin 1024) (l : Fin 128) :
    (k0_pay1 (k0_pay19 (k0_pay6 x v)) : Vec Ideal S1x1024x128 .f32) (ix3 0 r l) = k0_pay6 (F := Ideal) x v (ix2 r (⟨1408 + l.val, by omega⟩ : Fin 1536)) := by
  pointwise [k0_pay1, k0_pay19]

/-- They are the slabs. -/
theorem slab_pieces (x : Vec Ideal S1024x1024 .f32) (W : Vec Ideal S1024x3072 .bf16) :
    View.PiecesOf (slabsV x W) (slabStores x (View.ld (Val := Elt Ideal) W (Rect.unit (s := S1024x3072) ![0, 1536] ![1024, 1536] inb_S1024x3072_S1024x1536_0_1536))) :=
  ⟨slab_piece x W 11 inb_S12x1024x128_S1x1024x128_11_0_0 _ (slab_11 x _),
   slab_piece x W 10 inb_S12x1024x128_S1x1024x128_10_0_0 _ (slab_10 x _),
   slab_piece x W 9 inb_S12x1024x128_S1x1024x128_9_0_0 _ (slab_9 x _),
   slab_piece x W 8 inb_S12x1024x128_S1x1024x128_8_0_0 _ (slab_8 x _),
   slab_piece x W 7 inb_S12x1024x128_S1x1024x128_7_0_0 _ (slab_7 x _),
   slab_piece x W 6 inb_S12x1024x128_S1x1024x128_6_0_0 _ (slab_6 x _),
   slab_piece x W 5 inb_S12x1024x128_S1x1024x128_5_0_0 _ (slab_5 x _),
   slab_piece x W 4 inb_S12x1024x128_S1x1024x128_4_0_0 _ (slab_4 x _),
   slab_piece x W 3 inb_S12x1024x128_S1x1024x128_3_0_0 _ (slab_3 x _),
   slab_piece x W 2 inb_S12x1024x128_S1x1024x128_2_0_0 _ (slab_2 x _),
   slab_piece x W 1 inb_S12x1024x128_S1x1024x128_1_0_0 _ (slab_1 x _),
   slab_piece x W 0 inb_S12x1024x128_S1x1024x128_0_0_0 _ (slab_0 x _), trivial⟩

/-- The two stores of the weights, last first, leave the kept weights. -/
theorem kept_canon (x1 : Vec Ideal S1024x3072 .f32) (x2 : Vec Ideal S1024x512 .bf16) (P : Vec Ideal S1024x512 .bf16) (Q : Vec Ideal S1024x3072 .bf16)
    (hP : P = x2) (hQ : Q = x1) :
    View.canon ([⟨Rect.unit ![0, 0] ![1024, 512] inb_S1024x3072_S1024x512_0_0, P⟩, ⟨Rect.unit ![0, 0] ![1024, 3072] inb_S1024x3072_S1024x3072_0_0, Q⟩] : List (View.Piece (Elt Ideal) S1024x3072 .bf16)) = keptV x1 x2 := by
  subst hP hQ
  funext y
  obtain ⟨r, j, rfl⟩ : ∃ (r : Fin 1024) (j : Fin 3072), y = ix2 r j := ⟨y 0, y 1, eq_ix2 y⟩
  unfold keptV
  by_cases h : j.val < 512
  · have e : (Rect.unit (s := S1024x3072) ![0, 0] ![1024, 512] inb_S1024x3072_S1024x512_0_0).emb (ix2 r (⟨j.val, h⟩ : Fin 512)) = ix2 r j := by
      funext a
      match a with
      | ⟨0, _⟩ => exact Fin.ext (show 0 + 1 * r.val = r.val by omega)
      | ⟨1, _⟩ => exact Fin.ext (show 0 + 1 * j.val = j.val by omega)
    refine Eq.trans ?_ (dif_pos h).symm
    exact (congrArg (View.canon _) e.symm).trans (View.canon_cons_emb _ _ _ _)
  · refine Eq.trans ?_ (dif_neg h).symm
    rw [View.canon_cons_of_not_mem _ _ (fun hm => ?_)]
    · exact congrFun (View.canon_unit_zero (Val := Elt Ideal) (S := S1024x3072) (by decide) _ _) _
    · obtain ⟨z, hz⟩ := (Rect.unit (s := S1024x3072) ![0, 0] ![1024, 512] inb_S1024x3072_S1024x512_0_0).exists_idx_of_mem hm
      have h1 : 0 + 1 * (z 1).val = j.val := congrArg (fun i : S1024x3072.Idx => (i 1).val) hz
      have h2 : (z 1).val < 512 := (z 1).isLt
      omega

/-! ### What the body leaves -/

variable (c : Dev nD) (i : grid0.Coords) (arg1 : Memref sig .tc .vmem S1024x1024 .f32) (harg1 : arg1.IsWhole) (arg2 : Memref sig .tc .vmem S1024x3072 .f32) (harg2 : arg2.IsWhole) (arg3 : Memref sig .tc .vmem S1024x512 .bf16) (harg3 : arg3.IsWhole) (arg4 : Memref sig .tc .vmem S1024x1536 .f32) (harg4 : arg4.IsWhole) (arg5 : Memref sig .tc .vmem S12x1024x128 .f32) (harg5 : arg5.IsWhole) (arg6 : Memref sig .tc .vmem S1024x3072 .bf16) (harg6 : arg6.IsWhole)
  (x0 : Vec Ideal S1024x1024 .f32) (x1 : Vec Ideal S1024x3072 .f32) (x2 : Vec Ideal S1024x512 .bf16) (xs0 : Vec Ideal S1024x3072 .bf16)

/-- The stores of the weights at the first point leave the kept weights, -/
theorem stores_A : View.canon (kernelRun0_A.sl.HS0_2 (F := Ideal) c arg2 harg2 arg3 harg3 x1 x2) = keptV x1 x2 := by
  unfold kernelRun0_A.sl.HS0_2
  simp only [View.readAt_eq_ld, harg2.read_unread, harg3.read_unread]
  refine kept_canon x1 x2 _ _ ?_ ?_
  · funext y
    obtain ⟨r, j, rfl⟩ : ∃ (r : Fin 1024) (j : Fin 512), y = ix2 r j := ⟨y 0, y 1, eq_ix2 y⟩
    rw [ld_full]
    pointwise [k0_pay3]
  · funext y
    obtain ⟨r, j, rfl⟩ : ∃ (r : Fin 1024) (j : Fin 3072), y = ix2 r j := ⟨y 0, y 1, eq_ix2 y⟩
    rw [ld_full]
    pointwise [k0_pay2]

/-- which the loads of the two halves read. -/
theorem v6_A : kernelRun0_A.sl.v6 (F := Ideal) c arg2 harg2 arg3 harg3 arg6 x1 x2 = View.ld (Val := Elt Ideal) (keptV x1 x2) (Rect.unit (s := S1024x3072) ![0, 0] ![1024, 1536] inb_S1024x3072_S1024x1536_0_0) := by
  unfold kernelRun0_A.sl.v6
  rw [View.readCov_eq_canon', stores_A]

/-- The load of the second half. -/
theorem v9_A : kernelRun0_A.sl.v9 (F := Ideal) c arg2 harg2 arg3 harg3 arg6 x1 x2 = View.ld (Val := Elt Ideal) (keptV x1 x2) (Rect.unit (s := S1024x3072) ![0, 1536] ![1024, 1536] inb_S1024x3072_S1024x1536_0_1536) := by
  unfold kernelRun0_A.sl.v9
  rw [View.readCov_eq_canon', stores_A]

/-- At the first point the weights kept are the kept weights, -/
theorem kept_A (hc0 : cond0_0 i) : sout0_A_0 (F := Ideal) c i arg1 harg1 arg2 harg2 arg3 harg3 arg4 harg4 arg5 harg5 arg6 harg6 hc0 x0 x1 x2 = keptV x1 x2 := by
  unfold sout0_A_0
  rw [View.read_writes_junk_eq_canon]
  unfold kernelRun0_A
  dsimp only
  exact stores_A c arg2 harg2 arg3 harg3 x1 x2

/-- the rows out are the rows times their first half, -/
theorem rows_A (hc0 : cond0_0 i) : out0_A_3 (F := Ideal) c i arg1 harg1 arg2 harg2 arg3 harg3 arg4 harg4 arg5 harg5 arg6 harg6 hc0 x0 x1 x2 = rowsV x0 (keptV x1 x2) := by
  unfold out0_A_3
  rw [View.read_writes_junk_eq_canon]
  unfold kernelRun0_A
  dsimp only
  rw [View.canon_unit_zero (S := S1024x1536) (by decide), v6_A, View.readAt_eq_ld, harg1.read_unread, ld_full]
  exact pay5_eq x0 _

/-- and the slabs out the rows times their second half. -/
theorem slabs_A (hc0 : cond0_0 i) : out0_A_4 (F := Ideal) c i arg1 harg1 arg2 harg2 arg3 harg3 arg4 harg4 arg5 harg5 arg6 harg6 hc0 x0 x1 x2 = slabsV x0 (keptV x1 x2) := by
  funext y
  have hcov := cover0_A_4 (F := Ideal) c i arg1 harg1 arg2 harg2 arg3 harg3 arg4 harg4 arg5 harg5 arg6 harg6 hc0 x0 x1 x2 y
  unfold out0_A_4
  rw [View.read_writes_junk_eq_canon]
  revert hcov
  have e : (kernelRun0_A (F := Ideal) c i arg1 harg1 arg2 harg2 arg3 harg3 arg4 harg4 arg5 harg5 arg6 harg6 hc0 x0 x1 x2).2.1
      = slabStores x0 (View.ld (Val := Elt Ideal) (keptV x1 x2) (Rect.unit (s := S1024x3072) ![0, 1536] ![1024, 1536] inb_S1024x3072_S1024x1536_0_1536)) := by
    unfold kernelRun0_A
    dsimp only
    simp only [kernelRun0_A.sl.r, kernelRun0_A.sl.r_1, kernelRun0_A.sl.r_2]
    rw [v9_A, View.readAt_eq_ld, harg1.read_unread, ld_full]
    rfl
  rw [e]
  exact View.canon_apply_of_pieces _ _ (slab_pieces x0 (keptV x1 x2)).mem y

/-- At a later point the same, over the weights kept from the point before. -/
theorem rows_B (hc0 : ¬ cond0_0 i) : out0_B_3 (F := Ideal) c i arg1 harg1 arg2 harg2 arg3 harg3 arg4 harg4 arg5 harg5 arg6 harg6 hc0 x0 x1 x2 xs0 = rowsV x0 xs0 := by
  unfold out0_B_3
  rw [View.read_writes_junk_eq_canon]
  unfold kernelRun0_B
  dsimp only
  rw [View.canon_unit_zero (S := S1024x1536) (by decide), View.readAt_eq_ld, View.readAt_eq_ld, harg1.read_unread, harg6.read_unread, ld_full]
  exact pay5_eq x0 _

/-- The slabs out at a later point. -/
theorem slabs_B (hc0 : ¬ cond0_0 i) : out0_B_4 (F := Ideal) c i arg1 harg1 arg2 harg2 arg3 harg3 arg4 harg4 arg5 harg5 arg6 harg6 hc0 x0 x1 x2 xs0 = slabsV x0 xs0 := by
  funext y
  have hcov := cover0_B_4 (F := Ideal) c i arg1 harg1 arg2 harg2 arg3 harg3 arg4 harg4 arg5 harg5 arg6 harg6 hc0 x0 x1 x2 xs0 y
  unfold out0_B_4
  rw [View.read_writes_junk_eq_canon]
  revert hcov
  have e : (kernelRun0_B (F := Ideal) c i arg1 harg1 arg2 harg2 arg3 harg3 arg4 harg4 arg5 harg5 arg6 harg6 hc0 x0 x1 x2 xs0).2.1
      = slabStores x0 (View.ld (Val := Elt Ideal) xs0 (Rect.unit (s := S1024x3072) ![0, 1536] ![1024, 1536] inb_S1024x3072_S1024x1536_0_1536)) := by
    unfold kernelRun0_B
    dsimp only
    simp only [kernelRun0_B.sl.r, kernelRun0_B.sl.r_1, kernelRun0_B.sl.r_2, View.readAt_eq_ld, harg1.read_unread, harg6.read_unread]
    rw [ld_full x0]
    rfl
  rw [e]
  exact View.canon_apply_of_pieces _ _ (slab_pieces x0 xs0).mem y

end Cert.ProjectIdeal.Rows

end
-- ==== Proof.ProjectValue.lean ====
/- The input projection over the extended reals: the two arrays after the run, and the reference's results, as the
   same functions of the argument arrays. -/
module

public import proofs.«01_k».proof.Proof.ProjectBody
public import proofs.«01_k».proof.Proof.Gen.ProjectIdeal.Value
public import proofs.«01_k».proof.Proof.Gen.ProjectReferenceIdeal.Run
public import Idealize.ShloMosaic.Lib.Quiescent

@[expose] public section

set_option maxRecDepth 16384

noncomputable section

namespace Cert.Layer

open Idealize.ShloMosaic Idealize.ShloMosaic.Tactic

/-- One entry of the projection: a token's row times a column of the weights. -/
def projAt (X : Vec Ideal ⟨3, ![2, 8192, 1024]⟩ .f32) (W : Vec Ideal ⟨3, ![1, 1024, 3072]⟩ .f32) (t : Fin 16384) (j : Fin 3072) : EReal :=
  ∑ k : Fin 1024, X (ix3 (⟨t.val / 8192, by omega⟩ : Fin 2) (⟨t.val % 8192, by omega⟩ : Fin 8192) k) * W (ix3 0 k j)

/-- The column of the weights a column of the rows is: the first 512 columns hold the queries and keys with the two
    halves of all four heads side by side, the rest are as they are. -/
def rowCol (j : Fin 1536) : Fin 3072 :=
  if j.val < 512 then ⟨256 * (j.val / 256) + 64 * (j.val % 128 / 32) + 32 * (j.val % 256 / 128) + j.val % 32, by omega⟩ else ⟨j.val, by omega⟩

/-- The rows of the projection. -/
def projRows (X : Vec Ideal ⟨3, ![2, 8192, 1024]⟩ .f32) (W : Vec Ideal ⟨3, ![1, 1024, 3072]⟩ .f32) : Vec Ideal ⟨2, ![16384, 1536]⟩ .f32 :=
  fun y => projAt X W (y 0) (rowCol (y 1))

/-- The slabs of the projection. -/
def projSlabs (X : Vec Ideal ⟨3, ![2, 8192, 1024]⟩ .f32) (W : Vec Ideal ⟨3, ![1, 1024, 3072]⟩ .f32) : Vec Ideal ⟨3, ![12, 16384, 128]⟩ .f32 :=
  fun y => projAt X W (y 1) (⟨1536 + (128 * (y 0).val + (y 2).val), by
    have h0 := (y 0).isLt; have h2 := (y 2).isLt; change (y 0).val < 12 at h0; change (y 2).val < 128 at h2; omega⟩ : Fin 3072)

end Cert.Layer

namespace Cert.ProjectIdeal.Rows

open Cert.ProjectIdeal.Gen Cert.Layer
open Idealize.ShloMosaic Idealize.ShloMosaic.TcCoe Idealize.ShloMosaic.Tactic

variable (m : (ℓ : Loc nD τ sig) → Buf (Elt Ideal) ℓ)

/-- Where each window's block lies at a grid point. -/
theorem idx : ∀ t : Fin cfg0.N, win0_0.index t = ![t.val, 0] ∧ win0_1.index t = ![0, 0] ∧ win0_2.index t = ![0, 0]
    ∧ win0_3.index t = ![t.val, 0] ∧ win0_4.index t = ![0, t.val, 0] ∧ t.val < 16 :=
  (by decide +kernel : ∀ t : Fin grid0.N, _)

/-! ### What the host operations hand to the kernel -/

/-- The input, a row for every token. -/
theorem V_v0 (c : Dev nD) (r : Fin 16384) (j : Fin 1024) : (V m c main_v0 : Vec Ideal S16384x1024 .f32) (ix2 r j)
    = (m ((c : Thread nD τ).loc main_arg0) : Vec Ideal S2x8192x1024 .f32) (ix3 (⟨r.val / 8192, by omega⟩ : Fin 2) (⟨r.val % 8192, by omega⟩ : Fin 8192) j) := by
  entry_read
  pointwise

/-- The weights. -/
theorem V_v1 (c : Dev nD) (r : Fin 1024) (j : Fin 3072) : (V m c main_v1 : Vec Ideal S1024x3072 .f32) (ix2 r j)
    = (m ((c : Thread nD τ).loc main_arg1) : Vec Ideal S1x1024x3072 .f32) (ix3 0 r j) := by
  entry_read
  pointwise

/-- The head columns in their new order. -/
theorem V_v7 (c : Dev nD) (r : Fin 1024) (j : Fin 512) : (V m c main_v7 : Vec Ideal S1024x512 .bf16) (ix2 r j)
    = (m ((c : Thread nD τ).loc main_arg1) : Vec Ideal S1x1024x3072 .f32) (ix3 0 r (⟨256 * (j.val / 256) + 64 * (j.val % 128 / 32) + 32 * (j.val % 256 / 128) + j.val % 32, by omega⟩ : Fin 3072)) := by
  entry_read
  pointwise
  exact congrArg (fun z : Fin 3072 => (m ((c : Thread nD τ).loc main_arg1) : Vec Ideal S1x1024x3072 .f32) (ix3 0 r z)) (Fin.ext (by dsimp only; omega))

/-! ### The blocks a grid point reads -/

/-- A block of the input rows. -/
theorem blk_0 (c : Dev nD) (t : Fin cfg0.N) (r : Fin 1024) (j : Fin 1024) : iblk m c 0 t (ix2 r j)
    = (V m c main_v0 : Vec Ideal S16384x1024 .f32) (ix2 (⟨1024 * t.val + r.val, by have := (idx t).2.2.2.2.2; omega⟩ : Fin 16384) j) := by
  blk_ext [iblk, idx t]

/-- The block of the weights. -/
theorem blk_1 (c : Dev nD) (t : Fin cfg0.N) (r : Fin 1024) (j : Fin 3072) : iblk m c 1 t (ix2 r j) = (V m c main_v1 : Vec Ideal S1024x3072 .f32) (ix2 r j) := by
  blk_ext [iblk, idx t]

/-- The block of the head columns. -/
theorem blk_2 (c : Dev nD) (t : Fin cfg0.N) (r : Fin 1024) (j : Fin 512) : iblk m c 2 t (ix2 r j) = (V m c main_v7 : Vec Ideal S1024x512 .bf16) (ix2 r j) := by
  blk_ext [iblk, idx t]

/-- The weights kept after the first point, of the argument array. -/
def weights (c : Dev nD) : Vec Ideal S1024x3072 .bf16 :=
  keptV (V m c main_v1 : Vec Ideal S1024x3072 .f32) (V m c main_v7 : Vec Ideal S1024x512 .bf16)

/-- The blocks of the weights are the whole arrays. -/
theorem kept_blocks (c : Dev nD) (t : Fin cfg0.N) : keptV (iblk m c 1 t) (iblk m c 2 t) = weights m c := by
  have e1 : (iblk m c 1 t : Vec Ideal S1024x3072 .f32) = (V m c main_v1 : Vec Ideal S1024x3072 .f32) := funext fun y => by
    rw [eq_ix2 y]
    exact blk_1 m c t (y 0) (y 1)
  have e2 : (iblk m c 2 t : Vec Ideal S1024x512 .bf16) = (V m c main_v7 : Vec Ideal S1024x512 .bf16) := funext fun y => by
    rw [eq_ix2 y]
    exact blk_2 m c t (y 0) (y 1)
  exact congrArg₂ keptV e1 e2

/-! ### What every point leaves -/

/-- Every point leaves its rows times the kept weights, and keeps the weights. -/
theorem outs (c : Dev nD) : ∀ (n : ℕ) (hn : n < cfg0.N), outsAt0 m c n hn
    = (rowsV (iblk m c 0 ⟨n, hn⟩) (weights m c), slabsV (iblk m c 0 ⟨n, hn⟩) (weights m c), weights m c)
  | 0, hn => by
    rw [outsAt0_A m c ⟨0, hn⟩ rfl, rows_A, slabs_A, kept_A, kept_blocks]
  | n + 1, hn => by
    have ih := outs c n (Nat.lt_of_succ_lt hn)
    have h0 : ¬ (⟨n + 1, hn⟩ : Fin cfg0.N).val % 16 = 0 := by
      have := (idx ⟨n + 1, hn⟩).2.2.2.2.2
      show ¬ (n + 1) % 16 = 0
      change n + 1 < 16 at this
      omega
    rw [outsAt0_B m c ⟨n + 1, hn⟩ h0, rows_B, slabs_B]
    unfold sout0_B_0
    rw [show outsAt0 m c ((⟨n + 1, hn⟩ : Fin cfg0.N).val - 1) _ = _ from ih]

/-- The kept weights at an index: the first half's columns in their order, -/
theorem weights_row (c : Dev nD) (k : Fin 1024) (j : Fin 1536) : weights m c (ix2 k (j.castLE (by decide : 1536 ≤ 3072)))
    = (m ((c : Thread nD τ).loc main_arg1) : Vec Ideal S1x1024x3072 .f32) (ix3 0 k (rowCol j)) := by
  unfold weights keptV rowCol
  by_cases h : j.val < 512
  · rw [if_pos h]
    refine (dif_pos h).trans ?_
    exact V_v7 m c k ⟨j.val, h⟩
  · rw [if_neg h]
    refine (dif_neg h).trans ?_
    exact V_v1 m c k _

/-- and the second half's as they are. -/
theorem weights_slab (c : Dev nD) (k : Fin 1024) (h : Fin 12) (l : Fin 128) : weights m c (ix2 k (slabCol h l))
    = (m ((c : Thread nD τ).loc main_arg1) : Vec Ideal S1x1024x3072 .f32) (ix3 0 k (slabCol h l)) := by
  unfold weights keptV
  refine (dif_neg (show ¬ (slabCol h l).val < 512 by unfold slabCol; dsimp only; omega)).trans ?_
  exact V_v1 m c k _

/-! ### The arrays after the run -/

/-- The block of rows at an index. -/
theorem rowsV_apply (x : Vec Ideal S1024x1024 .f32) (W : Vec Ideal S1024x3072 .bf16) (r : Fin 1024) (j : Fin 1536) :
    rowsV x W (ix2 r j) = ∑ k : Fin 1024, x (ix2 r k) * W (ix2 k (j.castLE (by decide : 1536 ≤ 3072))) := rfl

/-- The block of slabs at an index. -/
theorem slabsV_apply (x : Vec Ideal S1024x1024 .f32) (W : Vec Ideal S1024x3072 .bf16) (s : Fin 12) (r : Fin 1024) (l : Fin 128) :
    slabsV x W (ix3 s r l) = ∑ k : Fin 1024, x (ix2 r k) * W (ix2 k (slabCol s l)) := rfl

/-- The array of rows. -/
theorem final_rows (c : Dev nD) : (dats m 0 c).arrAt 3 (cfgs 0).N = projRows (m ((c : Thread nD τ).loc main_arg0)) (m ((c : Thread nD τ).loc main_arg1)) := by
  refine (dats m 0 c).arrAt_eq_of_covers 3 _ (by decide +kernel) fun t _ y => ?_
  blk_simp
  rw [after0_3, outs]
  have h := (idx t).2.2.2.2.2
  obtain ⟨r, j, rfl⟩ : ∃ (r : Fin 1024) (j : Fin 1536), y = ix2 r j := ⟨y 0, y 1, eq_ix2 y⟩
  have e : (win0_3.blk t).view.emb (ix2 r j) = ix2 (⟨1024 * t.val + r.val, by omega⟩ : Fin 16384) j := by blk_ext [idx t]
  rw [e]
  refine (rowsV_apply (iblk m c 0 t) (weights m c) r j).trans ?_
  show _ = projAt _ _ (⟨1024 * t.val + r.val, by omega⟩ : Fin 16384) (rowCol j)
  unfold projAt
  refine Finset.sum_congr rfl fun k _ => ?_
  exact congrArg₂ (fun a b : EReal => a * b) ((blk_0 m c t r k).trans (V_v0 m c _ k)) (weights_row m c k j)

/-- The array of slabs. -/
theorem final_slabs (c : Dev nD) : (dats m 0 c).arrAt 4 (cfgs 0).N = projSlabs (m ((c : Thread nD τ).loc main_arg0)) (m ((c : Thread nD τ).loc main_arg1)) := by
  refine (dats m 0 c).arrAt_eq_of_covers 4 _ (by decide +kernel) fun t _ y => ?_
  blk_simp
  rw [after0_4, outs]
  have h := (idx t).2.2.2.2.2
  obtain ⟨s, r, l, rfl⟩ : ∃ (s : Fin 12) (r : Fin 1024) (l : Fin 128), y = ix3 s r l := ⟨y 0, y 1, y 2, eq_ix3 y⟩
  have e : (win0_4.blk t).view.emb (ix3 s r l) = ix3 s (⟨1024 * t.val + r.val, by omega⟩ : Fin 16384) l := by blk_ext [idx t]
  rw [e]
  refine (slabsV_apply (iblk m c 0 t) (weights m c) s r l).trans ?_
  show _ = projAt _ _ (⟨1024 * t.val + r.val, by omega⟩ : Fin 16384) (slabCol s l)
  unfold projAt
  refine Finset.sum_congr rfl fun k _ => ?_
  exact congrArg₂ (fun a b : EReal => a * b) ((blk_0 m c t r k).trans (V_v0 m c _ k)) (weights_slab m c k s l)

end Cert.ProjectIdeal.Rows

namespace Cert.ProjectReferenceIdeal.Rows

open Cert.ProjectReferenceIdeal.Gen Cert.Layer
open Idealize.ShloMosaic Idealize.ShloMosaic.TcCoe Idealize.ShloMosaic.StableHlo Idealize.ShloMosaic.Tactic

/-- The reference's product, a row for every token. -/
def prod (X : FVec Ideal S2x8192x1024 .f32) (W : Vec Ideal S1x1024x3072 .f32) : Vec Ideal S16384x3072 .f32 :=
  shapeCast S16384x3072 (Host.dotGeneral (F := Ideal) dot_S2x8192x1024_S1024x3072_S2x8192x3072_2_0_01_1_n_n none X (shapeCast S1024x3072 W shapeCasts_S1x1024x3072_S1024x3072 : FVec Ideal S1024x3072 .f32) : FVec Ideal S2x8192x3072 .f32) shapeCasts_S2x8192x3072_S16384x3072

/-- The product at an index. -/
theorem prod_apply (X : FVec Ideal S2x8192x1024 .f32) (W : Vec Ideal S1x1024x3072 .f32) (t : Fin 16384) (j : Fin 3072) : prod X W (ix2 t j) = projAt X W t j := by
  unfold projAt
  pointwise [prod]

/-- The reference's rows, -/
theorem rows_eq (X : FVec Ideal S2x8192x1024 .f32) (W : Vec Ideal S1x1024x3072 .f32) :
    (concatenate S16384x1536 1 [⟨S16384x512, (shapeCast S16384x512 (transpose S16384x2x2x4x32 [0, 1, 3, 2, 4] (shapeCast S16384x2x4x2x32 (extractStridedSlice S16384x512 ![0, 0] (prod X W) slices_S16384x3072_S16384x512_0_0) shapeCasts_S16384x512_S16384x2x4x2x32) transposes_S16384x2x4x2x32_S16384x2x2x4x32_0_1_3_2_4) shapeCasts_S16384x2x2x4x32_S16384x512)⟩, ⟨S16384x1024, (extractStridedSlice S16384x1024 ![0, 512] (prod X W) slices_S16384x3072_S16384x1024_0_512)⟩] concatenates_S16384x512_S16384x1024_S16384x1536_d1 : Vec Ideal S16384x1536 .f32) = projRows X W := by
  funext y
  obtain ⟨t, j, rfl⟩ : ∃ (t : Fin 16384) (j : Fin 1536), y = ix2 t j := ⟨y 0, y 1, eq_ix2 y⟩
  show _ = projAt X W t (rowCol j)
  rw [← prod_apply]
  generalize prod X W = P
  unfold rowCol
  pointwise
  by_cases h : j.val < 512
  · rw [dif_pos h, if_pos h]
    exact congrArg (fun z : Fin 3072 => P (ix2 t z)) (Fin.ext (by dsimp only; omega))
  · rw [dif_neg h, if_neg h]
    exact congrArg (fun z : Fin 3072 => P (ix2 t z)) (Fin.ext (by dsimp only; omega))

/-- and its slabs. -/
theorem slabs_eq (X : FVec Ideal S2x8192x1024 .f32) (W : Vec Ideal S1x1024x3072 .f32) :
    transpose S12x16384x128 [1, 0, 2] (shapeCast S16384x12x128 (extractStridedSlice S16384x1536 ![0, 1536] (prod X W) slices_S16384x3072_S16384x1536_0_1536) shapeCasts_S16384x1536_S16384x12x128) transposes_S16384x12x128_S12x16384x128_1_0_2 = projSlabs X W := by
  funext y
  obtain ⟨s, t, l, rfl⟩ : ∃ (s : Fin 12) (t : Fin 16384) (l : Fin 128), y = ix3 s t l := ⟨y 0, y 1, y 2, eq_ix3 y⟩
  show _ = projAt X W t (⟨1536 + (128 * s.val + l.val), by omega⟩ : Fin 3072)
  rw [← prod_apply]
  generalize prod X W = P
  pointwise
  exact congrArg (fun z : Fin 3072 => P (ix2 t z)) (Fin.ext (by dsimp only; omega))

end Cert.ProjectReferenceIdeal.Rows

end
-- ==== Proof.MemoryValue.lean ====
/- The memory keys and values over the extended reals: the array after the run, and the reference's result, as the
   same function of the argument arrays. -/
module

public import proofs.«01_k».proof.Proof.Boxes
public import proofs.«01_k».proof.Proof.Gen.MemoryIdeal.Value
public import proofs.«01_k».proof.Proof.Gen.MemoryReferenceIdeal.Run
public import Idealize.ShloMosaic.Lib.Quiescent

@[expose] public section

set_option maxRecDepth 16384

noncomputable section

namespace Cert.Layer

open Idealize.ShloMosaic Idealize.ShloMosaic.Tactic

/-- The keys and values of the memory, row by row: each memory token times the projection. -/
def memKV (M : Vec Ideal ⟨3, ![2, 256, 1024]⟩ .f32) (W : Vec Ideal ⟨3, ![1, 1024, 2048]⟩ .f32) : Vec Ideal ⟨2, ![512, 2048]⟩ .bf16 := fun y =>
  ∑ k : Fin 1024, M (ix3 (⟨(y 0).val / 256, by have := (y 0).isLt; change (y 0).val < 512 at this; omega⟩ : Fin 2) (⟨(y 0).val % 256, by omega⟩ : Fin 256) k) * W (ix3 0 k (y 1))

end Cert.Layer

namespace Cert.MemoryIdeal.Rows

open Cert.MemoryIdeal.Gen Cert.Layer
open Idealize.ShloMosaic Idealize.ShloMosaic.TcCoe Idealize.ShloMosaic.Tactic

/-- The product of a block of memory rows and a block of columns of the projection. -/
def outV (x : Vec Ideal S512x1024 .f32) (w : Vec Ideal S1024x512 .f32) : Vec Ideal S512x512 .bf16 :=
  fun z => ∑ k : Fin 1024, x (ix2 (z 0) k) * w (ix2 k (z 1))

/-- The body's one store is that product, -/
theorem pieces (x : Vec Ideal S512x1024 .f32) (w : Vec Ideal S1024x512 .f32) :
    View.PiecesOf (outV x w) [(⟨r0_2, k0_pay1 (View.ld x r0_0) (View.ld w r0_1)⟩ : View.Piece (Elt Ideal) S512x512 .bf16)] := by
  refine ⟨fun y => ?_, trivial⟩
  refine Eq.trans ?_ (congrFun (ld_full (outV x w) inb_S512x512_S512x512_0_0).symm y)
  show k0_pay1 (F := Ideal) (View.ld x r0_0) (View.ld w r0_1) y = outV x w y
  rw [show View.ld x r0_0 = x from ld_full x _, show View.ld w r0_1 = w from ld_full w _]
  obtain ⟨r, j, rfl⟩ : ∃ r j : Fin 512, y = ix2 r j := ⟨y 0, y 1, eq_ix2 y⟩
  unfold outV
  pointwise [k0_pay1]

/-- so that is its block. -/
theorem out_apply (x : Vec Ideal S512x1024 .f32) (w : Vec Ideal S1024x512 .f32) (r j : Fin 512) :
    out0_2 (F := Ideal) x w (ix2 r j) = ∑ k : Fin 1024, x (ix2 r k) * w (ix2 k j) :=
  View.canon_apply_of_pieces _ _ (pieces x w).mem (ix2 r j) (cover0_2 _ (ix2 r j))

variable (m : (ℓ : Loc nD τ sig) → Buf (Elt Ideal) ℓ)

/-- Where each window's block lies at a grid point. -/
theorem idx : ∀ t : Fin cfg0.N, win0_0.index t = ![0, 0] ∧ win0_1.index t = ![0, t.val] ∧ win0_2.index t = ![0, t.val] ∧ t.val < 4 :=
  (by decide +kernel : ∀ t : Fin grid0.N, _)

/-- The memory, a row for every token. -/
theorem V_v0 (c : Dev nD) (r : Fin 512) (j : Fin 1024) : (V m c main_v0 : Vec Ideal S512x1024 .f32) (ix2 r j)
    = (m ((c : Thread nD τ).loc main_arg0) : Vec Ideal S2x256x1024 .f32) (ix3 (⟨r.val / 256, by omega⟩ : Fin 2) (⟨r.val % 256, by omega⟩ : Fin 256) j) := by
  entry_read
  pointwise

/-- The weights. -/
theorem V_v1 (c : Dev nD) (r : Fin 1024) (j : Fin 2048) : (V m c main_v1 : Vec Ideal S1024x2048 .f32) (ix2 r j)
    = (m ((c : Thread nD τ).loc main_arg1) : Vec Ideal S1x1024x2048 .f32) (ix3 0 r j) := by
  entry_read
  pointwise

/-- The block of the memory rows. -/
theorem blk_0 (c : Dev nD) (t : Fin cfg0.N) (r : Fin 512) (j : Fin 1024) : iblk m c 0 t (ix2 r j) = (V m c main_v0 : Vec Ideal S512x1024 .f32) (ix2 r j) := by
  blk_ext [iblk, idx t]

/-- A block of columns of the weights. -/
theorem blk_1 (c : Dev nD) (t : Fin cfg0.N) (r : Fin 1024) (j : Fin 512) : iblk m c 1 t (ix2 r j)
    = (V m c main_v1 : Vec Ideal S1024x2048 .f32) (ix2 r (⟨512 * t.val + j.val, by have := (idx t).2.2.2; omega⟩ : Fin 2048)) := by
  blk_ext [iblk, idx t]

/-- The array of keys and values after the run. -/
theorem final (c : Dev nD) : (dats m 0 c).arrAt 2 (cfgs 0).N = memKV (m ((c : Thread nD τ).loc main_arg0)) (m ((c : Thread nD τ).loc main_arg1)) := by
  refine (dats m 0 c).arrAt_eq_of_covers 2 _ (by decide +kernel) fun t _ y => ?_
  blk_simp
  rw [after0_2]
  have h := (idx t).2.2.2
  obtain ⟨r, j, rfl⟩ : ∃ r j : Fin 512, y = ix2 r j := ⟨y 0, y 1, eq_ix2 y⟩
  have e : (win0_2.blk t).view.emb (ix2 r j) = ix2 r (⟨512 * t.val + j.val, by omega⟩ : Fin 2048) := by blk_ext [idx t]
  refine (out_apply _ _ r j).trans ?_
  rw [e]
  refine Finset.sum_congr rfl fun k _ => ?_
  rw [blk_0, blk_1, V_v0, V_v1]
  rfl

end Cert.MemoryIdeal.Rows

namespace Cert.MemoryReferenceIdeal.Rows

open Cert.MemoryReferenceIdeal.Gen Cert.Layer
open Idealize.ShloMosaic Idealize.ShloMosaic.TcCoe Idealize.ShloMosaic.StableHlo Idealize.ShloMosaic.Tactic

/-- The reference's result. -/
theorem result_eq (M : FVec Ideal S2x256x1024 .f32) (W : Vec Ideal S1x1024x2048 .f32) :
    truncf (F := Ideal) .bf16 (shapeCast S512x2048 (Host.dotGeneral (F := Ideal) dot_S2x256x1024_S1024x2048_S2x256x2048_2_0_01_1_n_n none M (shapeCast S1024x2048 W shapeCasts_S1x1024x2048_S1024x2048 : FVec Ideal S1024x2048 .f32) : FVec Ideal S2x256x2048 .f32) shapeCasts_S2x256x2048_S512x2048) bitsLt_bf16_f32 = memKV M W := by
  funext y
  obtain ⟨r, j, rfl⟩ : ∃ (r : Fin 512) (j : Fin 2048), y = ix2 r j := ⟨y 0, y 1, eq_ix2 y⟩
  unfold memKV
  pointwise

end Cert.MemoryReferenceIdeal.Rows

end
-- ==== Proof.Mixer.lean ====
/- The retention mixer on one token, over the extended reals: the functions both programs are shown to compute. -/
module

public import Idealize.ShloMosaic.PureOps.Ideal
public import Idealize.ShloMosaic.Lib.IdealHost
public import Idealize.ShloMosaic.Lib.Pointwise

@[expose] public section

noncomputable section

namespace Cert.Layer

open Idealize.ShloMosaic

/-- Of the 128 lanes of a half, the one that holds feature `d` of head `h`. -/
def lane (h : Fin 4) (d : Fin 64) : Fin 128 := ⟨32 * h.val + d.val % 32, by omega⟩

/-- Feature `d` of a turned pair of features. -/
def turn (d : Fin 64) (a b c s : EReal) : EReal := if d.val < 32 then a * c - b * s else a * s + b * c

/-- A row normalised over its lanes. -/
def normRow (y : Fin 128 → EReal) (e : Fin 128) : EReal :=
  (y e - Ideal.div (∑ k, y k) (Ideal.ofBits .f32 0x43000000#32)) * Ideal.rsqrt (Ideal.div (∑ k, (y k - Ideal.div (∑ k, y k) (Ideal.ofBits .f32 0x43000000#32)) * (y k - Ideal.div (∑ k, y k) (Ideal.ofBits .f32 0x43000000#32))) (Ideal.ofBits .f32 0x43000000#32) + Ideal.ofBits .f32 0x358637BD#32)

/-- A number, as a float. -/
def num (n : ℕ) : EReal := FloatOps.sitofp (F := Ideal) .f32 (BitVec.ofNat 32 n)

/-- The angle by which pair `d` of the features of token `s` is turned. -/
def angle (s d : ℕ) : EReal := num s * Ideal.div 1 (Ideal.pow (Ideal.ofBits .f32 0x461C4000#32) (Ideal.div (num d) (Ideal.ofBits .f32 0x42000000#32)))

/-- The logarithm of a head's decay over one token. -/
def logDecay (h : Fin 4) : EReal := Ideal.log (1 - Ideal.exp (Ideal.ofBits .f32 0x3F317218#32 * (Ideal.ofBits .f32 0xC0A00000#32 - num h.val)))

/-- The decay from token `k` of a chunk to token `i`, -/
def decay (h : Fin 4) (i k : Fin 128) : EReal := if 0 ≤ num i.val - num k.val then Ideal.exp (logDecay h * max (num i.val - num k.val) 0) else 0

/-- from token `i` to the end of the chunk, -/
def decayOut (h : Fin 4) (i : Fin 128) : EReal := Ideal.exp (logDecay h * (Ideal.ofBits .f32 0x42FE0000#32 - num i.val))

/-- from the chunk's start to token `i`, -/
def decayIn (h : Fin 4) (i : Fin 128) : EReal := Ideal.exp (logDecay h * (num i.val + 1))

/-- and over a whole chunk. -/
def decayAll (h : Fin 4) : EReal := Ideal.exp (logDecay h * Ideal.ofBits .f32 0x43000000#32)

variable (X : Vec Ideal ⟨3, ![2, 8192, 1536]⟩ .f32) (b : Fin 2)

/-- Token `i` of chunk `n`. -/
def tok (n : ℕ) (i : Fin 128) : Fin 8192 := ⟨(128 * n + i.val) % 8192, Nat.mod_lt _ (by decide)⟩

/-- The query of a head at a token, turned; -/
def qryAt (s : Fin 8192) (h : Fin 4) (d : Fin 64) : EReal :=
  turn d (X (ix3 b s (⟨(lane h d).val, by omega⟩ : Fin 1536))) (X (ix3 b s (⟨128 + (lane h d).val, by omega⟩ : Fin 1536))) (Ideal.cos (angle s.val (d.val % 32))) (Ideal.sin (angle s.val (d.val % 32)))

/-- the key, turned and scaled; -/
def keyAt (s : Fin 8192) (h : Fin 4) (d : Fin 64) : EReal :=
  turn d (X (ix3 b s (⟨256 + (lane h d).val, by omega⟩ : Fin 1536))) (X (ix3 b s (⟨384 + (lane h d).val, by omega⟩ : Fin 1536))) (Ideal.cos (angle s.val (d.val % 32))) (Ideal.sin (angle s.val (d.val % 32)))
    * Ideal.ofBits .f32 0x3E000000#32

/-- and the value. -/
def valAt (s : Fin 8192) (h : Fin 4) (e : Fin 128) : EReal := X (ix3 b s (⟨512 + (128 * h.val + e.val), by omega⟩ : Fin 1536))

/-- What a chunk adds to a head's state. -/
def addedAt (n : ℕ) (h : Fin 4) (d : Fin 64) (e : Fin 128) : EReal :=
  ∑ i : Fin 128, (keyAt X b (tok n i) h d * decayOut h i) * valAt X b (tok n i) h e

/-- The state of a head before chunk `n`. -/
def stateAt (h : Fin 4) : ℕ → Fin 64 → Fin 128 → EReal
  | 0 => fun _ _ => 0
  | n + 1 => fun d e => decayAll h * stateAt h n d e + addedAt X b n h d e

/-- The row of a head at a token of a chunk: what the chunk's own tokens give, -/
def innerAt (n : ℕ) (h : Fin 4) (i e : Fin 128) : EReal :=
  ∑ k : Fin 128, ((∑ d : Fin 64, qryAt X b (tok n i) h d * keyAt X b (tok n k) h d) * decay h i k) * valAt X b (tok n k) h e

/-- and what the state gives. -/
def rowAt (n : ℕ) (h : Fin 4) (i e : Fin 128) : EReal :=
  innerAt X b n h i e + (∑ d : Fin 64, qryAt X b (tok n i) h d * stateAt X b h n d e) * decayIn h i

/-- The mixer's result at a token and a column: the head's row, normalised over its lanes and gated. -/
def mixedAt (s : Fin 8192) (h : Fin 4) (e : Fin 128) : EReal :=
  (X (ix3 b s (⟨1024 + (128 * h.val + e.val), by omega⟩ : Fin 1536)) * Ideal.logistic (X (ix3 b s (⟨1024 + (128 * h.val + e.val), by omega⟩ : Fin 1536))))
    * normRow (rowAt X b (s.val / 128) h (⟨s.val % 128, Nat.mod_lt _ (by decide)⟩ : Fin 128)) e

/-- The mixer's result. -/
def mixed : Vec Ideal ⟨3, ![2, 8192, 512]⟩ .bf16 := fun y =>
  mixedAt X (y 0) (y 1) (⟨(y 2).val / 128, by have h : (y 2).val < 512 := (y 2).isLt; omega⟩ : Fin 4) (⟨(y 2).val % 128, Nat.mod_lt _ (by decide)⟩ : Fin 128)

end Cert.Layer

end
-- ==== Proof.RetentionCore.lean ====
/- The retention mixer over the extended reals: the vector operations of one head on one chunk of 128 tokens, at an
   index. -/
module

public import proofs.«01_k».proof.Proof.Boxes
public import proofs.«01_k».proof.Proof.Mixer
public import proofs.«01_k».proof.Proof.Gen.RetentionIdeal.Skeleton

@[expose] public section

set_option maxRecDepth 16384

noncomputable section

namespace Cert.RetentionIdeal.Mix

open Cert.RetentionIdeal.Gen Cert.Layer
open Idealize.ShloMosaic Idealize.ShloMosaic.TcCoe Idealize.ShloMosaic.Tactic

/-! ### The lanes of a head -/

/-- Of the 256 lanes of both halves, the one that holds feature `d` of head `h`. -/
def lane2 (h : Fin 4) (d : Fin 64) : Fin 256 := ⟨128 * (d.val / 32) + (32 * h.val + d.val % 32), by omega⟩

/-- A sum over all lanes, of a factor kept on one head's lanes only, is the sum over the head's features. -/
theorem sum_lanes (h : Fin 4) (a b : Fin 256 → EReal) :
    ∑ l : Fin 256, (if l.val % 128 / 32 = h.val then a l else 0) * b l = ∑ d : Fin 64, a (lane2 h d) * b (lane2 h d) := by
  symm
  refine Finset.sum_of_injOn (lane2 h) (fun d _ e _ he => ?_) (fun _ _ => Finset.mem_coe.2 (Finset.mem_univ _)) (fun l _ hl => ?_) (fun d _ => ?_)
  · have := congrArg Fin.val he
    simp only [lane2] at this
    exact Fin.ext (by omega)
  · rw [if_neg, zero_mul]
    intro hh
    refine hl ⟨⟨32 * (l.val / 128) + l.val % 32, by omega⟩, Finset.mem_coe.2 (Finset.mem_univ _), Fin.ext ?_⟩
    simp only [lane2]
    omega
  · rw [if_pos]
    simp only [lane2]
    omega

/-! ### The operations -/

/-- Two halves side by side. -/
def catV (a b : FVec Ideal S128x128 .f32) : FVec Ideal S128x256 .f32 :=
  concatenate S128x256 1 [⟨S128x128, a⟩, ⟨S128x128, b⟩] concatenates_S128x128_S128x128_S128x256_d1

/-- The lanes from `lo` up to `hi`. -/
def maskV (lo hi : BitVec 32) : IVec S128x128 1 :=
  andi (cmpi .sge (iota .tc S128x128 32 [1] iota_S128x128_d1_w32) (broadcast S128x128 lo)) (cmpi .slt (iota .tc S128x128 32 [1] iota_S128x128_d1_w32) (broadcast S128x128 hi))

/-- The queries, kept on the lanes of a mask. -/
def keepV (M : IVec S128x128 1) (a b : FVec Ideal S128x128 .f32) : FVec Ideal S128x256 .f32 :=
  catV (select M a (broadcast S128x128 (Scalar.ofBits (F := Ideal) .f32 0x00000000#32))) (select M b (broadcast S128x128 (Scalar.ofBits (F := Ideal) .f32 0x00000000#32)))

/-- The decayed scores. -/
def scoreV (q k : FVec Ideal S128x256 .f32) (dec : Vec Ideal S1x128x128 .f32) : FVec Ideal S128x128 .f32 :=
  mulf (matmul dot_S128x256_S128x256_S128x128_1_1_0_0_n_n none (truncf .bf16 q bitsLt_bf16_f32) (truncf .bf16 k bitsLt_bf16_f32) (constant S128x128 .f32 0x00000000#32)) (shapeCast S128x128 dec shapeCasts_S1x128x128_S128x128)

/-- The rows out before their normalisation: the scores times the values, plus the queries times the state. -/
def mixV (q : FVec Ideal S128x256 .f32) (s : FVec Ideal S128x128 .f32) (v : Vec Ideal S1x128x128 .f32) (R : FVec Ideal S256x128 .bf16) (xi : Vec Ideal S1x128x128 .f32) : FVec Ideal S128x128 .f32 :=
  addf (matmul dot_S128x128_S128x128_S128x128_1_0_0_1_n_n none (truncf .bf16 s bitsLt_bf16_f32) (truncf .bf16 (shapeCast S128x128 v shapeCasts_S1x128x128_S128x128) bitsLt_bf16_f32) (constant S128x128 .f32 0x00000000#32))
    (mulf (matmul dot_S128x256_S256x128_S128x128_1_0_0_1_n_n none (truncf .bf16 q bitsLt_bf16_f32) R (constant S128x128 .f32 0x00000000#32)) (shapeCast S128x128 xi shapeCasts_S1x128x128_S128x128))

/-- The outer products of the scaled keys and the values, summed over the chunk. -/
def outerV (a b : FVec Ideal S128x128 .f32) (z v : Vec Ideal S1x128x128 .f32) : FVec Ideal S256x128 .f32 :=
  matmul dot_S128x256_S128x128_S256x128_0_0_1_1_n_n none (truncf .bf16 (catV (mulf a (shapeCast S128x128 z shapeCasts_S1x128x128_S128x128)) (mulf b (shapeCast S128x128 z shapeCasts_S1x128x128_S128x128))) bitsLt_bf16_f32)
    (truncf .bf16 (shapeCast S128x128 v shapeCasts_S1x128x128_S128x128) bitsLt_bf16_f32) (constant S256x128 .f32 0x00000000#32)

/-- The state times its decay, plus the chunk's outer products of one head. -/
def stepV (g : Vec Ideal S1x1x128 .f32) (st : FVec Ideal S64x128 .f32) (a b : FVec Ideal S32x128 .f32) : FVec Ideal S64x128 .f32 :=
  addf (mulf (broadcastTo S64x128 (shapeCast S1x128 g shapeCasts_S1x1x128_S1x128) broadcasts_S1x128_S64x128) st)
    (concatenate S64x128 0 [⟨S32x128, a⟩, ⟨S32x128, b⟩] concatenates_S32x128_S32x128_S64x128_d0)

/-- The upper and the lower half of the state. -/
def upV (st : FVec Ideal S64x128 .f32) : FVec Ideal S32x128 .bf16 := extractStridedSlice S32x128 ![0, 0] (truncf .bf16 st bitsLt_bf16_f32) slices_S64x128_o0_0_S32x128
def downV (st : FVec Ideal S64x128 .f32) : FVec Ideal S32x128 .bf16 := extractStridedSlice S32x128 ![32, 0] (truncf .bf16 st bitsLt_bf16_f32) slices_S64x128_o32_0_S32x128

/-- Rows of zeros. -/
def z32 : FVec Ideal S32x128 .bf16 := broadcast S32x128 (Scalar.ofBits (F := Ideal) .bf16 0x0000#16)
def z64 : FVec Ideal S64x128 .bf16 := broadcast S64x128 (Scalar.ofBits (F := Ideal) .bf16 0x0000#16)
def z96 : FVec Ideal S96x128 .bf16 := broadcast S96x128 (Scalar.ofBits (F := Ideal) .bf16 0x0000#16)

/-- The state on the lanes of each head, zero on the others. -/
def padV (h : Fin 4) (st : FVec Ideal S64x128 .f32) : FVec Ideal S256x128 .bf16 :=
  match h with
  | 0 => concatenate S256x128 0 [⟨S32x128, upV st⟩, ⟨S96x128, z96⟩, ⟨S32x128, downV st⟩, ⟨S96x128, z96⟩] concatenates_S32x128_S96x128_S32x128_S96x128_S256x128_d0
  | 1 => concatenate S256x128 0 [⟨S32x128, z32⟩, ⟨S32x128, upV st⟩, ⟨S64x128, z64⟩, ⟨S32x128, z32⟩, ⟨S32x128, downV st⟩, ⟨S64x128, z64⟩] concatenates_S32x128_S32x128_S64x128_S32x128_S32x128_S64x128_S256x128_d0
  | 2 => concatenate S256x128 0 [⟨S64x128, z64⟩, ⟨S32x128, upV st⟩, ⟨S32x128, z32⟩, ⟨S64x128, z64⟩, ⟨S32x128, downV st⟩, ⟨S32x128, z32⟩] concatenates_S64x128_S32x128_S32x128_S64x128_S32x128_S32x128_S256x128_d0
  | 3 => concatenate S256x128 0 [⟨S96x128, z96⟩, ⟨S32x128, upV st⟩, ⟨S96x128, z96⟩, ⟨S32x128, downV st⟩] concatenates_S96x128_S32x128_S96x128_S32x128_S256x128_d0

/-- The next state of each head. -/
def nextV (h : Fin 4) (g : Vec Ideal S1x1x128 .f32) (st : FVec Ideal S64x128 .f32) (O : FVec Ideal S256x128 .f32) : FVec Ideal S64x128 .f32 :=
  match h with
  | 0 => stepV g st (extractStridedSlice S32x128 ![0, 0] O slices_S256x128_o0_0_S32x128) (extractStridedSlice S32x128 ![128, 0] O slices_S256x128_o128_0_S32x128)
  | 1 => stepV g st (extractStridedSlice S32x128 ![32, 0] O slices_S256x128_o32_0_S32x128) (extractStridedSlice S32x128 ![160, 0] O slices_S256x128_o160_0_S32x128)
  | 2 => stepV g st (extractStridedSlice S32x128 ![64, 0] O slices_S256x128_o64_0_S32x128) (extractStridedSlice S32x128 ![192, 0] O slices_S256x128_o192_0_S32x128)
  | 3 => stepV g st (extractStridedSlice S32x128 ![96, 0] O slices_S256x128_o96_0_S32x128) (extractStridedSlice S32x128 ![224, 0] O slices_S256x128_o224_0_S32x128)

/-- The mask of each head. -/
def headV (h : Fin 4) : IVec S128x128 1 :=
  match h with
  | 0 => maskV 0#32 32#32
  | 1 => maskV 32#32 64#32
  | 2 => maskV 64#32 96#32
  | 3 => maskV 96#32 128#32

/-- A chunk of two of the four parts of the features, turned by their angles: the first half. -/
def rotA (cs sn : Vec Ideal S128x128 .f32) (a b : Vec Ideal S1x128x128 .f32) : FVec Ideal S128x128 .f32 :=
  subf (mulf (shapeCast S128x128 a shapeCasts_S1x128x128_S128x128) (shapeCast S128x128 cs shapeCasts_S128x128_S128x128)) (mulf (shapeCast S128x128 b shapeCasts_S1x128x128_S128x128) (shapeCast S128x128 sn shapeCasts_S128x128_S128x128))

/-- The second half. -/
def rotB (cs sn : Vec Ideal S128x128 .f32) (a b : Vec Ideal S1x128x128 .f32) : FVec Ideal S128x128 .f32 :=
  addf (mulf (shapeCast S128x128 a shapeCasts_S1x128x128_S128x128) (shapeCast S128x128 sn shapeCasts_S128x128_S128x128)) (mulf (shapeCast S128x128 b shapeCasts_S1x128x128_S128x128) (shapeCast S128x128 cs shapeCasts_S128x128_S128x128))

/-- An eighth. -/
def eighth (x : FVec Ideal S128x128 .f32) : FVec Ideal S128x128 .f32 := mulf x (broadcast S128x128 (Scalar.ofBits (F := Ideal) .f32 0x3E000000#32))

/-! ### At an index -/

theorem catV_apply (a b : FVec Ideal S128x128 .f32) (i : Fin 128) (l : Fin 256) :
    catV a b (ix2 i l) = if hl : l.val < 128 then a (ix2 i ⟨l.val, hl⟩) else b (ix2 i ⟨l.val - 128, by omega⟩) := by
  pointwise [catV]

theorem scoreV_apply (q k : FVec Ideal S128x256 .f32) (dec : Vec Ideal S1x128x128 .f32) (i j : Fin 128) :
    scoreV q k dec (ix2 i j) = (∑ l : Fin 256, q (ix2 i l) * k (ix2 j l)) * dec (ix3 0 i j) := by
  pointwise [scoreV]

theorem mixV_apply (q : FVec Ideal S128x256 .f32) (s : FVec Ideal S128x128 .f32) (v : Vec Ideal S1x128x128 .f32) (R : FVec Ideal S256x128 .bf16) (xi : Vec Ideal S1x128x128 .f32) (i e : Fin 128) :
    mixV q s v R xi (ix2 i e) = (∑ j : Fin 128, s (ix2 i j) * v (ix3 0 j e)) + (∑ l : Fin 256, q (ix2 i l) * R (ix2 l e)) * xi (ix3 0 i e) := by
  pointwise [mixV]

theorem outerV_apply (a b : FVec Ideal S128x128 .f32) (z v : Vec Ideal S1x128x128 .f32) (l : Fin 256) (e : Fin 128) :
    outerV a b z v (ix2 l e) = ∑ i : Fin 128, (catV (mulf a (shapeCast S128x128 z shapeCasts_S1x128x128_S128x128)) (mulf b (shapeCast S128x128 z shapeCasts_S1x128x128_S128x128))) (ix2 i l) * v (ix3 0 i e) := by
  unfold outerV
  generalize catV (mulf a (shapeCast S128x128 z shapeCasts_S1x128x128_S128x128)) (mulf b (shapeCast S128x128 z shapeCasts_S1x128x128_S128x128)) = w
  pointwise

theorem padV_apply (h : Fin 4) (st : FVec Ideal S64x128 .f32) (l : Fin 256) (e : Fin 128) :
    padV h st (ix2 l e) = if l.val % 128 / 32 = h.val then st (ix2 ⟨32 * (l.val / 128) + l.val % 32, by omega⟩ e) else 0 := by
  match h with
  | 0 =>
    pointwise [padV, upV, downV, z32, z64, z96]
    repeat' split
    all_goals first | rfl | (exfalso; omega) | exact congrArg (fun r => st (ix2 r e)) (Fin.ext (by dsimp only; omega))
  | 1 =>
    pointwise [padV, upV, downV, z32, z64, z96]
    repeat' split
    all_goals first | rfl | (exfalso; omega) | exact congrArg (fun r => st (ix2 r e)) (Fin.ext (by dsimp only; omega))
  | 2 =>
    pointwise [padV, upV, downV, z32, z64, z96]
    repeat' split
    all_goals first | rfl | (exfalso; omega) | exact congrArg (fun r => st (ix2 r e)) (Fin.ext (by dsimp only; omega))
  | 3 =>
    pointwise [padV, upV, downV, z32, z64, z96]
    repeat' split
    all_goals first | rfl | (exfalso; omega) | exact congrArg (fun r => st (ix2 r e)) (Fin.ext (by dsimp only; omega))

theorem nextV_apply (h : Fin 4) (g : Vec Ideal S1x1x128 .f32) (st : FVec Ideal S64x128 .f32) (O : FVec Ideal S256x128 .f32) (d : Fin 64) (e : Fin 128) :
    nextV h g st O (ix2 d e) = g (ix3 0 0 e) * st (ix2 d e) + O (ix2 (lane2 h d) e) := by
  match h with
  | 0 =>
    pointwise [nextV, stepV]
    refine congrArg (fun x => g (ix3 0 0 e) * st (ix2 d e) + x) ?_
    split <;> exact congrArg (fun r => O (ix2 r e)) (Fin.ext (by simp only [lane2]; omega))
  | 1 =>
    pointwise [nextV, stepV]
    refine congrArg (fun x => g (ix3 0 0 e) * st (ix2 d e) + x) ?_
    split <;> exact congrArg (fun r => O (ix2 r e)) (Fin.ext (by simp only [lane2]; omega))
  | 2 =>
    pointwise [nextV, stepV]
    refine congrArg (fun x => g (ix3 0 0 e) * st (ix2 d e) + x) ?_
    split <;> exact congrArg (fun r => O (ix2 r e)) (Fin.ext (by simp only [lane2]; omega))
  | 3 =>
    pointwise [nextV, stepV]
    refine congrArg (fun x => g (ix3 0 0 e) * st (ix2 d e) + x) ?_
    split <;> exact congrArg (fun r => O (ix2 r e)) (Fin.ext (by simp only [lane2]; omega))

theorem headV_apply (h : Fin 4) (i l : Fin 128) : headV h (ix2 i l) = if l.val / 32 = h.val then 1#1 else 0#1 := by
  match h with
  | 0 => pointwise [headV, maskV]; revert l; decide
  | 1 => pointwise [headV, maskV]; revert l; decide
  | 2 => pointwise [headV, maskV]; revert l; decide
  | 3 => pointwise [headV, maskV]; revert l; decide

theorem rotA_apply (cs sn : Vec Ideal S128x128 .f32) (a b : Vec Ideal S1x128x128 .f32) (i l : Fin 128) :
    rotA cs sn a b (ix2 i l) = a (ix3 0 i l) * cs (ix2 i l) - b (ix3 0 i l) * sn (ix2 i l) := by
  pointwise [rotA]

theorem rotB_apply (cs sn : Vec Ideal S128x128 .f32) (a b : Vec Ideal S1x128x128 .f32) (i l : Fin 128) :
    rotB cs sn a b (ix2 i l) = a (ix3 0 i l) * sn (ix2 i l) + b (ix3 0 i l) * cs (ix2 i l) := by
  pointwise [rotB]

theorem eighth_apply (x : FVec Ideal S128x128 .f32) (y : S128x128.Idx) : eighth x y = x y * Ideal.ofBits .f32 0x3E000000#32 := rfl

/-- The kept queries at an index. -/
theorem keepV_apply (h : Fin 4) (a b : FVec Ideal S128x128 .f32) (i : Fin 128) (l : Fin 256) :
    keepV (headV h) a b (ix2 i l) = if l.val % 128 / 32 = h.val then catV a b (ix2 i l) else 0 := by
  have hz : broadcast S128x128 (Scalar.ofBits (F := Ideal) .f32 0x00000000#32) = fun _ => (0 : EReal) := by
    funext y
    exact Ideal.ofBits_zero_f32
  have hm : ∀ (a : FVec Ideal S128x128 .f32) (l : Fin 128), select (headV h) a (broadcast S128x128 (Scalar.ofBits (F := Ideal) .f32 0x00000000#32)) (ix2 i l) = if l.val / 32 = h.val then a (ix2 i l) else 0 := fun a l => by
    rw [hz]
    show (if headV h (ix2 i l) = 1#1 then a (ix2 i l) else 0) = _
    rw [headV_apply]
    by_cases hh : l.val / 32 = h.val
    · rw [if_pos hh, if_pos rfl, if_pos hh]
    · rw [if_neg hh, if_neg (by decide), if_neg hh]
  unfold keepV
  rw [catV_apply, catV_apply]
  by_cases hl : l.val < 128
  · rw [dif_pos hl, dif_pos hl, hm]
    dsimp only
    rw [show l.val % 128 = l.val by omega]
  · rw [dif_neg hl, dif_neg hl, hm]
    dsimp only
    rw [show l.val % 128 = l.val - 128 by omega]

/-- Two halves at a feature of a head. -/
theorem catV_lane2 (a b : FVec Ideal S128x128 .f32) (i : Fin 128) (h : Fin 4) (d : Fin 64) :
    catV a b (ix2 i (lane2 h d)) = if d.val < 32 then a (ix2 i (lane h d)) else b (ix2 i (lane h d)) := by
  rw [catV_apply]
  by_cases hd : d.val < 32
  · rw [if_pos hd, dif_pos (by simp only [lane2]; omega)]
    exact congrArg (fun r => a (ix2 i r)) (Fin.ext (by simp only [lane, lane2]; omega))
  · rw [if_neg hd, dif_neg (by simp only [lane2]; omega)]
    exact congrArg (fun r => b (ix2 i r)) (Fin.ext (by simp only [lane, lane2]; omega))

/-! ### A point: four heads on four chunks -/

/-- What a point reads: the four parts of the queries and keys and the values, chunk by chunk, the angles, each head's
    tables, and each head's state. -/
structure Reads where
  qk : Fin 4 → Fin 4 → Vec Ideal S1x128x128 .f32
  v : Fin 4 → Fin 4 → Vec Ideal S1x128x128 .f32
  cs : Fin 4 → Vec Ideal S128x128 .f32
  sn : Fin 4 → Vec Ideal S128x128 .f32
  dec : Fin 4 → Vec Ideal S1x128x128 .f32
  zet : Fin 4 → Vec Ideal S1x128x128 .f32
  xi : Fin 4 → Vec Ideal S1x128x128 .f32
  gam : Fin 4 → Vec Ideal S1x1x128 .f32
  st : Fin 4 → Vec Ideal S1x64x128 .f32

variable (L : Reads)

/-- The turned queries and keys of a chunk. -/
def qA (j : Fin 4) : FVec Ideal S128x128 .f32 := rotA (L.cs j) (L.sn j) (L.qk j 0) (L.qk j 1)
def qB (j : Fin 4) : FVec Ideal S128x128 .f32 := rotB (L.cs j) (L.sn j) (L.qk j 0) (L.qk j 1)
def kA (j : Fin 4) : FVec Ideal S128x128 .f32 := eighth (rotA (L.cs j) (L.sn j) (L.qk j 2) (L.qk j 3))
def kB (j : Fin 4) : FVec Ideal S128x128 .f32 := eighth (rotB (L.cs j) (L.sn j) (L.qk j 2) (L.qk j 3))

/-- The chunk a number is. -/
def chunk (n : ℕ) : Fin 4 := ⟨n % 4, Nat.mod_lt _ (by decide)⟩

/-- The state of a head before chunk `n`. -/
def stV (h : Fin 4) : ℕ → FVec Ideal S64x128 .f32
  | 0 => shapeCast S64x128 (L.st h) shapeCasts_S1x64x128_S64x128
  | n + 1 => nextV h (L.gam h) (stV h n) (outerV (kA L (chunk n)) (kB L (chunk n)) (L.zet h) (L.v (chunk n) h))

/-- The rows of a head on a chunk, before their normalisation. -/
def rowsOf (h j : Fin 4) : FVec Ideal S128x128 .f32 :=
  mixV (keepV (headV h) (qA L j) (qB L j)) (scoreV (keepV (headV h) (qA L j) (qB L j)) (catV (kA L j) (kB L j)) (L.dec h)) (L.v j h) (padV h (stV L h j.val)) (L.xi h)

/-- The query and the key of a head at a token of a chunk. -/
def qE (h j : Fin 4) (i : Fin 128) (d : Fin 64) : EReal :=
  turn d (L.qk j 0 (ix3 0 i (lane h d))) (L.qk j 1 (ix3 0 i (lane h d))) (L.cs j (ix2 i (lane h d))) (L.sn j (ix2 i (lane h d)))
def kE (h j : Fin 4) (i : Fin 128) (d : Fin 64) : EReal :=
  turn d (L.qk j 2 (ix3 0 i (lane h d))) (L.qk j 3 (ix3 0 i (lane h d))) (L.cs j (ix2 i (lane h d))) (L.sn j (ix2 i (lane h d))) * Ideal.ofBits .f32 0x3E000000#32

theorem q_lane2 (h j : Fin 4) (i : Fin 128) (d : Fin 64) : catV (qA L j) (qB L j) (ix2 i (lane2 h d)) = qE L h j i d := by
  rw [catV_lane2]
  unfold qA qB qE turn
  rw [rotA_apply, rotB_apply]

theorem k_lane2 (h j : Fin 4) (i : Fin 128) (d : Fin 64) : catV (kA L j) (kB L j) (ix2 i (lane2 h d)) = kE L h j i d := by
  rw [catV_lane2]
  unfold kA kB kE turn
  rw [eighth_apply, eighth_apply, rotA_apply, rotB_apply]
  split <;> rfl

/-- The state after a chunk at an index. -/
theorem stV_succ (h : Fin 4) (n : ℕ) (d : Fin 64) (e : Fin 128) :
    stV L h (n + 1) (ix2 d e) = L.gam h (ix3 0 0 e) * stV L h n (ix2 d e)
      + ∑ i : Fin 128, (kE L h (chunk n) i d * L.zet h (ix3 0 i (lane h d))) * L.v (chunk n) h (ix3 0 i e) := by
  show nextV h (L.gam h) (stV L h n) _ (ix2 d e) = _
  rw [nextV_apply, outerV_apply]
  refine congrArg _ (Finset.sum_congr rfl fun i _ => congrArg (· * _) ?_)
  have hz : ∀ x : FVec Ideal S128x128 .f32, mulf x (shapeCast S128x128 (L.zet h) shapeCasts_S1x128x128_S128x128) (ix2 i (lane h d)) = x (ix2 i (lane h d)) * L.zet h (ix3 0 i (lane h d)) := fun x => by pointwise
  rw [catV_lane2, hz, hz, ← k_lane2, catV_lane2]
  split <;> rfl

/-- The rows of a head on a chunk at an index. -/
theorem rowsOf_apply (h j : Fin 4) (i e : Fin 128) :
    rowsOf L h j (ix2 i e) = (∑ k : Fin 128, ((∑ d : Fin 64, qE L h j i d * kE L h j k d) * L.dec h (ix3 0 i k)) * L.v j h (ix3 0 k e))
      + (∑ d : Fin 64, qE L h j i d * stV L h j.val (ix2 d e)) * L.xi h (ix3 0 i e) := by
  unfold rowsOf
  rw [mixV_apply]
  congr 1
  · refine Finset.sum_congr rfl fun k _ => congrArg (· * _) ?_
    rw [scoreV_apply]
    refine congrArg (· * _) ?_
    simp only [keepV_apply]
    rw [sum_lanes h (fun l => catV (qA L j) (qB L j) (ix2 i l)) (fun l => catV (kA L j) (kB L j) (ix2 k l))]
    exact Finset.sum_congr rfl fun d _ => by rw [q_lane2, k_lane2]
  · refine congrArg (· * _) ?_
    simp only [keepV_apply]
    rw [sum_lanes h (fun l => catV (qA L j) (qB L j) (ix2 i l)) (fun l => padV h (stV L h j.val) (ix2 l e))]
    refine Finset.sum_congr rfl fun d _ => ?_
    rw [q_lane2, padV_apply, if_pos (by simp only [lane2]; omega)]
    have hd : (⟨32 * ((lane2 h d).val / 128) + (lane2 h d).val % 32, by have := (lane2 h d).isLt; omega⟩ : Fin 64) = d :=
      Fin.ext (by simp only [lane2]; omega)
    exact congrArg (fun r => qE L h j i d * stV L h j.val (ix2 r e)) hd

/-! ### The normalisation and the gate -/

/-- The rows of a head, normalised over their lanes and gated. -/
def gateV (y : Vec Ideal S512x128 .f32) (g : Vec Ideal S1x512x128 .f32) : FVec Ideal S1x512x128 .bf16 := k0_pay151 (F := Ideal) y g

theorem gateV_apply (y : Vec Ideal S512x128 .f32) (g : Vec Ideal S1x512x128 .f32) (r : Fin 512) (e : Fin 128) :
    gateV y g (ix3 0 r e) = (g (ix3 0 r e) * Ideal.logistic (g (ix3 0 r e))) * normRow (fun k => y (ix2 r k)) e := by
  unfold normRow
  pointwise [gateV, k0_pay151]

end Cert.RetentionIdeal.Mix

end
-- ==== Proof.RetentionBody.lean ====
/- The retention mixer over the extended reals: what the body leaves in its output block and in the state it keeps
   between points, as functions of the blocks it reads. -/
module

public import proofs.«01_k».proof.Proof.RetentionCore
public import proofs.«01_k».proof.Proof.Gen.RetentionIdeal.Frame

@[expose] public section

set_option maxRecDepth 16384

noncomputable section

namespace Cert.RetentionIdeal.Mix

open Cert.RetentionIdeal.Gen Cert.Layer
open Idealize.ShloMosaic Idealize.ShloMosaic.TcCoe Idealize.ShloMosaic.Tactic

/-! ### The stores, as blocks of one function -/

/-- The sixteen stores of rows, last first. -/
def rowStores (P : Fin 4 → Fin 4 → Vec Ideal S128x128 .f32) : List (View.Piece (Elt Ideal) S512x512 .f32) :=
  [⟨Rect.unit ![384, 384] S128x128.size inb_S512x512_S128x128_384_384, P 3 3⟩,
   ⟨Rect.unit ![256, 384] S128x128.size inb_S512x512_S128x128_256_384, P 3 2⟩,
   ⟨Rect.unit ![128, 384] S128x128.size inb_S512x512_S128x128_128_384, P 3 1⟩,
   ⟨Rect.unit ![0, 384] S128x128.size inb_S512x512_S128x128_0_384, P 3 0⟩,
   ⟨Rect.unit ![384, 256] S128x128.size inb_S512x512_S128x128_384_256, P 2 3⟩,
   ⟨Rect.unit ![256, 256] S128x128.size inb_S512x512_S128x128_256_256, P 2 2⟩,
   ⟨Rect.unit ![128, 256] S128x128.size inb_S512x512_S128x128_128_256, P 2 1⟩,
   ⟨Rect.unit ![0, 256] S128x128.size inb_S512x512_S128x128_0_256, P 2 0⟩,
   ⟨Rect.unit ![384, 128] S128x128.size inb_S512x512_S128x128_384_128, P 1 3⟩,
   ⟨Rect.unit ![256, 128] S128x128.size inb_S512x512_S128x128_256_128, P 1 2⟩,
   ⟨Rect.unit ![128, 128] S128x128.size inb_S512x512_S128x128_128_128, P 1 1⟩,
   ⟨Rect.unit ![0, 128] S128x128.size inb_S512x512_S128x128_0_128, P 1 0⟩,
   ⟨Rect.unit ![384, 0] S128x128.size inb_S512x512_S128x128_384_0, P 0 3⟩,
   ⟨Rect.unit ![256, 0] S128x128.size inb_S512x512_S128x128_256_0, P 0 2⟩,
   ⟨Rect.unit ![128, 0] S128x128.size inb_S512x512_S128x128_128_0, P 0 1⟩,
   ⟨Rect.unit ![0, 0] S128x128.size inb_S512x512_S128x128_0_0, P 0 0⟩]

/-- The four stores of a state, last first. -/
def stateStores (P : Fin 4 → Vec Ideal S1x64x128 .f32) : List (View.Piece (Elt Ideal) S4x64x128 .f32) :=
  [⟨Rect.unit ![3, 0, 0] S1x64x128.size inb_S4x64x128_S1x64x128_3_0_0, P 3⟩,
   ⟨Rect.unit ![2, 0, 0] S1x64x128.size inb_S4x64x128_S1x64x128_2_0_0, P 2⟩,
   ⟨Rect.unit ![1, 0, 0] S1x64x128.size inb_S4x64x128_S1x64x128_1_0_0, P 1⟩,
   ⟨Rect.unit ![0, 0, 0] S1x64x128.size inb_S4x64x128_S1x64x128_0_0_0, P 0⟩]

/-- The four stores of the output, last first. -/
def outStores (P : Fin 4 → Vec Ideal S1x512x128 .bf16) : List (View.Piece (Elt Ideal) S1x512x512 .bf16) :=
  [⟨Rect.unit ![0, 0, 384] S1x512x128.size inb_S1x512x512_S1x512x128_0_0_384, P 3⟩,
   ⟨Rect.unit ![0, 0, 256] S1x512x128.size inb_S1x512x512_S1x512x128_0_0_256, P 2⟩,
   ⟨Rect.unit ![0, 0, 128] S1x512x128.size inb_S1x512x512_S1x512x128_0_0_128, P 1⟩,
   ⟨Rect.unit ![0, 0, 0] S1x512x128.size inb_S1x512x512_S1x512x128_0_0_0, P 0⟩]

/-- The rows of all heads on all chunks. -/
def rowsAll (P : Fin 4 → Fin 4 → Vec Ideal S128x128 .f32) : Vec Ideal S512x512 .f32 := fun y =>
  P ⟨(y 1).val / 128, by have : (y 1).val < 512 := (y 1).isLt; omega⟩ ⟨(y 0).val / 128, by have : (y 0).val < 512 := (y 0).isLt; omega⟩
    (ix2 (⟨(y 0).val % 128, Nat.mod_lt _ (by decide)⟩ : Fin 128) (⟨(y 1).val % 128, Nat.mod_lt _ (by decide)⟩ : Fin 128))

def stateAll (P : Fin 4 → Vec Ideal S1x64x128 .f32) : Vec Ideal S4x64x128 .f32 := fun y => P (y 0) (ix3 0 (y 1) (y 2))

def outAll (P : Fin 4 → Vec Ideal S1x512x128 .bf16) : Vec Ideal S1x512x512 .bf16 := fun y =>
  P ⟨(y 2).val / 128, by have : (y 2).val < 512 := (y 2).isLt; omega⟩ (ix3 0 (y 1) (⟨(y 2).val % 128, Nat.mod_lt _ (by decide)⟩ : Fin 128))

theorem y_piece (P : Fin 4 → Fin 4 → Vec Ideal S128x128 .f32) (h j : Fin 4) (inb) (y : S128x128.Idx) :
    P h j y = rowsAll P ((Rect.unit (s := S512x512) ![128 * j.val, 128 * h.val] S128x128.size inb).emb y) := by
  obtain ⟨r, l, rfl⟩ : ∃ (r : Fin 128) (l : Fin 128), y = ix2 r l := ⟨y 0, y 1, eq_ix2 y⟩
  have e : (Rect.unit (s := S512x512) ![128 * j.val, 128 * h.val] S128x128.size inb).emb (ix2 r l)
      = ix2 (⟨128 * j.val + r.val, by omega⟩ : Fin 512) (⟨128 * h.val + l.val, by omega⟩ : Fin 512) := by
    funext a
    match a with
    | ⟨0, _⟩ => exact Fin.ext (show 128 * j.val + 1 * r.val = 128 * j.val + r.val by omega)
    | ⟨1, _⟩ => exact Fin.ext (show 128 * h.val + 1 * l.val = 128 * h.val + l.val by omega)
  rw [e]
  show _ = P ⟨(128 * h.val + l.val) / 128, _⟩ ⟨(128 * j.val + r.val) / 128, _⟩ (ix2 (⟨(128 * j.val + r.val) % 128, _⟩ : Fin 128) (⟨(128 * h.val + l.val) % 128, _⟩ : Fin 128))
  rw [show (⟨(128 * h.val + l.val) / 128, by omega⟩ : Fin 4) = h from Fin.ext (by dsimp only; omega),
    show (⟨(128 * j.val + r.val) / 128, by omega⟩ : Fin 4) = j from Fin.ext (by dsimp only; omega),
    show (⟨(128 * j.val + r.val) % 128, by omega⟩ : Fin 128) = r from Fin.ext (by dsimp only; omega),
    show (⟨(128 * h.val + l.val) % 128, by omega⟩ : Fin 128) = l from Fin.ext (by dsimp only; omega)]

theorem s_piece (P : Fin 4 → Vec Ideal S1x64x128 .f32) (h : Fin 4) (inb) (y : S1x64x128.Idx) :
    P h y = stateAll P ((Rect.unit (s := S4x64x128) ![h.val, 0, 0] S1x64x128.size inb).emb y) := by
  obtain ⟨z, r, l, rfl⟩ : ∃ (z : Fin 1) (r : Fin 64) (l : Fin 128), y = ix3 z r l := ⟨y 0, y 1, y 2, eq_ix3 y⟩
  obtain rfl : z = 0 := Subsingleton.elim _ _
  have e : (Rect.unit (s := S4x64x128) ![h.val, 0, 0] S1x64x128.size inb).emb (ix3 0 r l) = ix3 h r l := by
    funext a
    match a with
    | ⟨0, _⟩ => exact Fin.ext (show h.val + 1 * 0 = h.val by omega)
    | ⟨1, _⟩ => exact Fin.ext (show 0 + 1 * r.val = r.val by omega)
    | ⟨2, _⟩ => exact Fin.ext (show 0 + 1 * l.val = l.val by omega)
  rw [e]
  rfl

theorem o_piece (P : Fin 4 → Vec Ideal S1x512x128 .bf16) (h : Fin 4) (inb) (y : S1x512x128.Idx) :
    P h y = outAll P ((Rect.unit (s := S1x512x512) ![0, 0, 128 * h.val] S1x512x128.size inb).emb y) := by
  obtain ⟨z, r, l, rfl⟩ : ∃ (z : Fin 1) (r : Fin 512) (l : Fin 128), y = ix3 z r l := ⟨y 0, y 1, y 2, eq_ix3 y⟩
  obtain rfl : z = 0 := Subsingleton.elim _ _
  have e : (Rect.unit (s := S1x512x512) ![0, 0, 128 * h.val] S1x512x128.size inb).emb (ix3 0 r l) = ix3 0 r (⟨128 * h.val + l.val, by omega⟩ : Fin 512) := by
    funext a
    match a with
    | ⟨0, _⟩ => exact Fin.ext (show 0 + 1 * 0 = 0 by omega)
    | ⟨1, _⟩ => exact Fin.ext (show 0 + 1 * r.val = r.val by omega)
    | ⟨2, _⟩ => exact Fin.ext (show 128 * h.val + 1 * l.val = 128 * h.val + l.val by omega)
  rw [e]
  show _ = P ⟨(128 * h.val + l.val) / 128, _⟩ (ix3 0 r (⟨(128 * h.val + l.val) % 128, _⟩ : Fin 128))
  rw [show (⟨(128 * h.val + l.val) / 128, by omega⟩ : Fin 4) = h from Fin.ext (by dsimp only; omega),
    show (⟨(128 * h.val + l.val) % 128, by omega⟩ : Fin 128) = l from Fin.ext (by dsimp only; omega)]

theorem row_pieces (P : Fin 4 → Fin 4 → Vec Ideal S128x128 .f32) : View.PiecesOf (rowsAll P) (rowStores P) :=
  ⟨y_piece P 3 3 inb_S512x512_S128x128_384_384,
   y_piece P 3 2 inb_S512x512_S128x128_256_384,
   y_piece P 3 1 inb_S512x512_S128x128_128_384,
   y_piece P 3 0 inb_S512x512_S128x128_0_384,
   y_piece P 2 3 inb_S512x512_S128x128_384_256,
   y_piece P 2 2 inb_S512x512_S128x128_256_256,
   y_piece P 2 1 inb_S512x512_S128x128_128_256,
   y_piece P 2 0 inb_S512x512_S128x128_0_256,
   y_piece P 1 3 inb_S512x512_S128x128_384_128,
   y_piece P 1 2 inb_S512x512_S128x128_256_128,
   y_piece P 1 1 inb_S512x512_S128x128_128_128,
   y_piece P 1 0 inb_S512x512_S128x128_0_128,
   y_piece P 0 3 inb_S512x512_S128x128_384_0,
   y_piece P 0 2 inb_S512x512_S128x128_256_0,
   y_piece P 0 1 inb_S512x512_S128x128_128_0,
   y_piece P 0 0 inb_S512x512_S128x128_0_0, trivial⟩

theorem state_pieces (P : Fin 4 → Vec Ideal S1x64x128 .f32) : View.PiecesOf (stateAll P) (stateStores P) :=
  ⟨s_piece P 3 inb_S4x64x128_S1x64x128_3_0_0, s_piece P 2 inb_S4x64x128_S1x64x128_2_0_0, s_piece P 1 inb_S4x64x128_S1x64x128_1_0_0, s_piece P 0 inb_S4x64x128_S1x64x128_0_0_0, trivial⟩

theorem out_pieces (P : Fin 4 → Vec Ideal S1x512x128 .bf16) : View.PiecesOf (outAll P) (outStores P) :=
  ⟨o_piece P 3 inb_S1x512x512_S1x512x128_0_0_384, o_piece P 2 inb_S1x512x512_S1x512x128_0_0_256, o_piece P 1 inb_S1x512x512_S1x512x128_0_0_128, o_piece P 0 inb_S1x512x512_S1x512x128_0_0_0, trivial⟩

theorem row_cover (P : Fin 4 → Fin 4 → Vec Ideal S128x128 .f32) : ∀ y, ∃ p ∈ rowStores P, y ∈ p.1.set :=
  View.cover_of_tiledL (rowStores P) S128x128.size (by sl_kernel_rfl)

theorem state_cover (P : Fin 4 → Vec Ideal S1x64x128 .f32) : ∀ y, ∃ p ∈ stateStores P, y ∈ p.1.set :=
  View.cover_of_tiledL (stateStores P) S1x64x128.size (by sl_kernel_rfl)

theorem out_cover (P : Fin 4 → Vec Ideal S1x512x128 .bf16) : ∀ y, ∃ p ∈ outStores P, y ∈ p.1.set :=
  View.cover_of_tiledL (outStores P) S1x512x128.size (by sl_kernel_rfl)

/-! ### What a point reads -/

theorem inb_qk (j p : Fin 4) : ∀ a, (![0, 128 * j.val, 128 * p.val] : Fin 3 → ℕ) a + S1x128x128.size a ≤ S1x512x512.size a := by
  intro a
  match a with
  | ⟨0, _⟩ => exact (show 0 + 1 ≤ 1 by omega)
  | ⟨1, _⟩ => exact (show 128 * j.val + 128 ≤ 512 by omega)
  | ⟨2, _⟩ => exact (show 128 * p.val + 128 ≤ 512 by omega)

theorem inb_ang (j : Fin 4) : ∀ a, (![128 * j.val, 0] : Fin 2 → ℕ) a + S128x128.size a ≤ S512x128.size a := by
  intro a
  match a with
  | ⟨0, _⟩ => exact (show 128 * j.val + 128 ≤ 512 by omega)
  | ⟨1, _⟩ => exact (show 0 + 128 ≤ 128 by omega)

theorem inb_tab (h : Fin 4) : ∀ a, (![h.val, 0, 0] : Fin 3 → ℕ) a + S1x128x128.size a ≤ S4x128x128.size a := by
  intro a
  match a with
  | ⟨0, _⟩ => exact (show h.val + 1 ≤ 4 by omega)
  | ⟨1, _⟩ => exact (show 0 + 128 ≤ 128 by omega)
  | ⟨2, _⟩ => exact (show 0 + 128 ≤ 128 by omega)

theorem inb_gam (h : Fin 4) : ∀ a, (![h.val, 0, 0] : Fin 3 → ℕ) a + S1x1x128.size a ≤ S4x1x128.size a := by
  intro a
  match a with
  | ⟨0, _⟩ => exact (show h.val + 1 ≤ 4 by omega)
  | ⟨1, _⟩ => exact (show 0 + 1 ≤ 1 by omega)
  | ⟨2, _⟩ => exact (show 0 + 128 ≤ 128 by omega)

theorem inb_st (h : Fin 4) : ∀ a, (![h.val, 0, 0] : Fin 3 → ℕ) a + S1x64x128.size a ≤ S4x64x128.size a := by
  intro a
  match a with
  | ⟨0, _⟩ => exact (show h.val + 1 ≤ 4 by omega)
  | ⟨1, _⟩ => exact (show 0 + 64 ≤ 64 by omega)
  | ⟨2, _⟩ => exact (show 0 + 128 ≤ 128 by omega)

theorem inb_out (h : Fin 4) : ∀ a, (![0, 0, 128 * h.val] : Fin 3 → ℕ) a + S1x512x128.size a ≤ S1x512x512.size a := by
  intro a
  match a with
  | ⟨0, _⟩ => exact (show 0 + 1 ≤ 1 by omega)
  | ⟨1, _⟩ => exact (show 0 + 512 ≤ 512 by omega)
  | ⟨2, _⟩ => exact (show 128 * h.val + 128 ≤ 512 by omega)

theorem inb_rows (h : Fin 4) : ∀ a, (![0, 128 * h.val] : Fin 2 → ℕ) a + S512x128.size a ≤ S512x512.size a := by
  intro a
  match a with
  | ⟨0, _⟩ => exact (show 0 + 512 ≤ 512 by omega)
  | ⟨1, _⟩ => exact (show 128 * h.val + 128 ≤ 512 by omega)

/-- The reads of a point, out of its blocks and the states it starts from. -/
def reads (x0 : Vec Ideal S1x512x512 .f32) (x1 : Vec Ideal S1x512x512 .f32) (x3 : Vec Ideal S512x128 .f32) (x4 : Vec Ideal S512x128 .f32) (x5 : Vec Ideal S4x128x128 .f32) (x6 : Vec Ideal S4x128x128 .f32) (x7 : Vec Ideal S4x128x128 .f32) (x8 : Vec Ideal S4x1x128 .f32)
    (st : Fin 4 → Vec Ideal S1x64x128 .f32) : Reads where
  qk j p := View.ld (Val := Elt Ideal) x0 (Rect.unit (s := S1x512x512) ![0, 128 * j.val, 128 * p.val] S1x128x128.size (inb_qk j p))
  v j h := View.ld (Val := Elt Ideal) x1 (Rect.unit (s := S1x512x512) ![0, 128 * j.val, 128 * h.val] S1x128x128.size (inb_qk j h))
  cs j := View.ld (Val := Elt Ideal) x3 (Rect.unit (s := S512x128) ![128 * j.val, 0] S128x128.size (inb_ang j))
  sn j := View.ld (Val := Elt Ideal) x4 (Rect.unit (s := S512x128) ![128 * j.val, 0] S128x128.size (inb_ang j))
  dec h := View.ld (Val := Elt Ideal) x5 (Rect.unit (s := S4x128x128) ![h.val, 0, 0] S1x128x128.size (inb_tab h))
  zet h := View.ld (Val := Elt Ideal) x6 (Rect.unit (s := S4x128x128) ![h.val, 0, 0] S1x128x128.size (inb_tab h))
  xi h := View.ld (Val := Elt Ideal) x7 (Rect.unit (s := S4x128x128) ![h.val, 0, 0] S1x128x128.size (inb_tab h))
  gam h := View.ld (Val := Elt Ideal) x8 (Rect.unit (s := S4x1x128) ![h.val, 0, 0] S1x1x128.size (inb_gam h))
  st := st

/-- The states kept from the point before, one head after another. -/
def keptSt (xs0 : Vec Ideal S4x64x128 .f32) (h : Fin 4) : Vec Ideal S1x64x128 .f32 :=
  View.ld (Val := Elt Ideal) xs0 (Rect.unit (s := S4x64x128) ![h.val, 0, 0] S1x64x128.size (inb_st h))

/-- The rows of a head on a chunk, as they are stored; -/
def rowsP (L : Reads) (h j : Fin 4) : Vec Ideal S128x128 .f32 := shapeCast S128x128 (rowsOf L h j) shapeCasts_S128x128_S128x128

/-- its state after the four chunks, as it is stored; -/
def stP (L : Reads) (h : Fin 4) : Vec Ideal S1x64x128 .f32 := shapeCast S1x64x128 (stV L h 4) shapeCasts_S64x128_S1x64x128

/-- and its rows out. -/
def outP (L : Reads) (x2 : Vec Ideal S1x512x512 .f32) (h : Fin 4) : Vec Ideal S1x512x128 .bf16 :=
  gateV (View.ld (Val := Elt Ideal) (rowsAll (rowsP L)) (Rect.unit (s := S512x512) ![0, 128 * h.val] S512x128.size (inb_rows h)))
    (View.ld (Val := Elt Ideal) x2 (Rect.unit (s := S1x512x512) ![0, 0, 128 * h.val] S1x512x128.size (inb_out h)))

/-! ### What the body leaves -/

variable (c : Dev nD) (i : grid0.Coords) (arg2 : Memref sig .tc .vmem S1x512x512 .f32) (harg2 : arg2.IsWhole) (arg3 : Memref sig .tc .vmem S1x512x512 .f32) (harg3 : arg3.IsWhole) (arg4 : Memref sig .tc .vmem S1x512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S4x128x128 .f32) (harg7 : arg7.IsWhole) (arg8 : Memref sig .tc .vmem S4x128x128 .f32) (harg8 : arg8.IsWhole) (arg9 : Memref sig .tc .vmem S4x128x128 .f32) (harg9 : arg9.IsWhole) (arg10 : Memref sig .tc .vmem S4x1x128 .f32) (harg10 : arg10.IsWhole) (arg11 : Memref sig .tc .vmem S1x512x512 .bf16) (harg11 : arg11.IsWhole) (arg12 : Memref sig .tc .vmem S4x64x128 .f32) (harg12 : arg12.IsWhole) (arg13 : Memref sig .tc .vmem S512x512 .f32) (harg13 : arg13.IsWhole)
  (x0 : Vec Ideal S1x512x512 .f32) (x1 : Vec Ideal S1x512x512 .f32) (x2 : Vec Ideal S1x512x512 .f32) (x3 : Vec Ideal S512x128 .f32) (x4 : Vec Ideal S512x128 .f32) (x5 : Vec Ideal S4x128x128 .f32) (x6 : Vec Ideal S4x128x128 .f32) (x7 : Vec Ideal S4x128x128 .f32) (x8 : Vec Ideal S4x1x128 .f32) (xs0 : Vec Ideal S4x64x128 .f32)

/-- The reads of a later point, -/
def readsB : Reads :=
  reads (arg2.view.read (Elt Ideal) (harg2.unread x0)) (arg3.view.read (Elt Ideal) (harg3.unread x1)) (arg5.view.read (Elt Ideal) (harg5.unread x3)) (arg6.view.read (Elt Ideal) (harg6.unread x4)) (arg7.view.read (Elt Ideal) (harg7.unread x5))
    (arg8.view.read (Elt Ideal) (harg8.unread x6)) (arg9.view.read (Elt Ideal) (harg9.unread x7)) (arg10.view.read (Elt Ideal) (harg10.unread x8)) (keptSt (arg12.view.read (Elt Ideal) (harg12.unread xs0)))

/-- Those reads are the blocks'. -/
theorem readsB_eq : readsB arg2 harg2 arg3 harg3 arg5 harg5 arg6 harg6 arg7 harg7 arg8 harg8 arg9 harg9 arg10 harg10 arg12 harg12 x0 x1 x3 x4 x5 x6 x7 x8 xs0 = reads x0 x1 x3 x4 x5 x6 x7 x8 (keptSt xs0) := by
  unfold readsB

  simp only [harg2.read_unread, harg3.read_unread, harg5.read_unread, harg6.read_unread, harg7.read_unread, harg8.read_unread, harg9.read_unread, harg10.read_unread, harg12.read_unread]

/-- The stores of rows are the rows. -/
theorem rows_B : kernelRun0_B.sl.HS1_16 (F := Ideal) c arg2 harg2 arg3 harg3 arg5 harg5 arg6 harg6 arg7 harg7 arg8 harg8 arg9 harg9 arg10 harg10 arg12 harg12 x0 x1 x3 x4 x5 x6 x7 x8 xs0 = rowStores (rowsP (readsB arg2 harg2 arg3 harg3 arg5 harg5 arg6 harg6 arg7 harg7 arg8 harg8 arg9 harg9 arg10 harg10 arg12 harg12 x0 x1 x3 x4 x5 x6 x7 x8 xs0)) := by sl_kernel_rfl

/-- A read of a head's rows, -/
theorem rows_readB (B : Rect S512x512) : arg13.view.readCov (kernelRun0_B.sl.HS1_16 (F := Ideal) c arg2 harg2 arg3 harg3 arg5 harg5 arg6 harg6 arg7 harg7 arg8 harg8 arg9 harg9 arg10 harg10 arg12 harg12 x0 x1 x3 x4 x5 x6 x7 x8 xs0) B.toLoadRect = View.ld (rowsAll (rowsP (reads x0 x1 x3 x4 x5 x6 x7 x8 (keptSt xs0)))) B := by
  rw [rows_B, readsB_eq]
  exact readCov_of _ _ _ (row_pieces _) (row_cover _) B

/-- the stores of the output over those reads, -/
theorem outs_B (hc0 : ¬ cond0_0 i) : (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).1
    = outStores (fun h => gateV (arg13.view.readCov (kernelRun0_B.sl.HS1_16 (F := Ideal) c arg2 harg2 arg3 harg3 arg5 harg5 arg6 harg6 arg7 harg7 arg8 harg8 arg9 harg9 arg10 harg10 arg12 harg12 x0 x1 x3 x4 x5 x6 x7 x8 xs0) (Rect.unit (s := S512x512) ![0, 128 * h.val] S512x128.size (inb_rows h)).toLoadRect)
        (View.ld (Val := Elt Ideal) (arg4.view.read (Elt Ideal) (harg4.unread x2)) (Rect.unit (s := S1x512x512) ![0, 0, 128 * h.val] S1x512x128.size (inb_out h)))) := by
  sl_kernel_rfl

/-- the block out, -/
theorem out_B (hc0 : ¬ cond0_0 i) : out0_B_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 = outAll (outP (reads x0 x1 x3 x4 x5 x6 x7 x8 (keptSt xs0)) x2) := by
  unfold out0_B_9
  rw [View.read_writes_junk_eq_canon, outs_B]
  simp only [rows_readB, harg4.read_unread]
  funext y
  exact View.canon_apply_of_pieces _ _ (out_pieces (outP (reads x0 x1 x3 x4 x5 x6 x7 x8 (keptSt xs0)) x2)).mem y (out_cover _ y)

/-- the stores of the states, -/
theorem stores_B (hc0 : ¬ cond0_0 i) : (kernelRun0_B (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0).2.1
    = stateStores (stP (readsB arg2 harg2 arg3 harg3 arg5 harg5 arg6 harg6 arg7 harg7 arg8 harg8 arg9 harg9 arg10 harg10 arg12 harg12 x0 x1 x3 x4 x5 x6 x7 x8 xs0)) := by
  sl_kernel_rfl

/-- and the states kept. -/
theorem state_B (hc0 : ¬ cond0_0 i) : sout0_B_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 xs0 = stateAll (stP (reads x0 x1 x3 x4 x5 x6 x7 x8 (keptSt xs0))) := by
  unfold sout0_B_0
  rw [View.read_writes_junk_eq_canon, stores_B, readsB_eq]
  funext y
  exact View.canon_apply_of_pieces _ _ (state_pieces _).mem y (state_cover _ y)

/-- The store of zero the first point makes. -/
abbrev zeroSt : View.Piece (Elt Ideal) S4x64x128 .f32 := ⟨Rect.unit ![0, 0, 0] S4x64x128.size inb_S4x64x128_S4x64x128_0_0_0, k0_pay2 (F := Ideal)⟩

theorem zero_canon (y : S4x64x128.Idx) : View.canon [zeroSt] y = 0 := by
  refine (congrFun (View.canon_unit_zero (Val := Elt Ideal) (S := S4x64x128) (by decide) _ _) y).trans ?_
  obtain ⟨z, r, l, rfl⟩ : ∃ (z : Fin 4) (r : Fin 64) (l : Fin 128), y = ix3 z r l := ⟨y 0, y 1, y 2, eq_ix3 y⟩
  pointwise [k0_pay2]

/-- A read of one head's state passes over the store of another's. -/
theorem canon_skip (h k : Fin 4) (hk : h ≠ k) (inb inb') (P : Vec Ideal S1x64x128 .f32) (L : List (View.Piece (Elt Ideal) S4x64x128 .f32)) (z : S1x64x128.Idx) :
    View.canon (⟨Rect.unit (s := S4x64x128) ![k.val, 0, 0] S1x64x128.size inb', P⟩ :: L) ((Rect.unit (s := S4x64x128) ![h.val, 0, 0] S1x64x128.size inb).toLoadRect.idx z)
      = View.canon L ((Rect.unit (s := S4x64x128) ![h.val, 0, 0] S1x64x128.size inb).toLoadRect.idx z) := by
  refine View.canon_cons_of_not_mem _ _ fun hm => hk (Fin.ext ?_)
  obtain ⟨w, hw⟩ := (Rect.unit (s := S4x64x128) ![k.val, 0, 0] S1x64x128.size inb').exists_idx_of_mem hm
  have h1 : k.val + 1 * (w 0).val = h.val + 1 * (z 0).val := congrArg (fun i : S4x64x128.Idx => (i 0).val) hw
  have h2 : (w 0).val < 1 := (w 0).isLt
  have h3 : (z 0).val < 1 := (z 0).isLt
  omega

/-- The states the first point starts from, -/
def statesA : Fin 4 → Vec Ideal S1x64x128 .f32
  | 0 => kernelRun0_A.sl.v127 (F := Ideal) c arg12
  | 1 => kernelRun0_A.sl.v312 (F := Ideal) c arg2 harg2 arg3 harg3 arg5 harg5 arg6 harg6 arg8 harg8 arg10 harg10 arg12 x0 x1 x3 x4 x6 x8
  | 2 => kernelRun0_A.sl.v498 (F := Ideal) c arg2 harg2 arg3 harg3 arg5 harg5 arg6 harg6 arg8 harg8 arg10 harg10 arg12 x0 x1 x3 x4 x6 x8
  | 3 => kernelRun0_A.sl.v684 (F := Ideal) c arg2 harg2 arg3 harg3 arg5 harg5 arg6 harg6 arg8 harg8 arg10 harg10 arg12 x0 x1 x3 x4 x6 x8

/-- all of them zero: each is read before its head is stored. -/
theorem states_A : statesA c arg2 harg2 arg3 harg3 arg5 harg5 arg6 harg6 arg8 harg8 arg10 harg10 arg12 x0 x1 x3 x4 x6 x8 = fun _ _ => 0 := by
  funext h z
  match h with
  | 0 =>
    show kernelRun0_A.sl.v127 (F := Ideal) c arg12 z = 0
    unfold kernelRun0_A.sl.v127
    rw [View.readCov_eq_canon']
    exact zero_canon _
  | 1 =>
    show kernelRun0_A.sl.v312 (F := Ideal) c arg2 harg2 arg3 harg3 arg5 harg5 arg6 harg6 arg8 harg8 arg10 harg10 arg12 x0 x1 x3 x4 x6 x8 z = 0
    unfold kernelRun0_A.sl.v312
    rw [View.readCov_eq_canon']
    unfold kernelRun0_A.sl.HS0_2
    exact (canon_skip 1 0 (by decide) inb_S4x64x128_S1x64x128_1_0_0 inb_S4x64x128_S1x64x128_0_0_0 _ _ z).trans (zero_canon _)
  | 2 =>
    show kernelRun0_A.sl.v498 (F := Ideal) c arg2 harg2 arg3 harg3 arg5 harg5 arg6 harg6 arg8 harg8 arg10 harg10 arg12 x0 x1 x3 x4 x6 x8 z = 0
    unfold kernelRun0_A.sl.v498
    rw [View.readCov_eq_canon']
    unfold kernelRun0_A.sl.HS0_3
    refine (canon_skip 2 1 (by decide) inb_S4x64x128_S1x64x128_2_0_0 inb_S4x64x128_S1x64x128_1_0_0 _ _ z).trans ?_
    unfold kernelRun0_A.sl.HS0_2
    exact (canon_skip 2 0 (by decide) inb_S4x64x128_S1x64x128_2_0_0 inb_S4x64x128_S1x64x128_0_0_0 _ _ z).trans (zero_canon _)
  | 3 =>
    show kernelRun0_A.sl.v684 (F := Ideal) c arg2 harg2 arg3 harg3 arg5 harg5 arg6 harg6 arg8 harg8 arg10 harg10 arg12 x0 x1 x3 x4 x6 x8 z = 0
    unfold kernelRun0_A.sl.v684
    rw [View.readCov_eq_canon']
    unfold kernelRun0_A.sl.HS0_4
    refine (canon_skip 3 2 (by decide) inb_S4x64x128_S1x64x128_3_0_0 inb_S4x64x128_S1x64x128_2_0_0 _ _ z).trans ?_
    unfold kernelRun0_A.sl.HS0_3
    refine (canon_skip 3 1 (by decide) inb_S4x64x128_S1x64x128_3_0_0 inb_S4x64x128_S1x64x128_1_0_0 _ _ z).trans ?_
    unfold kernelRun0_A.sl.HS0_2
    exact (canon_skip 3 0 (by decide) inb_S4x64x128_S1x64x128_3_0_0 inb_S4x64x128_S1x64x128_0_0_0 _ _ z).trans (zero_canon _)

/-- The reads of a first point. -/
def readsA : Reads :=
  reads (arg2.view.read (Elt Ideal) (harg2.unread x0)) (arg3.view.read (Elt Ideal) (harg3.unread x1)) (arg5.view.read (Elt Ideal) (harg5.unread x3)) (arg6.view.read (Elt Ideal) (harg6.unread x4)) (arg7.view.read (Elt Ideal) (harg7.unread x5))
    (arg8.view.read (Elt Ideal) (harg8.unread x6)) (arg9.view.read (Elt Ideal) (harg9.unread x7)) (arg10.view.read (Elt Ideal) (harg10.unread x8)) (statesA c arg2 harg2 arg3 harg3 arg5 harg5 arg6 harg6 arg8 harg8 arg10 harg10 arg12 x0 x1 x3 x4 x6 x8)

/-- Those reads are the blocks'. -/
theorem readsA_eq : readsA c arg2 harg2 arg3 harg3 arg5 harg5 arg6 harg6 arg7 harg7 arg8 harg8 arg9 harg9 arg10 harg10 arg12 x0 x1 x3 x4 x5 x6 x7 x8 = reads x0 x1 x3 x4 x5 x6 x7 x8 (fun _ _ => 0) := by
  unfold readsA
  rw [states_A]
  simp only [harg2.read_unread, harg3.read_unread, harg5.read_unread, harg6.read_unread, harg7.read_unread, harg8.read_unread, harg9.read_unread, harg10.read_unread]

/-- The stores of rows are the rows. -/
theorem rows_A : kernelRun0_A.sl.HS1_16 (F := Ideal) c arg2 harg2 arg3 harg3 arg5 harg5 arg6 harg6 arg7 harg7 arg8 harg8 arg9 harg9 arg10 harg10 arg12 x0 x1 x3 x4 x5 x6 x7 x8 = rowStores (rowsP (readsA c arg2 harg2 arg3 harg3 arg5 harg5 arg6 harg6 arg7 harg7 arg8 harg8 arg9 harg9 arg10 harg10 arg12 x0 x1 x3 x4 x5 x6 x7 x8)) := by sl_kernel_rfl

/-- A read of a head's rows, -/
theorem rows_readA (B : Rect S512x512) : arg13.view.readCov (kernelRun0_A.sl.HS1_16 (F := Ideal) c arg2 harg2 arg3 harg3 arg5 harg5 arg6 harg6 arg7 harg7 arg8 harg8 arg9 harg9 arg10 harg10 arg12 x0 x1 x3 x4 x5 x6 x7 x8) B.toLoadRect = View.ld (rowsAll (rowsP (reads x0 x1 x3 x4 x5 x6 x7 x8 (fun _ _ => 0)))) B := by
  rw [rows_A, readsA_eq]
  exact readCov_of _ _ _ (row_pieces _) (row_cover _) B

/-- the stores of the output over those reads, -/
theorem outs_A (hc0 : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).1
    = outStores (fun h => gateV (arg13.view.readCov (kernelRun0_A.sl.HS1_16 (F := Ideal) c arg2 harg2 arg3 harg3 arg5 harg5 arg6 harg6 arg7 harg7 arg8 harg8 arg9 harg9 arg10 harg10 arg12 x0 x1 x3 x4 x5 x6 x7 x8) (Rect.unit (s := S512x512) ![0, 128 * h.val] S512x128.size (inb_rows h)).toLoadRect)
        (View.ld (Val := Elt Ideal) (arg4.view.read (Elt Ideal) (harg4.unread x2)) (Rect.unit (s := S1x512x512) ![0, 0, 128 * h.val] S1x512x128.size (inb_out h)))) := by
  sl_kernel_rfl

/-- the block out, -/
theorem out_A (hc0 : cond0_0 i) : out0_A_9 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = outAll (outP (reads x0 x1 x3 x4 x5 x6 x7 x8 (fun _ _ => 0)) x2) := by
  unfold out0_A_9
  rw [View.read_writes_junk_eq_canon, outs_A]
  simp only [rows_readA, harg4.read_unread]
  funext y
  exact View.canon_apply_of_pieces _ _ (out_pieces (outP (reads x0 x1 x3 x4 x5 x6 x7 x8 (fun _ _ => 0)) x2)).mem y (out_cover _ y)

/-- the stores of the states, -/
theorem stores_A (hc0 : cond0_0 i) : (kernelRun0_A (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8).2.1
    = stateStores (stP (readsA c arg2 harg2 arg3 harg3 arg5 harg5 arg6 harg6 arg7 harg7 arg8 harg8 arg9 harg9 arg10 harg10 arg12 x0 x1 x3 x4 x5 x6 x7 x8)) ++ [zeroSt] := by
  sl_kernel_rfl

/-- and the states kept. -/
theorem state_A (hc0 : cond0_0 i) : sout0_A_0 (F := Ideal) c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 x8 = stateAll (stP (reads x0 x1 x3 x4 x5 x6 x7 x8 (fun _ _ => 0))) := by
  unfold sout0_A_0
  rw [View.read_writes_junk_eq_canon, stores_A, readsA_eq]
  funext y
  exact View.canon_append_of_piecesOf _ _ _ (state_pieces _) y (state_cover _ y)

end Cert.RetentionIdeal.Mix

end
-- ==== Proof.RetentionReads.lean ====
/- The retention mixer over the extended reals: what the kernel reads at a point, as a function of the
   argument array. -/
module

public import proofs.«01_k».proof.Proof.RetentionBody
public import proofs.«01_k».proof.Proof.Gen.RetentionIdeal.Value

@[expose] public section

set_option maxRecDepth 16384

noncomputable section

namespace Cert.RetentionIdeal.Mix

open Cert.RetentionIdeal.Gen Cert.Layer
open Idealize.ShloMosaic Idealize.ShloMosaic.TcCoe Idealize.ShloMosaic.StableHlo Idealize.ShloMosaic.Tactic

/-! ### A point's reads, as the argument array's -/

/-- What it means that a point reads four chunks of batch `b` of an array, from chunk `N` on. -/
structure Of (X : Vec Ideal S2x8192x1536 .f32) (b : Fin 2) (N : ℕ) (L : Reads) : Prop where
  qk : ∀ (j p : Fin 4) (i l : Fin 128), L.qk j p (ix3 0 i l) = X (ix3 b (tok (N + j.val) i) (⟨128 * p.val + l.val, by omega⟩ : Fin 1536))
  v : ∀ (j h : Fin 4) (i e : Fin 128), L.v j h (ix3 0 i e) = valAt X b (tok (N + j.val) i) h e
  cs : ∀ (j : Fin 4) (i l : Fin 128), L.cs j (ix2 i l) = Ideal.cos (angle (tok (N + j.val) i).val (l.val % 32))
  sn : ∀ (j : Fin 4) (i l : Fin 128), L.sn j (ix2 i l) = Ideal.sin (angle (tok (N + j.val) i).val (l.val % 32))
  dec : ∀ (h : Fin 4) (i k : Fin 128), L.dec h (ix3 0 i k) = decay h i k
  zet : ∀ (h : Fin 4) (i l : Fin 128), L.zet h (ix3 0 i l) = decayOut h i
  xi : ∀ (h : Fin 4) (i l : Fin 128), L.xi h (ix3 0 i l) = decayIn h i
  gam : ∀ (h : Fin 4) (l : Fin 128), L.gam h (ix3 0 0 l) = decayAll h
  st : ∀ (h : Fin 4) (d : Fin 64) (e : Fin 128), L.st h (ix3 0 d e) = stateAt X b h N d e

section
variable {X : Vec Ideal S2x8192x1536 .f32} {b : Fin 2} {N : ℕ} {L : Reads} (H : Of X b N L)
include H

theorem Of.qry (h j : Fin 4) (i : Fin 128) (d : Fin 64) : qE L h j i d = qryAt X b (tok (N + j.val) i) h d := by
  unfold qE qryAt
  rw [H.qk, H.qk, H.cs, H.sn, show (lane h d).val % 32 = d.val % 32 by simp only [lane]; omega]
  rw [show (⟨128 * (0 : Fin 4).val + (lane h d).val, by omega⟩ : Fin 1536) = ⟨(lane h d).val, by omega⟩ from Fin.ext (Nat.zero_add _)]
  rfl

theorem Of.key (h j : Fin 4) (i : Fin 128) (d : Fin 64) : kE L h j i d = keyAt X b (tok (N + j.val) i) h d := by
  unfold kE keyAt
  rw [H.qk, H.qk, H.cs, H.sn, show (lane h d).val % 32 = d.val % 32 by simp only [lane]; omega]
  rfl

/-- The states between the point's chunks. -/
theorem Of.state (h : Fin 4) (d : Fin 64) (e : Fin 128) : ∀ n : ℕ, n ≤ 4 → stV L h n (ix2 d e) = stateAt X b h (N + n) d e
  | 0, _ => by
    refine Eq.trans ?_ (H.st h d e)
    show shapeCast S64x128 (L.st h) shapeCasts_S1x64x128_S64x128 (ix2 d e) = _
    pointwise
  | n + 1, hn => by
    rw [stV_succ, Of.state h d e n (by omega), H.gam]
    show _ = decayAll h * stateAt X b h (N + n) d e + addedAt X b (N + n) h d e
    unfold addedAt
    refine congrArg _ (Finset.sum_congr rfl fun i _ => ?_)
    rw [H.key, H.zet, H.v, show (chunk n).val = n from Nat.mod_eq_of_lt (by omega)]

/-- The rows. -/
theorem Of.row (h j : Fin 4) (i e : Fin 128) : rowsOf L h j (ix2 i e) = rowAt X b (N + j.val) h i e := by
  rw [rowsOf_apply]
  unfold rowAt innerAt
  simp only [H.qry, H.key, H.dec, H.v, H.xi, H.state h _ e j.val (by omega)]

end

/-! ### The tables the host hands to the kernel -/

variable (m : (ℓ : Loc nD τ sig) → Buf (Elt Ideal) ℓ)

theorem V_cos (c : Dev nD) (s : Fin 8192) (l : Fin 128) : (V m c main_v17 : Vec Ideal S8192x128 .f32) (ix2 s l) = Ideal.cos (angle s.val (l.val % 32)) := by
  simp only [V, hostOps0, hostOps0_1, hostOps0_2, List.flatten_cons, List.flatten_nil, List.append_nil, List.cons_append, List.nil_append]
  after_results_simp
  pointwise
  rfl

theorem V_sin (c : Dev nD) (s : Fin 8192) (l : Fin 128) : (V m c main_v21 : Vec Ideal S8192x128 .f32) (ix2 s l) = Ideal.sin (angle s.val (l.val % 32)) := by
  simp only [V, hostOps0, hostOps0_1, hostOps0_2, List.flatten_cons, List.flatten_nil, List.append_nil, List.cons_append, List.nil_append]
  after_results_simp
  pointwise
  rfl

theorem V_dec (c : Dev nD) (h : Fin 4) (i k : Fin 128) : (V m c main_v47 : Vec Ideal S4x128x128 .f32) (ix3 h i k) = decay h i k := by
  simp only [V, hostOps0, hostOps0_1, hostOps0_2, List.flatten_cons, List.flatten_nil, List.append_nil, List.cons_append, List.nil_append]
  after_results_simp
  simp only [TRef.toBuf, TRef.ofBuf, TRef.of, cast_eq, id_eq]
  pointwise
  rfl

theorem V_zet (c : Dev nD) (h : Fin 4) (i l : Fin 128) : (V m c main_v57 : Vec Ideal S4x128x128 .f32) (ix3 h i l) = decayOut h i := by
  simp only [V, hostOps0, hostOps0_1, hostOps0_2, List.flatten_cons, List.flatten_nil, List.append_nil, List.cons_append, List.nil_append]
  after_results_simp
  pointwise
  rfl

theorem V_xi (c : Dev nD) (h : Fin 4) (i l : Fin 128) : (V m c main_v67 : Vec Ideal S4x128x128 .f32) (ix3 h i l) = decayIn h i := by
  simp only [V, hostOps0, hostOps0_1, hostOps0_2, List.flatten_cons, List.flatten_nil, List.append_nil, List.cons_append, List.nil_append]
  after_results_simp
  pointwise
  rfl

theorem V_gam (c : Dev nD) (h : Fin 4) (l : Fin 128) : (V m c main_v72 : Vec Ideal S4x1x128 .f32) (ix3 h 0 l) = decayAll h := by
  simp only [V, hostOps0, hostOps0_1, hostOps0_2, List.flatten_cons, List.flatten_nil, List.append_nil, List.cons_append, List.nil_append]
  after_results_simp
  pointwise
  rfl

/-! ### The blocks -/

/-- Where each window's block lies at a grid point. -/
theorem idx : ∀ t : Fin cfg0.N, win0_0.index t = ![t.val / 16, t.val % 16, 0] ∧ win0_1.index t = ![t.val / 16, t.val % 16, 1] ∧ win0_2.index t = ![t.val / 16, t.val % 16, 2]
    ∧ win0_3.index t = ![t.val % 16, 0] ∧ win0_4.index t = ![t.val % 16, 0] ∧ win0_5.index t = ![0, 0, 0] ∧ win0_6.index t = ![0, 0, 0] ∧ win0_7.index t = ![0, 0, 0] ∧ win0_8.index t = ![0, 0, 0]
    ∧ win0_9.index t = ![t.val / 16, t.val % 16, 0] ∧ t.val < 32 :=
  (by decide +kernel : ∀ t : Fin grid0.N, _)

/-- The argument array. -/
abbrev arg (c : Dev nD) : Vec Ideal S2x8192x1536 .f32 := m ((c : Thread nD τ).loc main_arg0)

/-- The batch of a point, -/
def bat (t : Fin cfg0.N) : Fin 2 := ⟨t.val / 16, by have := (idx t).2.2.2.2.2.2.2.2.2.2; omega⟩

/-- and the token of its row `r`. -/
def tokOf (t : Fin cfg0.N) (r : Fin 512) : Fin 8192 := ⟨512 * (t.val % 16) + r.val, by omega⟩

theorem blk_0 (c : Dev nD) (t : Fin cfg0.N) (r l : Fin 512) : iblk m c 0 t (ix3 0 r l) = (V m c main_arg0 : Vec Ideal S2x8192x1536 .f32) (ix3 (bat t) (tokOf t r) (⟨l.val, by omega⟩ : Fin 1536)) := by
  unfold bat tokOf
  blk_ext [iblk, idx t]

theorem blk_1 (c : Dev nD) (t : Fin cfg0.N) (r l : Fin 512) : iblk m c 1 t (ix3 0 r l) = (V m c main_arg0 : Vec Ideal S2x8192x1536 .f32) (ix3 (bat t) (tokOf t r) (⟨512 + l.val, by omega⟩ : Fin 1536)) := by
  unfold bat tokOf
  blk_ext [iblk, idx t]

theorem blk_2 (c : Dev nD) (t : Fin cfg0.N) (r l : Fin 512) : iblk m c 2 t (ix3 0 r l) = (V m c main_arg0 : Vec Ideal S2x8192x1536 .f32) (ix3 (bat t) (tokOf t r) (⟨1024 + l.val, by omega⟩ : Fin 1536)) := by
  unfold bat tokOf
  blk_ext [iblk, idx t]

theorem blk_3 (c : Dev nD) (t : Fin cfg0.N) (r : Fin 512) (l : Fin 128) : iblk m c 3 t (ix2 r l) = (V m c main_v17 : Vec Ideal S8192x128 .f32) (ix2 (tokOf t r) l) := by
  unfold tokOf
  blk_ext [iblk, idx t]

theorem blk_4 (c : Dev nD) (t : Fin cfg0.N) (r : Fin 512) (l : Fin 128) : iblk m c 4 t (ix2 r l) = (V m c main_v21 : Vec Ideal S8192x128 .f32) (ix2 (tokOf t r) l) := by
  unfold tokOf
  blk_ext [iblk, idx t]

theorem blk_5 (c : Dev nD) (t : Fin cfg0.N) (h : Fin 4) (r l : Fin 128) : iblk m c 5 t (ix3 h r l) = (V m c main_v47 : Vec Ideal S4x128x128 .f32) (ix3 h r l) := by
  blk_ext [iblk, idx t]

theorem blk_6 (c : Dev nD) (t : Fin cfg0.N) (h : Fin 4) (r l : Fin 128) : iblk m c 6 t (ix3 h r l) = (V m c main_v57 : Vec Ideal S4x128x128 .f32) (ix3 h r l) := by
  blk_ext [iblk, idx t]

theorem blk_7 (c : Dev nD) (t : Fin cfg0.N) (h : Fin 4) (r l : Fin 128) : iblk m c 7 t (ix3 h r l) = (V m c main_v67 : Vec Ideal S4x128x128 .f32) (ix3 h r l) := by
  blk_ext [iblk, idx t]

theorem blk_8 (c : Dev nD) (t : Fin cfg0.N) (h : Fin 4) (l : Fin 128) : iblk m c 8 t (ix3 h 0 l) = (V m c main_v72 : Vec Ideal S4x1x128 .f32) (ix3 h 0 l) := by
  blk_ext [iblk, idx t]

/-- A box of an array of three axes, read at an index. -/
theorem box_idx3 {N M K n p k : ℕ} (a b d : ℕ) (inb) (x : Fin n) (y : Fin p) (z : Fin k) (hx : a + x.val < N) (hy : b + y.val < M) (hz : d + z.val < K) :
    (Rect.unit (s := ⟨3, ![N, M, K]⟩) ![a, b, d] ![n, p, k] inb).toLoadRect.idx (ix3 x y z) = ix3 (⟨a + x.val, hx⟩ : Fin N) (⟨b + y.val, hy⟩ : Fin M) (⟨d + z.val, hz⟩ : Fin K) := by
  funext i
  match i with
  | ⟨0, _⟩ => exact Fin.ext (show a + 1 * x.val = a + x.val by omega)
  | ⟨1, _⟩ => exact Fin.ext (show b + 1 * y.val = b + y.val by omega)
  | ⟨2, _⟩ => exact Fin.ext (show d + 1 * z.val = d + z.val by omega)

/-- Row `i` of chunk `j` of a point is a token of the array's chunk. -/
theorem tokOf_chunk (t : Fin cfg0.N) (j : Fin 4) (i : Fin 128) (h) : tokOf t ⟨128 * j.val + i.val, h⟩ = tok (4 * (t.val % 16) + j.val) i :=
  Fin.ext (by show 512 * (t.val % 16) + (128 * j.val + i.val) = (128 * (4 * (t.val % 16) + j.val) + i.val) % 8192; omega)

section
variable (c : Dev nD) (t : Fin cfg0.N) (j h p : Fin 4) (i l : Fin 128)

theorem read_qk : View.ld (Val := Elt Ideal) (iblk m c 0 t : Vec Ideal S1x512x512 .f32) (Rect.unit (s := S1x512x512) ![0, 128 * j.val, 128 * p.val] S1x128x128.size (inb_qk j p)) (ix3 0 i l)
    = arg m c (ix3 (bat t) (tok (4 * (t.val % 16) + j.val) i) (⟨128 * p.val + l.val, by omega⟩ : Fin 1536)) := by
  refine (congrArg (iblk m c 0 t : Vec Ideal S1x512x512 .f32) (box_idx3 0 (128 * j.val) (128 * p.val) (inb_qk j p) (0 : Fin 1) i l (by decide) (by omega) (by omega))).trans ?_
  refine (blk_0 m c t _ _).trans ((congrFun (V_main_arg0 m c) _).trans ?_)
  exact congrArg (fun z => arg m c (ix3 (bat t) z (⟨128 * p.val + l.val, by omega⟩ : Fin 1536))) (tokOf_chunk t j i _)

theorem read_v : View.ld (Val := Elt Ideal) (iblk m c 1 t : Vec Ideal S1x512x512 .f32) (Rect.unit (s := S1x512x512) ![0, 128 * j.val, 128 * h.val] S1x128x128.size (inb_qk j h)) (ix3 0 i l)
    = valAt (arg m c) (bat t) (tok (4 * (t.val % 16) + j.val) i) h l := by
  refine (congrArg (iblk m c 1 t : Vec Ideal S1x512x512 .f32) (box_idx3 0 (128 * j.val) (128 * h.val) (inb_qk j h) (0 : Fin 1) i l (by decide) (by omega) (by omega))).trans ?_
  refine (blk_1 m c t _ _).trans ((congrFun (V_main_arg0 m c) _).trans ?_)
  exact congrArg (fun z => valAt (arg m c) (bat t) z h l) (tokOf_chunk t j i _)

theorem read_cs : View.ld (Val := Elt Ideal) (iblk m c 3 t : Vec Ideal S512x128 .f32) (Rect.unit (s := S512x128) ![128 * j.val, 0] S128x128.size (inb_ang j)) (ix2 i l)
    = Ideal.cos (angle (tok (4 * (t.val % 16) + j.val) i).val (l.val % 32)) := by
  refine (congrArg (iblk m c 3 t : Vec Ideal S512x128 .f32) (box_idx (128 * j.val) 0 (inb_ang j) i l (by omega) (by omega))).trans ?_
  refine (blk_3 m c t _ _).trans ((V_cos m c _ _).trans ?_)
  rw [tokOf_chunk]
  exact congrArg (fun z => Ideal.cos (angle (tok (4 * (t.val % 16) + j.val) i).val (z % 32))) (Nat.zero_add _)

theorem read_sn : View.ld (Val := Elt Ideal) (iblk m c 4 t : Vec Ideal S512x128 .f32) (Rect.unit (s := S512x128) ![128 * j.val, 0] S128x128.size (inb_ang j)) (ix2 i l)
    = Ideal.sin (angle (tok (4 * (t.val % 16) + j.val) i).val (l.val % 32)) := by
  refine (congrArg (iblk m c 4 t : Vec Ideal S512x128 .f32) (box_idx (128 * j.val) 0 (inb_ang j) i l (by omega) (by omega))).trans ?_
  refine (blk_4 m c t _ _).trans ((V_sin m c _ _).trans ?_)
  rw [tokOf_chunk]
  exact congrArg (fun z => Ideal.sin (angle (tok (4 * (t.val % 16) + j.val) i).val (z % 32))) (Nat.zero_add _)

/-- A table of a head, read whole. -/
theorem tab_idx : (Rect.unit (s := S4x128x128) ![h.val, 0, 0] S1x128x128.size (inb_tab h)).toLoadRect.idx (ix3 0 i l) = ix3 h i l := by
  refine (box_idx3 h.val 0 0 (inb_tab h) (0 : Fin 1) i l (by omega) (by omega) (by omega)).trans ?_
  rw [show (⟨0 + i.val, by omega⟩ : Fin 128) = i from Fin.ext (Nat.zero_add _), show (⟨0 + l.val, by omega⟩ : Fin 128) = l from Fin.ext (Nat.zero_add _)]
  rfl

theorem read_dec : View.ld (Val := Elt Ideal) (iblk m c 5 t : Vec Ideal S4x128x128 .f32) (Rect.unit (s := S4x128x128) ![h.val, 0, 0] S1x128x128.size (inb_tab h)) (ix3 0 i l) = decay h i l :=
  (congrArg (iblk m c 5 t : Vec Ideal S4x128x128 .f32) (tab_idx h i l)).trans ((blk_5 m c t _ _ _).trans (V_dec m c _ _ _))

theorem read_zet : View.ld (Val := Elt Ideal) (iblk m c 6 t : Vec Ideal S4x128x128 .f32) (Rect.unit (s := S4x128x128) ![h.val, 0, 0] S1x128x128.size (inb_tab h)) (ix3 0 i l) = decayOut h i :=
  (congrArg (iblk m c 6 t : Vec Ideal S4x128x128 .f32) (tab_idx h i l)).trans ((blk_6 m c t _ _ _).trans (V_zet m c _ _ _))

theorem read_xi : View.ld (Val := Elt Ideal) (iblk m c 7 t : Vec Ideal S4x128x128 .f32) (Rect.unit (s := S4x128x128) ![h.val, 0, 0] S1x128x128.size (inb_tab h)) (ix3 0 i l) = decayIn h i :=
  (congrArg (iblk m c 7 t : Vec Ideal S4x128x128 .f32) (tab_idx h i l)).trans ((blk_7 m c t _ _ _).trans (V_xi m c _ _ _))

theorem read_gam : View.ld (Val := Elt Ideal) (iblk m c 8 t : Vec Ideal S4x1x128 .f32) (Rect.unit (s := S4x1x128) ![h.val, 0, 0] S1x1x128.size (inb_gam h)) (ix3 0 0 l) = decayAll h := by
  refine (congrArg (iblk m c 8 t : Vec Ideal S4x1x128 .f32) (box_idx3 h.val 0 0 (inb_gam h) (0 : Fin 1) (0 : Fin 1) l (by omega) (by decide) (by omega))).trans ?_
  exact (blk_8 m c t _ _).trans (V_gam m c _ _)

end

/-- Reads of blocks that hold four chunks of an array. -/
theorem of_reads {X : Vec Ideal S2x8192x1536 .f32} {b : Fin 2} {N : ℕ}
    {x0 x1 : Vec Ideal S1x512x512 .f32} {x3 x4 : Vec Ideal S512x128 .f32} {x5 x6 x7 : Vec Ideal S4x128x128 .f32} {x8 : Vec Ideal S4x1x128 .f32} {st : Fin 4 → Vec Ideal S1x64x128 .f32}
    (qk : ∀ (j p : Fin 4) (i l : Fin 128), View.ld (Val := Elt Ideal) x0 (Rect.unit (s := S1x512x512) ![0, 128 * j.val, 128 * p.val] S1x128x128.size (inb_qk j p)) (ix3 0 i l) = X (ix3 b (tok (N + j.val) i) (⟨128 * p.val + l.val, by omega⟩ : Fin 1536)))
    (v : ∀ (j h : Fin 4) (i e : Fin 128), View.ld (Val := Elt Ideal) x1 (Rect.unit (s := S1x512x512) ![0, 128 * j.val, 128 * h.val] S1x128x128.size (inb_qk j h)) (ix3 0 i e) = valAt X b (tok (N + j.val) i) h e)
    (cs : ∀ (j : Fin 4) (i l : Fin 128), View.ld (Val := Elt Ideal) x3 (Rect.unit (s := S512x128) ![128 * j.val, 0] S128x128.size (inb_ang j)) (ix2 i l) = Ideal.cos (angle (tok (N + j.val) i).val (l.val % 32)))
    (sn : ∀ (j : Fin 4) (i l : Fin 128), View.ld (Val := Elt Ideal) x4 (Rect.unit (s := S512x128) ![128 * j.val, 0] S128x128.size (inb_ang j)) (ix2 i l) = Ideal.sin (angle (tok (N + j.val) i).val (l.val % 32)))
    (dec : ∀ (h : Fin 4) (i k : Fin 128), View.ld (Val := Elt Ideal) x5 (Rect.unit (s := S4x128x128) ![h.val, 0, 0] S1x128x128.size (inb_tab h)) (ix3 0 i k) = decay h i k)
    (zet : ∀ (h : Fin 4) (i l : Fin 128), View.ld (Val := Elt Ideal) x6 (Rect.unit (s := S4x128x128) ![h.val, 0, 0] S1x128x128.size (inb_tab h)) (ix3 0 i l) = decayOut h i)
    (xi : ∀ (h : Fin 4) (i l : Fin 128), View.ld (Val := Elt Ideal) x7 (Rect.unit (s := S4x128x128) ![h.val, 0, 0] S1x128x128.size (inb_tab h)) (ix3 0 i l) = decayIn h i)
    (gam : ∀ (h : Fin 4) (l : Fin 128), View.ld (Val := Elt Ideal) x8 (Rect.unit (s := S4x1x128) ![h.val, 0, 0] S1x1x128.size (inb_gam h)) (ix3 0 0 l) = decayAll h)
    (hst : ∀ (h : Fin 4) (d : Fin 64) (e : Fin 128), st h (ix3 0 d e) = stateAt X b h N d e) :
    Of X b N (reads x0 x1 x3 x4 x5 x6 x7 x8 st) :=
  ⟨qk, v, cs, sn, dec, zet, xi, gam, hst⟩

/-- What a point reads, from given states. -/
def readsFrom (c : Dev nD) (t : Fin cfg0.N) (st : Fin 4 → Vec Ideal S1x64x128 .f32) : Reads :=
  reads (iblk m c 0 t) (iblk m c 1 t) (iblk m c 3 t) (iblk m c 4 t) (iblk m c 5 t) (iblk m c 6 t) (iblk m c 7 t) (iblk m c 8 t) st

/-- A point reads four chunks of the argument array. -/
theorem reads_of (c : Dev nD) (t : Fin cfg0.N) (st : Fin 4 → Vec Ideal S1x64x128 .f32)
    (hst : ∀ (h : Fin 4) (d : Fin 64) (e : Fin 128), st h (ix3 0 d e) = stateAt (arg m c) (bat t) h (4 * (t.val % 16)) d e) :
    Of (arg m c) (bat t) (4 * (t.val % 16)) (readsFrom m c t st) := by
  unfold readsFrom
  exact of_reads (read_qk m c t) (read_v m c t) (read_cs m c t) (read_sn m c t) (read_dec m c t) (read_zet m c t) (read_xi m c t) (read_gam m c t) hst

end Cert.RetentionIdeal.Mix

end
-- ==== Proof.RetentionValue.lean ====
/- The retention mixer over the extended reals: the kernel's result, as a function of the argument array. -/
module

public import proofs.«01_k».proof.Proof.RetentionReads

@[expose] public section

set_option maxRecDepth 16384

noncomputable section

namespace Cert.RetentionIdeal.Mix

open Cert.RetentionIdeal.Gen Cert.Layer
open Idealize.ShloMosaic Idealize.ShloMosaic.TcCoe Idealize.ShloMosaic.StableHlo Idealize.ShloMosaic.Tactic

variable (m : (ℓ : Loc nD τ sig) → Buf (Elt Ideal) ℓ)

/-! ### What every point leaves -/

/-- The states a point starts from: zero at a batch's first point, the kept ones else. -/
def startSt (c : Dev nD) (t : Fin cfg0.N) : Fin 4 → Vec Ideal S1x64x128 .f32 :=
  if t.val % 16 = 0 then fun _ _ => 0 else keptSt (outsAt0 m c (t.val - 1) (by omega)).2

/-- What a point reads. -/
abbrev readsAt (c : Dev nD) (t : Fin cfg0.N) : Reads := readsFrom m c t (startSt m c t)

/-- What a point leaves. -/
theorem outs_eq (c : Dev nD) (t : Fin cfg0.N) : outsAt0 m c t.val t.isLt = (outAll (outP (readsAt m c t) (iblk m c 2 t)), stateAll (stP (readsAt m c t))) := by
  unfold readsAt readsFrom startSt
  by_cases h0 : t.val % 16 = 0
  · rw [outsAt0_A m c t h0, out_A, state_A, if_pos h0]
  · rw [outsAt0_B m c t h0, out_B, state_B, if_neg h0]

/-- The states before every point are the array's. -/
theorem start_eq (c : Dev nD) : ∀ (n : ℕ) (hn : n < cfg0.N) (h : Fin 4) (d : Fin 64) (e : Fin 128),
    startSt m c ⟨n, hn⟩ h (ix3 0 d e) = stateAt (arg m c) (bat ⟨n, hn⟩) h (4 * (n % 16)) d e
  | 0, hn, h, d, e => rfl
  | n + 1, hn, h, d, e => by
    unfold startSt
    by_cases h0 : (n + 1) % 16 = 0
    · rw [if_pos h0, h0]
      rfl
    · rw [if_neg h0]
      have ih := reads_of m c ⟨n, Nat.lt_of_succ_lt hn⟩ (startSt m c ⟨n, Nat.lt_of_succ_lt hn⟩) (start_eq c n (Nat.lt_of_succ_lt hn))
      have e1 : (outsAt0 m c ((⟨n + 1, hn⟩ : Fin cfg0.N).val - 1) (by have := hn; omega)).2 = stateAll (stP (readsAt m c ⟨n, Nat.lt_of_succ_lt hn⟩)) :=
        congrArg Prod.snd (outs_eq m c ⟨n, Nat.lt_of_succ_lt hn⟩)
      rw [e1]
      refine (congrArg (stateAll (stP (readsAt m c ⟨n, Nat.lt_of_succ_lt hn⟩))) (box_idx3 h.val 0 0 (inb_st h) (0 : Fin 1) d e (by omega) (by omega) (by omega))).trans ?_
      have e2 : stP (readsAt m c ⟨n, Nat.lt_of_succ_lt hn⟩) h (ix3 0 d e) = stV (readsAt m c ⟨n, Nat.lt_of_succ_lt hn⟩) h 4 (ix2 d e) := by
        unfold stP
        pointwise
      have e3 : stateAll (stP (readsAt m c ⟨n, Nat.lt_of_succ_lt hn⟩)) (ix3 (⟨h.val + 0, by omega⟩ : Fin 4) (⟨0 + d.val, by omega⟩ : Fin 64) (⟨0 + e.val, by omega⟩ : Fin 128)) = stP (readsAt m c ⟨n, Nat.lt_of_succ_lt hn⟩) h (ix3 0 d e) := by
        show stP _ _ (ix3 0 _ _) = _
        exact congrArg₂ (fun x y => stP (readsAt m c ⟨n, Nat.lt_of_succ_lt hn⟩) h (ix3 0 x y)) (Fin.ext (Nat.zero_add _)) (Fin.ext (Nat.zero_add _))
      refine e3.trans (e2.trans ((ih.state h d e 4 (le_refl _)).trans ?_))
      have hb : bat ⟨n, Nat.lt_of_succ_lt hn⟩ = bat ⟨n + 1, hn⟩ := Fin.ext (by show n / 16 = (n + 1) / 16; omega)
      rw [hb, show 4 * ((⟨n, Nat.lt_of_succ_lt hn⟩ : Fin cfg0.N).val % 16) + 4 = 4 * ((n + 1) % 16) by dsimp only; omega]

/-! ### The array after the run -/

/-- A point's block out, at an index. -/
theorem out_at (c : Dev nD) (t : Fin cfg0.N) (r : Fin 512) (l : Fin 512) :
    outAll (outP (readsAt m c t) (iblk m c 2 t)) (ix3 0 r l) = mixedAt (arg m c) (bat t) (tokOf t r) (⟨l.val / 128, by omega⟩ : Fin 4) (⟨l.val % 128, Nat.mod_lt _ (by decide)⟩ : Fin 128) := by
  show outP _ _ (⟨l.val / 128, by omega⟩ : Fin 4) (ix3 0 r (⟨l.val % 128, Nat.mod_lt _ (by decide)⟩ : Fin 128)) = _
  generalize hh : (⟨l.val / 128, by omega⟩ : Fin 4) = h
  generalize he : (⟨l.val % 128, Nat.mod_lt _ (by decide)⟩ : Fin 128) = e
  unfold outP
  rw [gateV_apply]
  unfold mixedAt
  have hg : View.ld (Val := Elt Ideal) (iblk m c 2 t : Vec Ideal S1x512x512 .f32) (Rect.unit (s := S1x512x512) ![0, 0, 128 * h.val] S1x512x128.size (inb_out h)) (ix3 0 r e)
      = arg m c (ix3 (bat t) (tokOf t r) (⟨1024 + (128 * h.val + e.val), by omega⟩ : Fin 1536)) := by
    refine (congrArg (iblk m c 2 t : Vec Ideal S1x512x512 .f32) (box_idx3 0 0 (128 * h.val) (inb_out h) (0 : Fin 1) r e (by decide) (by omega) (by omega))).trans ?_
    refine (blk_2 m c t _ _).trans ?_
    rw [V_main_arg0]
    exact congrArg (fun z => arg m c (ix3 (bat t) (tokOf t z) (⟨1024 + (128 * h.val + e.val), by omega⟩ : Fin 1536))) (Fin.ext (Nat.zero_add _))
  rw [hg]
  refine congrArg (fun f => _ * normRow f e) (funext fun k => ?_)
  refine (congrArg (rowsAll (rowsP (readsAt m c t))) (box_idx 0 (128 * h.val) (inb_rows h) r k (by omega) (by omega))).trans ?_
  have H := reads_of m c t (startSt m c t) (start_eq m c t.val t.isLt)
  have e1 : ∀ (h j : Fin 4) (i e : Fin 128), rowsP (readsAt m c t) h j (ix2 i e) = rowsOf (readsAt m c t) h j (ix2 i e) := fun h j i e => by
    unfold rowsP
    pointwise
  refine (e1 _ _ _ _).trans ((H.row _ _ _ _).trans ?_)
  have a1 : (⟨(128 * h.val + k.val) / 128, by omega⟩ : Fin 4) = h := Fin.ext (by dsimp only; omega)
  have a2 : 4 * (t.val % 16) + (0 + r.val) / 128 = (tokOf t r).val / 128 := by show _ = (512 * (t.val % 16) + r.val) / 128; omega
  have a3 : (⟨(0 + r.val) % 128, Nat.mod_lt _ (by decide)⟩ : Fin 128) = ⟨(tokOf t r).val % 128, Nat.mod_lt _ (by decide)⟩ := Fin.ext (by show (0 + r.val) % 128 = (512 * (t.val % 16) + r.val) % 128; omega)
  have a4 : (⟨(128 * h.val + k.val) % 128, Nat.mod_lt _ (by decide)⟩ : Fin 128) = k := Fin.ext (by dsimp only; omega)
  show rowAt (arg m c) (bat t) (4 * (t.val % 16) + (0 + r.val) / 128) (⟨(128 * h.val + k.val) / 128, _⟩ : Fin 4) (⟨(0 + r.val) % 128, _⟩ : Fin 128) (⟨(128 * h.val + k.val) % 128, _⟩ : Fin 128) = _
  rw [a1, a2, a3, a4]

/-- The mixer's result. -/
theorem final_mixed (c : Dev nD) : (dats m 0 c).arrAt 9 (cfgs 0).N = mixed (m ((c : Thread nD τ).loc main_arg0)) := by
  refine (dats m 0 c).arrAt_eq_of_covers 9 _ (by decide +kernel) fun t _ y => ?_
  blk_simp
  rw [after0_9, outs_eq]
  obtain ⟨z, r, l, rfl⟩ : ∃ (z : Fin 1) (r : Fin 512) (l : Fin 512), y = ix3 z r l := ⟨y 0, y 1, y 2, eq_ix3 y⟩
  obtain rfl : z = 0 := Subsingleton.elim _ _
  have e : (win0_9.blk t).view.emb (ix3 0 r l) = ix3 (bat t) (tokOf t r) l := by
    unfold bat tokOf
    blk_ext [idx t]
  rw [e]
  exact out_at m c t r l

end Cert.RetentionIdeal.Mix

end
-- ==== Proof.RetentionEntry.lean ====
/- The retention reference over the extended reals: what the operations before its loop make of the argument array. -/
module

public import proofs.«01_k».proof.Proof.Mixer
public import proofs.«01_k».proof.Proof.Gen.RetentionReferenceIdeal.Run
public import Idealize.ShloMosaic.Lib.Pointwise
public import Idealize.ShloMosaic.Lib.Tactic.CleanTypes
public import Idealize.ShloMosaic.Lib.Pipeline.ValueKit

@[expose] public section

set_option maxRecDepth 16384

noncomputable section

namespace Cert.RetentionReferenceIdeal.Mix

open Cert.RetentionReferenceIdeal.Gen Cert.RetentionReferenceIdeal.Value Cert.Layer
open Idealize.ShloMosaic Idealize.ShloMosaic.TcCoe Idealize.ShloMosaic.StableHlo Idealize.ShloMosaic.Tactic

variable (V0 : Valuation τ sig (Elt Ideal))

/-- The contents before the products, of the contents at the start. -/
abbrev mid : Valuation τ sig (Elt Ideal) := after (hostOps0_1 (F := Ideal)) (after (hostOps0 (F := Ideal)) V0)

/-- The argument array. -/
abbrev arr : Vec Ideal S2x8192x1536 .f32 := V0 (Proc.devRef .tc main_arg0)

/-- Entries of the argument array at equal numbers. -/
theorem at_eq (X : Vec Ideal S2x8192x1536 .f32) (b : Fin 2) {s s' : Fin 8192} {l l' : Fin 1536} (hs : s.val = s'.val) (hl : l.val = l'.val) : X (ix3 b s l) = X (ix3 b s' l') := by
  obtain rfl := Fin.ext hs
  obtain rfl := Fin.ext hl
  rfl

/-- The number of a token of a chunk. -/
theorem tok_val (n : Fin 64) (i : Fin 128) : n.val * 128 + i.val = (tok n.val i).val := by
  show _ = (128 * n.val + i.val) % 8192
  omega

/-- The cosine and the sine of a token's angle, at equal numbers. -/
theorem cos_eq {s s' d d' : ℕ} (hs : s = s') (hd : d = d') :
    Ideal.cos (FloatOps.sitofp (F := Ideal) FTy.f32 (BitVec.ofNat 32 s) * Ideal.div 1 (Ideal.pow (Ideal.ofBits FTy.f32 0x461C4000#32) (Ideal.div (FloatOps.sitofp (F := Ideal) FTy.f32 (BitVec.ofNat 32 d)) (Ideal.ofBits FTy.f32 0x42000000#32)))) = Ideal.cos (angle s' d') := by
  subst hs hd
  rfl

theorem sin_eq {s s' d d' : ℕ} (hs : s = s') (hd : d = d') :
    Ideal.sin (FloatOps.sitofp (F := Ideal) FTy.f32 (BitVec.ofNat 32 s) * Ideal.div 1 (Ideal.pow (Ideal.ofBits FTy.f32 0x461C4000#32) (Ideal.div (FloatOps.sitofp (F := Ideal) FTy.f32 (BitVec.ofNat 32 d)) (Ideal.ofBits FTy.f32 0x42000000#32)))) = Ideal.sin (angle s' d') := by
  subst hs hd
  rfl

/-- The queries, -/
theorem m_qry (n : Fin 64) (b : Fin 2) (h : Fin 4) (i : Fin 128) (d : Fin 64) : (mid V0 (Proc.devRef .tc main_v74) : Vec Ideal S64x2x4x128x64 .f32) (ix5 n b h i d) = qryAt (arr V0) b (tok n.val i) h d := by
  simp only [mid, hostOps0, hostOps0_1]
  after_results_simp
  pointwise
  after_results_simp
  pointwise
  unfold qryAt turn
  by_cases hd : d.val < 32
  · simp only [hd, dite_true, if_true]
    congr 2
    · exact at_eq _ b (tok_val n i) (by simp only [lane]; omega)
    · exact cos_eq (tok_val n i) (by omega)
    · exact at_eq _ b (tok_val n i) (by simp only [lane]; omega)
    · exact sin_eq (tok_val n i) (by omega)
  · simp only [hd, dite_false, if_false]
    congr 2
    · exact at_eq _ b (tok_val n i) (by simp only [lane]; omega)
    · exact sin_eq (tok_val n i) (by omega)
    · exact at_eq _ b (tok_val n i) (by simp only [lane]; omega)
    · exact cos_eq (tok_val n i) (by omega)

/-- the keys, -/
theorem m_key (n : Fin 64) (b : Fin 2) (h : Fin 4) (i : Fin 128) (d : Fin 64) : (mid V0 (Proc.devRef .tc main_v76) : Vec Ideal S64x2x4x128x64 .f32) (ix5 n b h i d) = keyAt (arr V0) b (tok n.val i) h d := by
  simp only [mid, hostOps0, hostOps0_1]
  after_results_simp
  pointwise
  after_results_simp
  pointwise
  unfold keyAt turn
  refine congrArg (fun z : EReal => z * Ideal.ofBits .f32 0x3E000000#32) ?_
  by_cases hd : d.val < 32
  · simp only [hd, dite_true, if_true]
    congr 2
    · exact at_eq _ b (tok_val n i) (by simp only [lane]; omega)
    · exact cos_eq (tok_val n i) (by omega)
    · exact at_eq _ b (tok_val n i) (by simp only [lane]; omega)
    · exact sin_eq (tok_val n i) (by omega)
  · simp only [hd, dite_false, if_false]
    congr 2
    · exact at_eq _ b (tok_val n i) (by simp only [lane]; omega)
    · exact sin_eq (tok_val n i) (by omega)
    · exact at_eq _ b (tok_val n i) (by simp only [lane]; omega)
    · exact cos_eq (tok_val n i) (by omega)

/-- and the values. -/
theorem m_val (n : Fin 64) (b : Fin 2) (h : Fin 4) (i e : Fin 128) : (mid V0 (Proc.devRef .tc main_v78) : Vec Ideal S64x2x4x128x128 .f32) (ix5 n b h i e) = valAt (arr V0) b (tok n.val i) h e := by
  simp only [mid, hostOps0, hostOps0_1]
  after_results_simp
  pointwise
  unfold valAt
  exact at_eq _ b (tok_val n i) (by dsimp only; omega)

/-- The logarithms of the decays, -/
theorem m_log (h : Fin 4) : (mid V0 (Proc.devRef .tc main_v87) : Vec Ideal S4 .f32) (ix1 h) = logDecay h := by
  simp only [mid, hostOps0, hostOps0_1]
  after_results_simp
  pointwise
  rfl

/-- the numbers of the tokens, -/
theorem m_num (i : Fin 128) : (mid V0 (Proc.devRef .tc main_v88) : Vec Ideal S128 .f32) (ix1 i) = num i.val := by
  simp only [mid, hostOps0, hostOps0_1]
  after_results_simp
  pointwise
  rfl

/-- and the decays inside a chunk. -/
theorem m_dec (h : Fin 4) (i k : Fin 128) : (mid V0 (Proc.devRef .tc main_v104) : Vec Ideal S4x128x128 .f32) (ix3 h i k) = decay h i k := by
  simp only [mid, hostOps0, hostOps0_1]
  after_results_simp
  simp only [TRef.toBuf, TRef.ofBuf, TRef.of, cast_eq, id_eq]
  pointwise
  rfl

/-! ### The loop's entry -/

/-- What the products start from. -/
structure Pre (X : Vec Ideal S2x8192x1536 .f32) (W : Valuation τ sig (Elt Ideal)) : Prop where
  qry : ∀ (n : Fin 64) (b : Fin 2) (h : Fin 4) (i : Fin 128) (d : Fin 64), (W (Proc.devRef .tc main_v74) : Vec Ideal S64x2x4x128x64 .f32) (ix5 n b h i d) = qryAt X b (tok n.val i) h d
  key : ∀ (n : Fin 64) (b : Fin 2) (h : Fin 4) (i : Fin 128) (d : Fin 64), (W (Proc.devRef .tc main_v76) : Vec Ideal S64x2x4x128x64 .f32) (ix5 n b h i d) = keyAt X b (tok n.val i) h d
  val : ∀ (n : Fin 64) (b : Fin 2) (h : Fin 4) (i e : Fin 128), (W (Proc.devRef .tc main_v78) : Vec Ideal S64x2x4x128x128 .f32) (ix5 n b h i e) = valAt X b (tok n.val i) h e
  log : ∀ h : Fin 4, (W (Proc.devRef .tc main_v87) : Vec Ideal S4 .f32) (ix1 h) = logDecay h
  num : ∀ i : Fin 128, (W (Proc.devRef .tc main_v88) : Vec Ideal S128 .f32) (ix1 i) = Cert.Layer.num i.val
  dec : ∀ (h : Fin 4) (i k : Fin 128), (W (Proc.devRef .tc main_v104) : Vec Ideal S4x128x128 .f32) (ix3 h i k) = decay h i k

theorem pre_mid : Pre (arr V0) (mid V0) := ⟨m_qry V0, m_key V0, m_val V0, m_log V0, m_num V0, m_dec V0⟩

section
variable {X : Vec Ideal S2x8192x1536 .f32} {W : Valuation τ sig (Elt Ideal)} (P : Pre X W)
include P

theorem Pre.qry' (n : Fin 64) (b : Fin 2) (h : Fin 4) (i : Fin 128) (d : Fin 64) : (after (hostOps0_2 (F := Ideal)) W (Proc.devRef .tc main_v138_0) : Vec Ideal S64x2x4x128x64 .f32) (ix5 n b h i d) = qryAt X b (tok n.val i) h d := by
  simp only [hostOps0_2]
  after_results_simp
  exact P.qry n b h i d

theorem Pre.added (n : Fin 64) (b : Fin 2) (h : Fin 4) (d : Fin 64) (e : Fin 128) : (after (hostOps0_2 (F := Ideal)) W (Proc.devRef .tc main_v138_1) : Vec Ideal S64x2x4x64x128 .f32) (ix5 n b h d e) = addedAt X b n.val h d e := by
  simp only [hostOps0_2]
  after_results_simp
  simp only [id_eq]
  pointwise
  simp only [P.key, P.val, P.log, P.num]
  rfl

theorem Pre.inner (n : Fin 64) (b : Fin 2) (h : Fin 4) (i e : Fin 128) : (after (hostOps0_2 (F := Ideal)) W (Proc.devRef .tc main_v138_2) : Vec Ideal S64x2x4x128x128 .f32) (ix5 n b h i e) = innerAt X b n.val h i e := by
  simp only [hostOps0_2]
  after_results_simp
  simp only [id_eq]
  pointwise
  simp only [P.qry, P.key, P.val, P.dec]
  rfl

theorem Pre.xi (h : Fin 4) (i : Fin 128) : (after (hostOps0_2 (F := Ideal)) W (Proc.devRef .tc main_v138_3) : Vec Ideal S4x128x1 .f32) (ix3 h i 0) = decayIn h i := by
  simp only [hostOps0_2]
  after_results_simp
  simp only [id_eq]
  pointwise
  simp only [P.log, P.num]
  rfl

theorem Pre.gam (h : Fin 4) : (after (hostOps0_2 (F := Ideal)) W (Proc.devRef .tc main_v138_4) : Vec Ideal S4x1x1 .f32) (ix3 h 0 0) = decayAll h := by
  simp only [hostOps0_2]
  after_results_simp
  simp only [id_eq]
  pointwise
  simp only [P.log]
  rfl

theorem Pre.ctr : (after (hostOps0_2 (F := Ideal)) W (Proc.devRef .tc main_v138_5) : IVec S_ 32) = fun _ => BitVec.ofNat 32 0 := by
  simp only [hostOps0_2]
  after_results_simp
  rfl

theorem Pre.zero (b : Fin 2) (h : Fin 4) (d : Fin 64) (e : Fin 128) : (after (hostOps0_2 (F := Ideal)) W (Proc.devRef .tc main_v138_6) : Vec Ideal S2x4x64x128 .f32) (ix4 b h d e) = (0 : EReal) := by
  simp only [hostOps0_2]
  after_results_simp
  simp only [id_eq]
  pointwise

end

end Cert.RetentionReferenceIdeal.Mix

end
-- ==== Proof.RetentionLoop.lean ====
/- The retention reference over the extended reals: what its loop over the chunks makes, and its result. -/
module

public import proofs.«01_k».proof.Proof.RetentionEntry
public import Idealize.ShloMosaic.Lib.DynamicIndex
public import Idealize.ShloMosaic.Lib.WordCmp

@[expose] public section

set_option maxRecDepth 16384

noncomputable section

namespace Cert.RetentionReferenceIdeal.Mix

open Cert.RetentionReferenceIdeal.Gen Cert.RetentionReferenceIdeal.Value Cert.Layer
open Idealize.ShloMosaic Idealize.ShloMosaic.TcCoe Idealize.ShloMosaic.StableHlo Idealize.ShloMosaic.Tactic

/-! ### One chunk of a stack -/

/-- The start of chunk `k` of a stack. -/
abbrev startAt (k : Fin 64) : Fin 5 → ℕ := ![k.val, 0, 0, 0, 0]

theorem fits {p q : ℕ} (k : Fin 64) : (⟨5, ![64, 2, 4, p, q]⟩ : Shape).Slices (startAt k) ⟨5, ![1, 2, 4, p, q]⟩ :=
  ⟨rfl, fun a => match a with
    | ⟨0, _⟩ => (show k.val + 1 ≤ 64 by omega)
    | ⟨1, _⟩ => (show 0 + 2 ≤ 2 by omega)
    | ⟨2, _⟩ => (show 0 + 4 ≤ 4 by omega)
    | ⟨3, _⟩ => (show 0 + p ≤ p by omega)
    | ⟨4, _⟩ => (show 0 + q ≤ q by omega)⟩

/-- Chunk `k`, read from a stack. -/
theorem slice_at {p q : ℕ} (x : Vec Ideal ⟨5, ![64, 2, 4, p, q]⟩ .f32) (st : Fin 5 → Int) (k : Fin 64) (hst : ∀ a, st a = (startAt k a : Int)) (hs)
    (b : Fin 2) (h : Fin 4) (i : Fin p) (j : Fin q) :
    Host.dynamicSlice (s := ⟨5, ![64, 2, 4, p, q]⟩) ⟨5, ![1, 2, 4, p, q]⟩ x st hs (ix5 0 b h i j) = x (ix5 k b h i j) := by
  rw [Host.dynamicSlice_eq_extractStridedSlice _ x st (startAt k) hs (fits k) hst]
  refine congrArg x (funext fun a => ?_)
  match a with
  | ⟨0, _⟩ => exact Fin.ext (show k.val + 0 = k.val by omega)
  | ⟨1, _⟩ => exact Fin.ext (show 0 + b.val = b.val by omega)
  | ⟨2, _⟩ => exact Fin.ext (show 0 + h.val = h.val by omega)
  | ⟨3, _⟩ => exact Fin.ext (show 0 + i.val = i.val by omega)
  | ⟨4, _⟩ => exact Fin.ext (show 0 + j.val = j.val by omega)

/-- A stack with chunk `k` replaced: the new chunk there, -/
theorem update_at {p q : ℕ} (x : Vec Ideal ⟨5, ![64, 2, 4, p, q]⟩ .f32) (u : Vec Ideal ⟨5, ![1, 2, 4, p, q]⟩ .f32) (st : Fin 5 → Int) (k : Fin 64) (hst : ∀ a, st a = (startAt k a : Int)) (hs)
    (b : Fin 2) (h : Fin 4) (i : Fin p) (j : Fin q) :
    Host.dynamicUpdateSlice (s := ⟨5, ![64, 2, 4, p, q]⟩) x u st hs (ix5 k b h i j) = u (ix5 0 b h i j) := by
  rw [WordCmp.dynamicUpdateSlice_eq_update x u st hs (startAt k) (fits k) hst, updateSlice, dif_pos]
  · refine congrArg u (funext fun a => ?_)
    match a with
    | ⟨0, _⟩ => exact Subsingleton.elim (α := Fin 1) _ _
    | ⟨1, _⟩ => exact Fin.ext (show b.val - 0 = b.val by omega)
    | ⟨2, _⟩ => exact Fin.ext (show h.val - 0 = h.val by omega)
    | ⟨3, _⟩ => exact Fin.ext (show i.val - 0 = i.val by omega)
    | ⟨4, _⟩ => exact Fin.ext (show j.val - 0 = j.val by omega)
  · intro a
    match a with
    | ⟨0, _⟩ => exact (show k.val ≤ k.val ∧ k.val < k.val + 1 by omega)
    | ⟨1, _⟩ => exact (show 0 ≤ b.val ∧ b.val < 0 + 2 by omega)
    | ⟨2, _⟩ => exact (show 0 ≤ h.val ∧ h.val < 0 + 4 by omega)
    | ⟨3, _⟩ => exact (show 0 ≤ i.val ∧ i.val < 0 + p by omega)
    | ⟨4, _⟩ => exact (show 0 ≤ j.val ∧ j.val < 0 + q by omega)

/-- the old ones elsewhere. -/
theorem update_ne {p q : ℕ} (x : Vec Ideal ⟨5, ![64, 2, 4, p, q]⟩ .f32) (u : Vec Ideal ⟨5, ![1, 2, 4, p, q]⟩ .f32) (st : Fin 5 → Int) (k : Fin 64) (hst : ∀ a, st a = (startAt k a : Int)) (hs)
    (n : Fin 64) (hn : n ≠ k) (b : Fin 2) (h : Fin 4) (i : Fin p) (j : Fin q) :
    Host.dynamicUpdateSlice (s := ⟨5, ![64, 2, 4, p, q]⟩) x u st hs (ix5 n b h i j) = x (ix5 n b h i j) := by
  rw [WordCmp.dynamicUpdateSlice_eq_update x u st hs (startAt k) (fits k) hst, updateSlice, dif_neg]
  intro hall
  have h1 : k.val ≤ n.val ∧ n.val < k.val + 1 := hall 0
  exact hn (Fin.ext (by omega))

/-! ### The loop -/

/-- What the carried buffers hold before trip `k`. -/
structure Inv (X : Vec Ideal S2x8192x1536 .f32) (k : ℕ) (W : Valuation τ sig (Elt Ideal)) : Prop where
  qry : ∀ (n : Fin 64) (b : Fin 2) (h : Fin 4) (i : Fin 128) (d : Fin 64), (W (Proc.devRef .tc main_v138_0) : Vec Ideal S64x2x4x128x64 .f32) (ix5 n b h i d) = qryAt X b (tok n.val i) h d
  added : ∀ (n : Fin 64) (b : Fin 2) (h : Fin 4) (d : Fin 64) (e : Fin 128), (W (Proc.devRef .tc main_v138_1) : Vec Ideal S64x2x4x64x128 .f32) (ix5 n b h d e) = addedAt X b n.val h d e
  inner : ∀ (n : Fin 64) (b : Fin 2) (h : Fin 4) (i e : Fin 128), (W (Proc.devRef .tc main_v138_2) : Vec Ideal S64x2x4x128x128 .f32) (ix5 n b h i e) = innerAt X b n.val h i e
  xi : ∀ (h : Fin 4) (i : Fin 128), (W (Proc.devRef .tc main_v138_3) : Vec Ideal S4x128x1 .f32) (ix3 h i 0) = decayIn h i
  gam : ∀ h : Fin 4, (W (Proc.devRef .tc main_v138_4) : Vec Ideal S4x1x1 .f32) (ix3 h 0 0) = decayAll h
  ctr : (W (Proc.devRef .tc main_v138_5) : IVec S_ 32) = fun _ => BitVec.ofNat 32 k
  state : ∀ (b : Fin 2) (h : Fin 4) (d : Fin 64) (e : Fin 128), (W (Proc.devRef .tc main_v138_6) : Vec Ideal S2x4x64x128 .f32) (ix4 b h d e) = stateAt X b h k d e
  rows : ∀ (n : Fin 64) (b : Fin 2) (h : Fin 4) (i e : Fin 128), n.val < k → (W (Proc.devRef .tc main_v138_7) : Vec Ideal S64x2x4x128x128 .f32) (ix5 n b h i e) = rowAt X b n.val h i e

section
variable {X : Vec Ideal S2x8192x1536 .f32} {W : Valuation τ sig (Elt Ideal)} {k : Fin 64} (I : Inv X k.val W)
include I

/-- The start the loop reads and writes at. -/
theorem Inv.start (a : Fin 5) : (((![W (Proc.devRef .tc main_v138_5), constantI S_ 32 0#32, constantI S_ 32 0#32, constantI S_ 32 0#32, constantI S_ 32 0#32] : Fin 5 → (⟨S_, .i32⟩ : BufTy).Contents (Elt Ideal))) a (Shape.Idx.first h_S_)).toInt = (startAt k a : Int) := by
  match a with
  | ⟨0, _⟩ =>
    show BitVec.toInt ((W (Proc.devRef .tc main_v138_5) : IVec S_ 32) (Shape.Idx.first h_S_)) = (k.val : Int)
    rw [I.ctr]
    exact toInt_ofNat_of_lt (by omega)
  | ⟨1, _⟩ => rfl
  | ⟨2, _⟩ => rfl
  | ⟨3, _⟩ => rfl
  | ⟨4, _⟩ => rfl

theorem Inv.state' (b : Fin 2) (h : Fin 4) (d : Fin 64) (e : Fin 128) : (step_main_v138_6 W : Vec Ideal S2x4x64x128 .f32) (ix4 b h d e) = stateAt X b h (k.val + 1) d e := by
  have hs := slice_at (W (Proc.devRef .tc main_v138_1) : Vec Ideal S64x2x4x64x128 .f32) _ k I.start sliceFits_S64x2x4x64x128_S1x2x4x64x128 b h d e
  unfold step_main_v138_6
  revert hs
  generalize Host.dynamicSlice S1x2x4x64x128 (W (Proc.devRef .tc main_v138_1) : Vec Ideal S64x2x4x64x128 .f32) _ sliceFits_S64x2x4x64x128_S1x2x4x64x128 = D
  intro hs
  simp only [id_eq]
  pointwise
  rw [hs, I.gam, I.state, I.added]
  rfl

theorem Inv.row' (b : Fin 2) (h : Fin 4) (i e : Fin 128) : (step_main_v138_7 W : Vec Ideal S64x2x4x128x128 .f32) (ix5 k b h i e) = rowAt X b k.val h i e := by
  have h1 := slice_at (W (Proc.devRef .tc main_v138_2) : Vec Ideal S64x2x4x128x128 .f32) _ k I.start sliceFits_S64x2x4x128x128_S1x2x4x128x128 b h i e
  have h2 := fun d : Fin 64 => slice_at (W (Proc.devRef .tc main_v138_0) : Vec Ideal S64x2x4x128x64 .f32) _ k I.start sliceFits_S64x2x4x128x64_S1x2x4x128x64 b h i d
  unfold step_main_v138_7
  simp only [id_eq]
  refine (update_at _ _ _ k I.start _ b h i e).trans ?_
  revert h1 h2
  generalize Host.dynamicSlice S1x2x4x128x128 (W (Proc.devRef .tc main_v138_2) : Vec Ideal S64x2x4x128x128 .f32) _ sliceFits_S64x2x4x128x128_S1x2x4x128x128 = D1
  generalize Host.dynamicSlice S1x2x4x128x64 (W (Proc.devRef .tc main_v138_0) : Vec Ideal S64x2x4x128x64 .f32) _ sliceFits_S64x2x4x128x64_S1x2x4x128x64 = D2
  intro h1 h2
  pointwise
  simp only [h1, h2, I.inner, I.qry, I.state, I.xi]
  rfl

theorem Inv.row_ne (n : Fin 64) (hn : n ≠ k) (b : Fin 2) (h : Fin 4) (i e : Fin 128) : (step_main_v138_7 W : Vec Ideal S64x2x4x128x128 .f32) (ix5 n b h i e) = (W (Proc.devRef .tc main_v138_7) : Vec Ideal S64x2x4x128x128 .f32) (ix5 n b h i e) := by
  unfold step_main_v138_7
  exact update_ne _ _ _ k I.start _ n hn b h i e

theorem Inv.ctr' : (step_main_v138_5 W : IVec S_ 32) = fun _ => BitVec.ofNat 32 (k.val + 1) := by
  unfold step_main_v138_5
  funext y
  refine (congrArg (fun v : IVec S_ 32 => v y + 1#32) I.ctr).trans ?_
  exact (BitVec.ofNat_add (n := 32) k.val 1).symm

/-- One trip. -/
theorem Inv.step : Inv X (k.val + 1) (STEP W) where
  qry n b h i d := by rw [STEP_main_v138_0]; exact I.qry n b h i d
  added n b h d e := by rw [STEP_main_v138_1]; exact I.added n b h d e
  inner n b h i e := by rw [STEP_main_v138_2]; exact I.inner n b h i e
  xi h i := by rw [STEP_main_v138_3]; exact I.xi h i
  gam h := by rw [STEP_main_v138_4]; exact I.gam h
  ctr := by rw [STEP_main_v138_5]; exact I.ctr'
  state b h d e := by rw [STEP_main_v138_6]; exact I.state' b h d e
  rows n b h i e hn := by
    rw [STEP_main_v138_7]
    by_cases hk : n = k
    · subst hk
      exact I.row' b h i e
    · exact (I.row_ne n hk b h i e).trans (I.rows n b h i e (by have : n.val ≠ k.val := fun q => hk (Fin.ext q); omega))

end

/-- What the loop starts from. -/
theorem inv_zero {X : Vec Ideal S2x8192x1536 .f32} {W : Valuation τ sig (Elt Ideal)} (P : Pre X W) : Inv X 0 (after (hostOps0_2 (F := Ideal)) W) where
  qry := P.qry'
  added := P.added
  inner := P.inner
  xi := P.xi
  gam := P.gam
  ctr := P.ctr
  state := P.zero
  rows n b h i e hn := absurd hn (Nat.not_lt_zero _)

/-- Every trip. -/
theorem inv_iter {X : Vec Ideal S2x8192x1536 .f32} {W : Valuation τ sig (Elt Ideal)} (I : Inv X 0 W) : ∀ k : ℕ, k ≤ 64 → Inv X k (STEP^[k] W)
  | 0, _ => I
  | k + 1, hk => by
    rw [Function.iterate_succ_apply']
    exact Inv.step (k := ⟨k, by omega⟩) (inv_iter I k (by omega))

/-! ### The result -/

/-- The reference's result at an index. -/
theorem out_apply {X : Vec Ideal S2x8192x1536 .f32} {W : Valuation τ sig (Elt Ideal)} (I : Inv X 64 W) (hX : (W (Proc.devRef .tc main_arg0) : Vec Ideal S2x8192x1536 .f32) = X) (b : Fin 2) (s : Fin 8192) (l : Fin 512) :
    (out_main_v162 W : Vec Ideal S2x8192x512 .bf16) (ix3 b s l) = mixedAt X b s (⟨l.val / 128, by omega⟩ : Fin 4) (⟨l.val % 128, Nat.mod_lt _ (by decide)⟩ : Fin 128) := by
  have hrow : ∀ e : Fin 128, (W (Proc.devRef .tc main_v138_7) : Vec Ideal S64x2x4x128x128 .f32) (ix5 (⟨s.val / 128, by omega⟩ : Fin 64) b (⟨l.val / 128, by omega⟩ : Fin 4) (⟨s.val % 128, Nat.mod_lt _ (by decide)⟩ : Fin 128) e)
      = rowAt X b (s.val / 128) (⟨l.val / 128, by omega⟩ : Fin 4) (⟨s.val % 128, Nat.mod_lt _ (by decide)⟩ : Fin 128) e := fun e =>
    I.rows (⟨s.val / 128, by omega⟩ : Fin 64) b _ _ e (show s.val / 128 < 64 by omega)
  have hl : (⟨1024 + (128 * (l.val / 128) + l.val % 128), by omega⟩ : Fin 1536) = ⟨1024 + l.val, by omega⟩ := Fin.ext (show 1024 + (128 * (l.val / 128) + l.val % 128) = 1024 + l.val by omega)
  unfold out_main_v162
  pointwise
  simp only [hrow, hX]
  rw [mixedAt]
  simp only [hl]
  rfl

/-- The reference's result. -/
theorem out_mixed (m : (ℓ : Loc nD τ sig) → Buf (Elt Ideal) ℓ) (c : Dev nD) :
    out_main_v162 (STEP^[64] (entryContents preI m c)) = mixed (m ((c.tc : Thread nD τ).loc main_arg0)) := by
  have I0 : Inv (m ((c.tc : Thread nD τ).loc main_arg0)) 0 (entryContents preI m c) := by
    simp only [entryContents, afterL_cons, afterL_nil]
    exact inv_zero (pre_mid (launchContents m c))
  funext y
  obtain ⟨b, s, l, rfl⟩ : ∃ (b : Fin 2) (s : Fin 8192) (l : Fin 512), y = ix3 b s l := ⟨y 0, y 1, y 2, (ix3_eta y).symm⟩
  exact out_apply (inv_iter I0 64 le_rfl) (iter_main_arg0 m c 64) b s l

end Cert.RetentionReferenceIdeal.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.ProjectIdeal.Value
public import proofs.«01_k».proof.Proof.Gen.Memory
public import proofs.«01_k».proof.Proof.Gen.Memory.Skeleton
public import proofs.«01_k».proof.Proof.Gen.Memory.Launch
public import proofs.«01_k».proof.Proof.Gen.Memory.Points
public import proofs.«01_k».proof.Proof.Gen.Memory.Frame
public import proofs.«01_k».proof.Proof.Gen.MemoryIdeal
public import proofs.«01_k».proof.Proof.Gen.MemoryIdeal.Skeleton
public import proofs.«01_k».proof.Proof.Gen.MemoryIdeal.Launch
public import proofs.«01_k».proof.Proof.Gen.MemoryIdeal.Points
public import proofs.«01_k».proof.Proof.Gen.MemoryIdeal.Frame
public import proofs.«01_k».proof.Proof.Gen.MemoryIdeal.Value
public import proofs.«01_k».proof.Proof.Gen.ProjectReferenceIdeal
public import proofs.«01_k».proof.Proof.Gen.ProjectReferenceIdeal.Run
public import proofs.«01_k».proof.Proof.Gen.MemoryReferenceIdeal
public import proofs.«01_k».proof.Proof.Gen.MemoryReferenceIdeal.Run
public import proofs.«01_k».proof.Proof.Gen.Retention
public import proofs.«01_k».proof.Proof.Gen.Retention.Skeleton
public import proofs.«01_k».proof.Proof.Gen.Retention.Launch
public import proofs.«01_k».proof.Proof.Gen.Retention.Points
public import proofs.«01_k».proof.Proof.Gen.Retention.Frame
public import proofs.«01_k».proof.Proof.Gen.RetentionIdeal
public import proofs.«01_k».proof.Proof.Gen.RetentionIdeal.Skeleton
public import proofs.«01_k».proof.Proof.Gen.RetentionIdeal.Launch
public import proofs.«01_k».proof.Proof.Gen.RetentionIdeal.Points
public import proofs.«01_k».proof.Proof.Gen.RetentionIdeal.Frame
public import proofs.«01_k».proof.Proof.Gen.RetentionIdeal.Value
public import proofs.«01_k».proof.Proof.Gen.RetentionReferenceIdeal
public import proofs.«01_k».proof.Proof.Gen.RetentionReferenceIdeal.Run
public import proofs.«01_k».proof.Proof.FrameIdeal
public import proofs.«01_k».proof.Proof.FrameBits
public import proofs.«01_k».proof.Proof.Value
public import proofs.«01_k».proof.Proof.RefValue
public import proofs.«01_k».proof.Proof.ProjectValue
public import proofs.«01_k».proof.Proof.MemoryValue
public import proofs.«01_k».proof.Proof.RetentionValue
public import proofs.«01_k».proof.Proof.RetentionLoop
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference ends with its arguments unchanged and every counter at zero. -/
theorem frame_reference (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0) :=
  (θ_run Cert.ReferenceIdeal.defs _ _).mono (fun r h => ⟨fun c => (h c).2.2.2, Idealize.ShloMosaic.sem_eq_zero_of_no_sems (by decide) r.2⟩) (Cert.ReferenceIdeal.Value.run (F := Ideal) m ρ)

/-- The kernel over the extended reals ends with the layer's rows, tiles and logits of its arguments. -/
theorem run_kernel (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v23_0) = Cert.Layer.rows (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))
      ∧ r.2.mem ((c.tc : Thread Cert.KernelIdeal.nD Cert.KernelIdeal.τ).loc Cert.KernelIdeal.main_v23_1) = Cert.Layer.tiles (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10))
      ∧ r.2.mem ((c.tc : Thread Cert.KernelIdeal.nD Cert.KernelIdeal.τ).loc Cert.KernelIdeal.main_v23_2) = Cert.Layer.logits (m ((c : Thread Cert.KernelIdeal.nD Cert.KernelIdeal.τ).loc Cert.KernelIdeal.main_arg0)) (m ((c : Thread Cert.KernelIdeal.nD Cert.KernelIdeal.τ).loc Cert.KernelIdeal.main_arg1)) (m ((c : Thread Cert.KernelIdeal.nD Cert.KernelIdeal.τ).loc Cert.KernelIdeal.main_arg2)) (m ((c : Thread Cert.KernelIdeal.nD Cert.KernelIdeal.τ).loc Cert.KernelIdeal.main_arg3)) (m ((c : Thread Cert.KernelIdeal.nD Cert.KernelIdeal.τ).loc Cert.KernelIdeal.main_arg4)) (m ((c : Thread Cert.KernelIdeal.nD Cert.KernelIdeal.τ).loc Cert.KernelIdeal.main_arg5)) (m ((c : Thread Cert.KernelIdeal.nD Cert.KernelIdeal.τ).loc Cert.KernelIdeal.main_arg6)) (m ((c : Thread Cert.KernelIdeal.nD Cert.KernelIdeal.τ).loc Cert.KernelIdeal.main_arg7)) (m ((c : Thread Cert.KernelIdeal.nD Cert.KernelIdeal.τ).loc Cert.KernelIdeal.main_arg8)) (m ((c : Thread Cert.KernelIdeal.nD Cert.KernelIdeal.τ).loc Cert.KernelIdeal.main_arg9)) (m ((c : Thread Cert.KernelIdeal.nD Cert.KernelIdeal.τ).loc Cert.KernelIdeal.main_arg10)) (m ((c : Thread Cert.KernelIdeal.nD Cert.KernelIdeal.τ).loc Cert.KernelIdeal.main_arg11)) (m ((c : Thread Cert.KernelIdeal.nD Cert.KernelIdeal.τ).loc Cert.KernelIdeal.main_arg12))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run Cert.KernelIdeal.defs _ _).mono (fun r h c => ⟨((h.1 c).1 13).trans (Cert.KernelIdeal.Xattn.final_rows m c), ((h.1 c).1 14).trans (Cert.KernelIdeal.Xattn.final_tiles m c),
      ((h.1 c).1 15).trans (Cert.KernelIdeal.Xattn.final_logits m c), h.2.1 c⟩)
    (θ_run_and (Cert.KernelIdeal.Xattn.run_main m ρ) (Cert.KernelIdeal.Xattn.frame_xattn m ρ))

/-- The kernel and the reference over the extended reals end with the same three arrays. -/
theorem algebraic : Cert.algebraic_KernelIdeal_ReferenceIdeal := by
  intro m ρ m' ρ' _ hagree
  refine ⟨_, _, _, run_kernel m ρ, ?_⟩
  refine (θ_run Cert.ReferenceIdeal.defs _ _).mono (fun _ h c => ?_) (Cert.ReferenceIdeal.Value.run (F := Ideal) m' ρ')
  obtain ⟨e0, e1, e2, e3, e4, e5, e6, e7, e8, e9, e10, e11, e12⟩ := hagree c
  refine ⟨(h c).1.trans ?_, (h c).2.1.trans ?_, (h c).2.2.1.trans ?_, (h c).2.2.2⟩
  · refine (Cert.ReferenceIdeal.Xattn.rows_eq (StableHlo.launchContents m' c)).trans ?_
    rw [← e0, ← e1, ← e2, ← e3, ← e4, ← e5, ← e6, ← e7, ← e8, ← e9, ← e10]
  · refine (Cert.ReferenceIdeal.Xattn.tiles_eq (StableHlo.launchContents m' c)).trans ?_
    rw [← e0, ← e1, ← e2, ← e3, ← e4, ← e5, ← e6, ← e7, ← e8, ← e9, ← e10]
  · refine (Cert.ReferenceIdeal.Xattn.logits_eq (StableHlo.launchContents m' c)).trans ?_
    rw [← e0, ← e1, ← e2, ← e3, ← e4, ← e5, ← e6, ← e7, ← e8, ← e9, ← e10, ← e11, ← e12]

/-- The input projection's reference ends with its arguments unchanged and every counter at zero. -/
theorem frame_project_reference (m : (ℓ : Loc Cert.ProjectReferenceIdeal.nD Cert.ProjectReferenceIdeal.τ Cert.ProjectReferenceIdeal.sig) → Buf (Elt Ideal) ℓ) (ρ : Dev Cert.ProjectReferenceIdeal.nD → PrngReg) :
    θ_run (Cert.ProjectReferenceIdeal.defs (F := Ideal)) (onTc (τ := Cert.ProjectReferenceIdeal.τ) (Cert.ProjectReferenceIdeal.main (F := Ideal))) ⟨m, fun _ => 0, ρ⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0) :=
  (θ_run Cert.ProjectReferenceIdeal.defs _ _).mono (fun r h => ⟨fun c => (h c).2.2, Idealize.ShloMosaic.sem_eq_zero_of_no_sems (by decide) r.2⟩) (Cert.ProjectReferenceIdeal.Value.run (F := Ideal) m ρ)

/-- The memory's reference ends with its arguments unchanged and every counter at zero. -/
theorem frame_memory_reference (m : (ℓ : Loc Cert.MemoryReferenceIdeal.nD Cert.MemoryReferenceIdeal.τ Cert.MemoryReferenceIdeal.sig) → Buf (Elt Ideal) ℓ) (ρ : Dev Cert.MemoryReferenceIdeal.nD → PrngReg) :
    θ_run (Cert.MemoryReferenceIdeal.defs (F := Ideal)) (onTc (τ := Cert.MemoryReferenceIdeal.τ) (Cert.MemoryReferenceIdeal.main (F := Ideal))) ⟨m, fun _ => 0, ρ⟩ (fun r => (∀ c : Dev Cert.MemoryReferenceIdeal.nD,
      r.2.mem ((c.tc : Thread Cert.MemoryReferenceIdeal.nD Cert.MemoryReferenceIdeal.τ).loc Cert.MemoryReferenceIdeal.main_arg0) = m ((c.tc : Thread Cert.MemoryReferenceIdeal.nD Cert.MemoryReferenceIdeal.τ).loc Cert.MemoryReferenceIdeal.main_arg0)
      ∧ r.2.mem ((c.tc : Thread Cert.MemoryReferenceIdeal.nD Cert.MemoryReferenceIdeal.τ).loc Cert.MemoryReferenceIdeal.main_arg1) = m ((c.tc : Thread Cert.MemoryReferenceIdeal.nD Cert.MemoryReferenceIdeal.τ).loc Cert.MemoryReferenceIdeal.main_arg1))
      ∧ r.2.sem = fun _ => 0) :=
  (θ_run Cert.MemoryReferenceIdeal.defs _ _).mono (fun r h => ⟨fun c => (h c).2, Idealize.ShloMosaic.sem_eq_zero_of_no_sems (by decide) r.2⟩) (Cert.MemoryReferenceIdeal.Value.run (F := Ideal) m ρ)

/-- The input projection over the extended reals ends with the rows and slabs of its arguments. -/
theorem run_project (m : (ℓ : Loc Cert.ProjectIdeal.nD Cert.ProjectIdeal.τ Cert.ProjectIdeal.sig) → Buf (Elt Ideal) ℓ) (ρ : Dev Cert.ProjectIdeal.nD → PrngReg) :
    θ_run (Cert.ProjectIdeal.defs (F := Ideal)) (onTc (τ := Cert.ProjectIdeal.τ) (Cert.ProjectIdeal.main (F := Ideal))) ⟨m, fun _ => 0, ρ⟩ (fun r => ∀ c : Dev Cert.ProjectIdeal.nD,
      r.2.mem ((c.tc : Thread Cert.ProjectIdeal.nD Cert.ProjectIdeal.τ).loc Cert.ProjectIdeal.main_v8_0) = Cert.Layer.projRows (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1))
      ∧ r.2.mem ((c.tc : Thread Cert.ProjectIdeal.nD Cert.ProjectIdeal.τ).loc Cert.ProjectIdeal.main_v8_1) = Cert.Layer.projSlabs (m ((c.tc : Thread Cert.ProjectIdeal.nD Cert.ProjectIdeal.τ).loc Cert.ProjectIdeal.main_arg0)) (m ((c.tc : Thread Cert.ProjectIdeal.nD Cert.ProjectIdeal.τ).loc Cert.ProjectIdeal.main_arg1))
      ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)) :=
  (θ_run Cert.ProjectIdeal.defs _ _).mono (fun r h c => ⟨(h c).1.trans (Cert.ProjectIdeal.Rows.final_rows m c), (h c).2.1.trans (Cert.ProjectIdeal.Rows.final_slabs m c), (h c).2.2⟩) (Cert.ProjectIdeal.Value.run_blocks m ρ)

/-- The memory's projection over the extended reals ends with the keys and values of its arguments. -/
theorem run_memory (m : (ℓ : Loc Cert.MemoryIdeal.nD Cert.MemoryIdeal.τ Cert.MemoryIdeal.sig) → Buf (Elt Ideal) ℓ) (ρ : Dev Cert.MemoryIdeal.nD → PrngReg) :
    θ_run (Cert.MemoryIdeal.defs (F := Ideal)) (onTc (τ := Cert.MemoryIdeal.τ) (Cert.MemoryIdeal.main (F := Ideal))) ⟨m, fun _ => 0, ρ⟩ (fun r => ∀ c : Dev Cert.MemoryIdeal.nD,
      r.2.mem ((c.tc : Thread Cert.MemoryIdeal.nD Cert.MemoryIdeal.τ).loc Cert.MemoryIdeal.main_v2) = Cert.Layer.memKV (m ((c.tc : Thread Cert.MemoryIdeal.nD Cert.MemoryIdeal.τ).loc Cert.MemoryIdeal.main_arg0)) (m ((c.tc : Thread Cert.MemoryIdeal.nD Cert.MemoryIdeal.τ).loc Cert.MemoryIdeal.main_arg1))
      ∧ r.2.mem ((c.tc : Thread Cert.MemoryIdeal.nD Cert.MemoryIdeal.τ).loc Cert.MemoryIdeal.main_arg0) = m ((c.tc : Thread Cert.MemoryIdeal.nD Cert.MemoryIdeal.τ).loc Cert.MemoryIdeal.main_arg0)
      ∧ r.2.mem ((c.tc : Thread Cert.MemoryIdeal.nD Cert.MemoryIdeal.τ).loc Cert.MemoryIdeal.main_arg1) = m ((c.tc : Thread Cert.MemoryIdeal.nD Cert.MemoryIdeal.τ).loc Cert.MemoryIdeal.main_arg1)) :=
  (θ_run Cert.MemoryIdeal.defs _ _).mono (fun r h c => ⟨(h c).1.trans (Cert.MemoryIdeal.Rows.final m c), (h c).2⟩) (Cert.MemoryIdeal.Value.run_blocks m ρ)

/-- The input projection and its reference over the extended reals end with the same two arrays. -/
theorem algebraic_project : Cert.algebraic_ProjectIdeal_ProjectReferenceIdeal := by
  intro m ρ m' ρ' _ hagree
  refine ⟨_, _, run_project m ρ, ?_⟩
  refine (θ_run Cert.ProjectReferenceIdeal.defs _ _).mono (fun _ h c => ?_) (Cert.ProjectReferenceIdeal.Value.run (F := Ideal) m' ρ')
  obtain ⟨e0, e1⟩ := hagree c
  refine ⟨(h c).1.trans ?_, (h c).2.1.trans ?_, (h c).2.2⟩
  · refine (Cert.ProjectReferenceIdeal.Rows.rows_eq _ _).trans ?_
    rw [← e0, ← e1]
  · refine (Cert.ProjectReferenceIdeal.Rows.slabs_eq _ _).trans ?_
    rw [← e0, ← e1]

/-- The memory's projection and its reference over the extended reals end with the same array. -/
theorem algebraic_memory : Cert.algebraic_MemoryIdeal_MemoryReferenceIdeal := by
  intro m ρ m' ρ' _ hagree
  refine ⟨_, run_memory m ρ, ?_⟩
  refine (θ_run Cert.MemoryReferenceIdeal.defs _ _).mono (fun _ h c => ?_) (Cert.MemoryReferenceIdeal.Value.run (F := Ideal) m' ρ')
  obtain ⟨e0, e1⟩ := hagree c
  refine ⟨(h c).1.trans ?_, (h c).2⟩
  refine (Cert.MemoryReferenceIdeal.Rows.result_eq _ _).trans ?_
  rw [← e0, ← e1]

/-- The retention mixer's reference ends with its argument unchanged and every counter at zero. -/
theorem frame_retention_reference (m : (ℓ : Loc Cert.RetentionReferenceIdeal.nD Cert.RetentionReferenceIdeal.τ Cert.RetentionReferenceIdeal.sig) → Buf (Elt Ideal) ℓ) (ρ : Dev Cert.RetentionReferenceIdeal.nD → PrngReg) :
    θ_run (Cert.RetentionReferenceIdeal.defs (F := Ideal)) (onTc (τ := Cert.RetentionReferenceIdeal.τ) (Cert.RetentionReferenceIdeal.main (F := Ideal))) ⟨m, fun _ => 0, ρ⟩ (fun r => (∀ c : Dev Cert.RetentionReferenceIdeal.nD,
      r.2.mem ((c.tc : Thread Cert.RetentionReferenceIdeal.nD Cert.RetentionReferenceIdeal.τ).loc Cert.RetentionReferenceIdeal.main_arg0) = m ((c.tc : Thread Cert.RetentionReferenceIdeal.nD Cert.RetentionReferenceIdeal.τ).loc Cert.RetentionReferenceIdeal.main_arg0))
      ∧ r.2.sem = fun _ => 0) :=
  (θ_run Cert.RetentionReferenceIdeal.defs _ _).mono (fun r h => ⟨fun c => (h c).2, Idealize.ShloMosaic.sem_eq_zero_of_no_sems (by decide) r.2⟩) (Cert.RetentionReferenceIdeal.Value.run (F := Ideal) m ρ)

/-- The retention mixer over the extended reals ends with the mixed rows of its argument. -/
theorem run_retention (m : (ℓ : Loc Cert.RetentionIdeal.nD Cert.RetentionIdeal.τ Cert.RetentionIdeal.sig) → Buf (Elt Ideal) ℓ) (ρ : Dev Cert.RetentionIdeal.nD → PrngReg) :
    θ_run (Cert.RetentionIdeal.defs (F := Ideal)) (onTc (τ := Cert.RetentionIdeal.τ) (Cert.RetentionIdeal.main (F := Ideal))) ⟨m, fun _ => 0, ρ⟩ (fun r => ∀ c : Dev Cert.RetentionIdeal.nD,
      r.2.mem ((c.tc : Thread Cert.RetentionIdeal.nD Cert.RetentionIdeal.τ).loc Cert.RetentionIdeal.main_v73) = Cert.Layer.mixed (m ((c.tc : Thread Cert.RetentionIdeal.nD Cert.RetentionIdeal.τ).loc Cert.RetentionIdeal.main_arg0))
      ∧ r.2.mem ((c.tc : Thread Cert.RetentionIdeal.nD Cert.RetentionIdeal.τ).loc Cert.RetentionIdeal.main_arg0) = m ((c.tc : Thread Cert.RetentionIdeal.nD Cert.RetentionIdeal.τ).loc Cert.RetentionIdeal.main_arg0)) :=
  (θ_run Cert.RetentionIdeal.defs _ _).mono (fun r h c => ⟨(h c).1.trans (Cert.RetentionIdeal.Mix.final_mixed m c), (h c).2⟩) (Cert.RetentionIdeal.Value.run_blocks m ρ)

/-- The retention mixer and its reference over the extended reals end with the same array. -/
theorem algebraic_retention : Cert.algebraic_RetentionIdeal_RetentionReferenceIdeal := by
  intro m ρ m' ρ' _ hagree
  refine ⟨_, run_retention m ρ, ?_⟩
  refine (θ_run Cert.RetentionReferenceIdeal.defs _ _).mono (fun _ h c => ?_) (Cert.RetentionReferenceIdeal.Value.run (F := Ideal) m' ρ')
  have e0 := hagree c
  refine ⟨(h c).1.trans ?_, (h c).2⟩
  refine (Cert.RetentionReferenceIdeal.Mix.out_mixed m' c).trans ?_
  rw [← e0]

/-- All the claims. -/
theorem claim : Cert.Claim := ⟨Cert.Kernel.Gen.facts, Cert.KernelIdeal.Gen.facts, Cert.ReferenceIdeal.Gen.facts,
  Cert.Project.Gen.facts, Cert.ProjectIdeal.Gen.facts, Cert.ProjectReferenceIdeal.Gen.facts,
  Cert.Memory.Gen.facts, Cert.MemoryIdeal.Gen.facts, Cert.MemoryReferenceIdeal.Gen.facts,
  Cert.Retention.Gen.facts, Cert.RetentionIdeal.Gen.facts, Cert.RetentionReferenceIdeal.Gen.facts,
  fun m ρ _ => Cert.Kernel.Xattn.frame_xattn m ρ,
  fun m ρ _ => Cert.KernelIdeal.Xattn.frame_xattn m ρ,
  fun m ρ _ => frame_reference m ρ,
  fun m ρ _ => Cert.Project.Gen.frame m ρ,
  fun m ρ _ => Cert.ProjectIdeal.Gen.frame m ρ,
  fun m ρ _ => frame_project_reference m ρ,
  fun m ρ _ => Cert.Memory.Gen.frame m ρ,
  fun m ρ _ => Cert.MemoryIdeal.Gen.frame m ρ,
  fun m ρ _ => frame_memory_reference m ρ,
  fun m ρ _ => Cert.Retention.Gen.frame m ρ,
  fun m ρ _ => Cert.RetentionIdeal.Gen.frame m ρ,
  fun m ρ _ => frame_retention_reference m ρ,
  IdealRules.named_const.statement Cert.KernelIdeal.κ "scale" .f32 0x3DB8AA3B#32 (((Real.log 65536)⁻¹ : ℝ) : EReal) rfl,
  algebraic,
  trivial,
  algebraic_project,
  trivial,
  algebraic_memory,
  trivial,
  algebraic_retention⟩

end Cert.Proof

end
